-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v105) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x1024 : Shape := ⟨3, ![1, 256, 1024]⟩
abbrev S1024x1024 : Shape := ⟨2, ![1024, 1024]⟩
abbrev S1x4096x64x128 : Shape := ⟨4, ![1, 4096, 64, 128]⟩
abbrev S4096x2x128 : Shape := ⟨3, ![4096, 2, 128]⟩
abbrev S2 : Shape := ⟨1, ![2]⟩
abbrev S512x1024 : Shape := ⟨2, ![512, 1024]⟩
abbrev S256x1024 : Shape := ⟨2, ![256, 1024]⟩
abbrev S62 : Shape := ⟨1, ![62]⟩
abbrev S_ : Shape := ⟨0, ![]⟩
abbrev S1 : Shape := ⟨1, ![1]⟩
abbrev S1x4096x2x128 : Shape := ⟨4, ![1, 4096, 2, 128]⟩
abbrev S256x128 : Shape := ⟨2, ![256, 128]⟩
abbrev S4096x1x128 : Shape := ⟨3, ![4096, 1, 128]⟩
abbrev S4096x128 : Shape := ⟨2, ![4096, 128]⟩
abbrev S256x4096 : Shape := ⟨2, ![256, 4096]⟩
abbrev S256 : Shape := ⟨1, ![256]⟩
abbrev S256x1 : Shape := ⟨2, ![256, 1]⟩
abbrev S8x1024 : Shape := ⟨2, ![8, 1024]⟩
abbrev S32x8x1024 : Shape := ⟨3, ![32, 8, 1024]⟩
abbrev S1x8x1024 : Shape := ⟨3, ![1, 8, 1024]⟩

abbrev nBuf : Space → Nat
  | .hbm => 6
  | .vmem => 8
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1x4096x64x128, .f32⟩
  | .hbm, ⟨3, _⟩ => ⟨S1x4096x64x128, .f32⟩
  | .hbm, ⟨4, _⟩ => ⟨S1024x1024, .f32⟩
  | .hbm, ⟨5, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1x256x1024, .f32⟩
  | .local _ .vmem, ⟨4, _⟩ => ⟨S4096x2x128, .f32⟩
  | .local _ .vmem, ⟨5, _⟩ => ⟨S4096x2x128, .f32⟩
  | .local _ .vmem, ⟨6, _⟩ => ⟨S512x1024, .bf16⟩
  | .local _ .vmem, ⟨7, _⟩ => ⟨S256x1024, .bf16⟩
  | _, _ => ⟨S1x256x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) : Fin 4 → Nat :=
  let c0_i32_281 : BitVec 32 := 0#32
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_280 : BitVec 32 := 2#32
  let v407 : BitVec 32 := Scalar.muli v2 c2_i32_280
  let c0_i32_284 : BitVec 32 := 0#32
  ![0, 0, v407.toNat, 0]
def k0_mult1 (d0 : Dev nD) : BitVec 32 :=
  let c8_i32_394 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v580 : BitVec 32 := Scalar.muli c8_i32_394 v2
  v580
def k0_mult2 (d0 : Dev nD) : BitVec 32 :=
  let c8_i32_407 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_400 : BitVec 32 := 1#32
  let v588 : BitVec 32 := Scalar.addi v2 c1_i32_400
  let c32_i32_401 : BitVec 32 := 32#32
  let c0_i32_402 : BitVec 32 := 0#32
  let v589 : BitVec 1 := Scalar.cmpi .eq c32_i32_401 c0_i32_402
  let c1_i32_403 : BitVec 32 := 1#32
  let v590 : BitVec 32 := Scalar.select v589 c1_i32_403 c32_i32_401
  let v591 : BitVec 32 := Scalar.remsi v588 v590
  let c0_i32_405 : BitVec 32 := 0#32
  let v593 : BitVec 1 := Scalar.cmpi .slt v591 c0_i32_405
  let c0_i32_406 : BitVec 32 := 0#32
  let v594 : BitVec 1 := Scalar.cmpi .slt v590 c0_i32_406
  let v595 : BitVec 1 := Scalar.xori v593 v594
  let c0_i32_404 : BitVec 32 := 0#32
  let v592 : BitVec 1 := Scalar.cmpi .ne v591 c0_i32_404
  let v596 : BitVec 1 := Scalar.andi v595 v592
  let v597 : BitVec 32 := Scalar.addi v591 v590
  let v598 : BitVec 32 := Scalar.select v596 v597 v591
  let v599 : BitVec 32 := Scalar.muli c8_i32_407 v598
  v599
def k0_mult3 (d0 : Dev nD) : BitVec 32 :=
  let c0_i32_409 : BitVec 32 := 0#32
  let c8_i32_408 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v601 : BitVec 32 := Scalar.muli c8_i32_408 v2
  let v602 : BitVec 32 := Scalar.addi c0_i32_409 v601
  v602
def k0_off2 (d0 : Dev nD) (c0_i32_409 : BitVec 32) : Fin 2 → Nat :=
  let c8_i32_408 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v601 : BitVec 32 := Scalar.muli c8_i32_408 v2
  let v602 : BitVec 32 := Scalar.addi c0_i32_409 v601
  let v603 : BitVec 32 := v602
  let c0_i32_414 : BitVec 32 := 0#32
  ![v603.toNat, 0]
def k0_off3 (d0 : Dev nD) (c1_i32_400 : BitVec 32) : Fin 2 → Nat :=
  let c8_i32_407 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v588 : BitVec 32 := Scalar.addi v2 c1_i32_400
  let c32_i32_401 : BitVec 32 := 32#32
  let c0_i32_402 : BitVec 32 := 0#32
  let v589 : BitVec 1 := Scalar.cmpi .eq c32_i32_401 c0_i32_402
  let c1_i32_403 : BitVec 32 := 1#32
  let v590 : BitVec 32 := Scalar.select v589 c1_i32_403 c32_i32_401
  let v591 : BitVec 32 := Scalar.remsi v588 v590
  let c0_i32_405 : BitVec 32 := 0#32
  let v593 : BitVec 1 := Scalar.cmpi .slt v591 c0_i32_405
  let c0_i32_406 : BitVec 32 := 0#32
  let v594 : BitVec 1 := Scalar.cmpi .slt v590 c0_i32_406
  let v595 : BitVec 1 := Scalar.xori v593 v594
  let c0_i32_404 : BitVec 32 := 0#32
  let v592 : BitVec 1 := Scalar.cmpi .ne v591 c0_i32_404
  let v596 : BitVec 1 := Scalar.andi v595 v592
  let v597 : BitVec 32 := Scalar.addi v591 v590
  let v598 : BitVec 32 := Scalar.select v596 v597 v591
  let v599 : BitVec 32 := Scalar.muli c8_i32_407 v598
  let v600 : BitVec 32 := v599
  let c0_i32_415 : BitVec 32 := 0#32
  ![v600.toNat, 0]
def k0_dev32 (d0 : Dev nD) : Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_400 : BitVec 32 := 1#32
  let v588 : BitVec 32 := Scalar.addi v2 c1_i32_400
  let c32_i32_401 : BitVec 32 := 32#32
  let c0_i32_402 : BitVec 32 := 0#32
  let v589 : BitVec 1 := Scalar.cmpi .eq c32_i32_401 c0_i32_402
  let c1_i32_403 : BitVec 32 := 1#32
  let v590 : BitVec 32 := Scalar.select v589 c1_i32_403 c32_i32_401
  let v591 : BitVec 32 := Scalar.remsi v588 v590
  let c0_i32_405 : BitVec 32 := 0#32
  let v593 : BitVec 1 := Scalar.cmpi .slt v591 c0_i32_405
  let c0_i32_406 : BitVec 32 := 0#32
  let v594 : BitVec 1 := Scalar.cmpi .slt v590 c0_i32_406
  let v595 : BitVec 1 := Scalar.xori v593 v594
  let c0_i32_404 : BitVec 32 := 0#32
  let v592 : BitVec 1 := Scalar.cmpi .ne v591 c0_i32_404
  let v596 : BitVec 1 := Scalar.andi v595 v592
  let v597 : BitVec 32 := Scalar.addi v591 v590
  let v598 : BitVec 32 := Scalar.select v596 v597 v591
  let c1_i32_412 : BitVec 32 := 1#32
  let v604 : BitVec 32 := Scalar.muli v598 c1_i32_412
  let v605 : BitVec 32 := Scalar.addi c0_i32_413 v604
  v605.toNat
def k0_mult4 (d0 : Dev nD) : BitVec 32 :=
  let c8_i32_423 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_416 : BitVec 32 := 2#32
  let v612 : BitVec 32 := Scalar.addi v2 c2_i32_416
  let c32_i32_417 : BitVec 32 := 32#32
  let c0_i32_418 : BitVec 32 := 0#32
  let v613 : BitVec 1 := Scalar.cmpi .eq c32_i32_417 c0_i32_418
  let c1_i32_419 : BitVec 32 := 1#32
  let v614 : BitVec 32 := Scalar.select v613 c1_i32_419 c32_i32_417
  let v615 : BitVec 32 := Scalar.remsi v612 v614
  let c0_i32_421 : BitVec 32 := 0#32
  let v617 : BitVec 1 := Scalar.cmpi .slt v615 c0_i32_421
  let c0_i32_422 : BitVec 32 := 0#32
  let v618 : BitVec 1 := Scalar.cmpi .slt v614 c0_i32_422
  let v619 : BitVec 1 := Scalar.xori v617 v618
  let c0_i32_420 : BitVec 32 := 0#32
  let v616 : BitVec 1 := Scalar.cmpi .ne v615 c0_i32_420
  let v620 : BitVec 1 := Scalar.andi v619 v616
  let v621 : BitVec 32 := Scalar.addi v615 v614
  let v622 : BitVec 32 := Scalar.select v620 v621 v615
  let v623 : BitVec 32 := Scalar.muli c8_i32_423 v622
  v623
def k0_mult5 (d0 : Dev nD) : BitVec 32 :=
  let c0_i32_425 : BitVec 32 := 0#32
  let c8_i32_424 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v625 : BitVec 32 := Scalar.muli c8_i32_424 v2
  let v626 : BitVec 32 := Scalar.addi c0_i32_425 v625
  v626
def k0_dev33 (d0 : Dev nD) : Nat :=
  let c0_i32_429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_416 : BitVec 32 := 2#32
  let v612 : BitVec 32 := Scalar.addi v2 c2_i32_416
  let c32_i32_417 : BitVec 32 := 32#32
  let c0_i32_418 : BitVec 32 := 0#32
  let v613 : BitVec 1 := Scalar.cmpi .eq c32_i32_417 c0_i32_418
  let c1_i32_419 : BitVec 32 := 1#32
  let v614 : BitVec 32 := Scalar.select v613 c1_i32_419 c32_i32_417
  let v615 : BitVec 32 := Scalar.remsi v612 v614
  let c0_i32_421 : BitVec 32 := 0#32
  let v617 : BitVec 1 := Scalar.cmpi .slt v615 c0_i32_421
  let c0_i32_422 : BitVec 32 := 0#32
  let v618 : BitVec 1 := Scalar.cmpi .slt v614 c0_i32_422
  let v619 : BitVec 1 := Scalar.xori v617 v618
  let c0_i32_420 : BitVec 32 := 0#32
  let v616 : BitVec 1 := Scalar.cmpi .ne v615 c0_i32_420
  let v620 : BitVec 1 := Scalar.andi v619 v616
  let v621 : BitVec 32 := Scalar.addi v615 v614
  let v622 : BitVec 32 := Scalar.select v620 v621 v615
  let c1_i32_428 : BitVec 32 := 1#32
  let v628 : BitVec 32 := Scalar.muli v622 c1_i32_428
  let v629 : BitVec 32 := Scalar.addi c0_i32_429 v628
  v629.toNat
def k0_mult6 (d0 : Dev nD) : BitVec 32 :=
  let c8_i32_439 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_432 : BitVec 32 := 3#32
  let v636 : BitVec 32 := Scalar.addi v2 c3_i32_432
  let c32_i32_433 : BitVec 32 := 32#32
  let c0_i32_434 : BitVec 32 := 0#32
  let v637 : BitVec 1 := Scalar.cmpi .eq c32_i32_433 c0_i32_434
  let c1_i32_435 : BitVec 32 := 1#32
  let v638 : BitVec 32 := Scalar.select v637 c1_i32_435 c32_i32_433
  let v639 : BitVec 32 := Scalar.remsi v636 v638
  let c0_i32_437 : BitVec 32 := 0#32
  let v641 : BitVec 1 := Scalar.cmpi .slt v639 c0_i32_437
  let c0_i32_438 : BitVec 32 := 0#32
  let v642 : BitVec 1 := Scalar.cmpi .slt v638 c0_i32_438
  let v643 : BitVec 1 := Scalar.xori v641 v642
  let c0_i32_436 : BitVec 32 := 0#32
  let v640 : BitVec 1 := Scalar.cmpi .ne v639 c0_i32_436
  let v644 : BitVec 1 := Scalar.andi v643 v640
  let v645 : BitVec 32 := Scalar.addi v639 v638
  let v646 : BitVec 32 := Scalar.select v644 v645 v639
  let v647 : BitVec 32 := Scalar.muli c8_i32_439 v646
  v647
def k0_mult7 (d0 : Dev nD) : BitVec 32 :=
  let c0_i32_441 : BitVec 32 := 0#32
  let c8_i32_440 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v649 : BitVec 32 := Scalar.muli c8_i32_440 v2
  let v650 : BitVec 32 := Scalar.addi c0_i32_441 v649
  v650
def k0_dev34 (d0 : Dev nD) : Nat :=
  let c0_i32_445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_432 : BitVec 32 := 3#32
  let v636 : BitVec 32 := Scalar.addi v2 c3_i32_432
  let c32_i32_433 : BitVec 32 := 32#32
  let c0_i32_434 : BitVec 32 := 0#32
  let v637 : BitVec 1 := Scalar.cmpi .eq c32_i32_433 c0_i32_434
  let c1_i32_435 : BitVec 32 := 1#32
  let v638 : BitVec 32 := Scalar.select v637 c1_i32_435 c32_i32_433
  let v639 : BitVec 32 := Scalar.remsi v636 v638
  let c0_i32_437 : BitVec 32 := 0#32
  let v641 : BitVec 1 := Scalar.cmpi .slt v639 c0_i32_437
  let c0_i32_438 : BitVec 32 := 0#32
  let v642 : BitVec 1 := Scalar.cmpi .slt v638 c0_i32_438
  let v643 : BitVec 1 := Scalar.xori v641 v642
  let c0_i32_436 : BitVec 32 := 0#32
  let v640 : BitVec 1 := Scalar.cmpi .ne v639 c0_i32_436
  let v644 : BitVec 1 := Scalar.andi v643 v640
  let v645 : BitVec 32 := Scalar.addi v639 v638
  let v646 : BitVec 32 := Scalar.select v644 v645 v639
  let c1_i32_444 : BitVec 32 := 1#32
  let v652 : BitVec 32 := Scalar.muli v646 c1_i32_444
  let v653 : BitVec 32 := Scalar.addi c0_i32_445 v652
  v653.toNat
def k0_mult8 (d0 : Dev nD) : BitVec 32 :=
  let c8_i32_455 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_448 : BitVec 32 := 4#32
  let v660 : BitVec 32 := Scalar.addi v2 c4_i32_448
  let c32_i32_449 : BitVec 32 := 32#32
  let c0_i32_450 : BitVec 32 := 0#32
  let v661 : BitVec 1 := Scalar.cmpi .eq c32_i32_449 c0_i32_450
  let c1_i32_451 : BitVec 32 := 1#32
  let v662 : BitVec 32 := Scalar.select v661 c1_i32_451 c32_i32_449
  let v663 : BitVec 32 := Scalar.remsi v660 v662
  let c0_i32_453 : BitVec 32 := 0#32
  let v665 : BitVec 1 := Scalar.cmpi .slt v663 c0_i32_453
  let c0_i32_454 : BitVec 32 := 0#32
  let v666 : BitVec 1 := Scalar.cmpi .slt v662 c0_i32_454
  let v667 : BitVec 1 := Scalar.xori v665 v666
  let c0_i32_452 : BitVec 32 := 0#32
  let v664 : BitVec 1 := Scalar.cmpi .ne v663 c0_i32_452
  let v668 : BitVec 1 := Scalar.andi v667 v664
  let v669 : BitVec 32 := Scalar.addi v663 v662
  let v670 : BitVec 32 := Scalar.select v668 v669 v663
  let v671 : BitVec 32 := Scalar.muli c8_i32_455 v670
  v671
def k0_mult9 (d0 : Dev nD) : BitVec 32 :=
  let c0_i32_457 : BitVec 32 := 0#32
  let c8_i32_456 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v673 : BitVec 32 := Scalar.muli c8_i32_456 v2
  let v674 : BitVec 32 := Scalar.addi c0_i32_457 v673
  v674
def k0_dev35 (d0 : Dev nD) : Nat :=
  let c0_i32_461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_448 : BitVec 32 := 4#32
  let v660 : BitVec 32 := Scalar.addi v2 c4_i32_448
  let c32_i32_449 : BitVec 32 := 32#32
  let c0_i32_450 : BitVec 32 := 0#32
  let v661 : BitVec 1 := Scalar.cmpi .eq c32_i32_449 c0_i32_450
  let c1_i32_451 : BitVec 32 := 1#32
  let v662 : BitVec 32 := Scalar.select v661 c1_i32_451 c32_i32_449
  let v663 : BitVec 32 := Scalar.remsi v660 v662
  let c0_i32_453 : BitVec 32 := 0#32
  let v665 : BitVec 1 := Scalar.cmpi .slt v663 c0_i32_453
  let c0_i32_454 : BitVec 32 := 0#32
  let v666 : BitVec 1 := Scalar.cmpi .slt v662 c0_i32_454
  let v667 : BitVec 1 := Scalar.xori v665 v666
  let c0_i32_452 : BitVec 32 := 0#32
  let v664 : BitVec 1 := Scalar.cmpi .ne v663 c0_i32_452
  let v668 : BitVec 1 := Scalar.andi v667 v664
  let v669 : BitVec 32 := Scalar.addi v663 v662
  let v670 : BitVec 32 := Scalar.select v668 v669 v663
  let c1_i32_460 : BitVec 32 := 1#32
  let v676 : BitVec 32 := Scalar.muli v670 c1_i32_460
  let v677 : BitVec 32 := Scalar.addi c0_i32_461 v676
  v677.toNat
def k0_mult10 (d0 : Dev nD) : BitVec 32 :=
  let c8_i32_471 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_464 : BitVec 32 := 5#32
  let v684 : BitVec 32 := Scalar.addi v2 c5_i32_464
  let c32_i32_465 : BitVec 32 := 32#32
  let c0_i32_466 : BitVec 32 := 0#32
  let v685 : BitVec 1 := Scalar.cmpi .eq c32_i32_465 c0_i32_466
  let c1_i32_467 : BitVec 32 := 1#32
  let v686 : BitVec 32 := Scalar.select v685 c1_i32_467 c32_i32_465
  let v687 : BitVec 32 := Scalar.remsi v684 v686
  let c0_i32_469 : BitVec 32 := 0#32
  let v689 : BitVec 1 := Scalar.cmpi .slt v687 c0_i32_469
  let c0_i32_470 : BitVec 32 := 0#32
  let v690 : BitVec 1 := Scalar.cmpi .slt v686 c0_i32_470
  let v691 : BitVec 1 := Scalar.xori v689 v690
  let c0_i32_468 : BitVec 32 := 0#32
  let v688 : BitVec 1 := Scalar.cmpi .ne v687 c0_i32_468
  let v692 : BitVec 1 := Scalar.andi v691 v688
  let v693 : BitVec 32 := Scalar.addi v687 v686
  let v694 : BitVec 32 := Scalar.select v692 v693 v687
  let v695 : BitVec 32 := Scalar.muli c8_i32_471 v694
  v695
def k0_mult11 (d0 : Dev nD) : BitVec 32 :=
  let c0_i32_473 : BitVec 32 := 0#32
  let c8_i32_472 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v697 : BitVec 32 := Scalar.muli c8_i32_472 v2
  let v698 : BitVec 32 := Scalar.addi c0_i32_473 v697
  v698
def k0_dev36 (d0 : Dev nD) : Nat :=
  let c0_i32_477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_464 : BitVec 32 := 5#32
  let v684 : BitVec 32 := Scalar.addi v2 c5_i32_464
  let c32_i32_465 : BitVec 32 := 32#32
  let c0_i32_466 : BitVec 32 := 0#32
  let v685 : BitVec 1 := Scalar.cmpi .eq c32_i32_465 c0_i32_466
  let c1_i32_467 : BitVec 32 := 1#32
  let v686 : BitVec 32 := Scalar.select v685 c1_i32_467 c32_i32_465
  let v687 : BitVec 32 := Scalar.remsi v684 v686
  let c0_i32_469 : BitVec 32 := 0#32
  let v689 : BitVec 1 := Scalar.cmpi .slt v687 c0_i32_469
  let c0_i32_470 : BitVec 32 := 0#32
  let v690 : BitVec 1 := Scalar.cmpi .slt v686 c0_i32_470
  let v691 : BitVec 1 := Scalar.xori v689 v690
  let c0_i32_468 : BitVec 32 := 0#32
  let v688 : BitVec 1 := Scalar.cmpi .ne v687 c0_i32_468
  let v692 : BitVec 1 := Scalar.andi v691 v688
  let v693 : BitVec 32 := Scalar.addi v687 v686
  let v694 : BitVec 32 := Scalar.select v692 v693 v687
  let c1_i32_476 : BitVec 32 := 1#32
  let v700 : BitVec 32 := Scalar.muli v694 c1_i32_476
  let v701 : BitVec 32 := Scalar.addi c0_i32_477 v700
  v701.toNat
def k0_mult12 (d0 : Dev nD) : BitVec 32 :=
  let c8_i32_487 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_480 : BitVec 32 := 6#32
  let v708 : BitVec 32 := Scalar.addi v2 c6_i32_480
  let c32_i32_481 : BitVec 32 := 32#32
  let c0_i32_482 : BitVec 32 := 0#32
  let v709 : BitVec 1 := Scalar.cmpi .eq c32_i32_481 c0_i32_482
  let c1_i32_483 : BitVec 32 := 1#32
  let v710 : BitVec 32 := Scalar.select v709 c1_i32_483 c32_i32_481
  let v711 : BitVec 32 := Scalar.remsi v708 v710
  let c0_i32_485 : BitVec 32 := 0#32
  let v713 : BitVec 1 := Scalar.cmpi .slt v711 c0_i32_485
  let c0_i32_486 : BitVec 32 := 0#32
  let v714 : BitVec 1 := Scalar.cmpi .slt v710 c0_i32_486
  let v715 : BitVec 1 := Scalar.xori v713 v714
  let c0_i32_484 : BitVec 32 := 0#32
  let v712 : BitVec 1 := Scalar.cmpi .ne v711 c0_i32_484
  let v716 : BitVec 1 := Scalar.andi v715 v712
  let v717 : BitVec 32 := Scalar.addi v711 v710
  let v718 : BitVec 32 := Scalar.select v716 v717 v711
  let v719 : BitVec 32 := Scalar.muli c8_i32_487 v718
  v719
def k0_mult13 (d0 : Dev nD) : BitVec 32 :=
  let c0_i32_489 : BitVec 32 := 0#32
  let c8_i32_488 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v721 : BitVec 32 := Scalar.muli c8_i32_488 v2
  let v722 : BitVec 32 := Scalar.addi c0_i32_489 v721
  v722
def k0_dev37 (d0 : Dev nD) : Nat :=
  let c0_i32_493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_480 : BitVec 32 := 6#32
  let v708 : BitVec 32 := Scalar.addi v2 c6_i32_480
  let c32_i32_481 : BitVec 32 := 32#32
  let c0_i32_482 : BitVec 32 := 0#32
  let v709 : BitVec 1 := Scalar.cmpi .eq c32_i32_481 c0_i32_482
  let c1_i32_483 : BitVec 32 := 1#32
  let v710 : BitVec 32 := Scalar.select v709 c1_i32_483 c32_i32_481
  let v711 : BitVec 32 := Scalar.remsi v708 v710
  let c0_i32_485 : BitVec 32 := 0#32
  let v713 : BitVec 1 := Scalar.cmpi .slt v711 c0_i32_485
  let c0_i32_486 : BitVec 32 := 0#32
  let v714 : BitVec 1 := Scalar.cmpi .slt v710 c0_i32_486
  let v715 : BitVec 1 := Scalar.xori v713 v714
  let c0_i32_484 : BitVec 32 := 0#32
  let v712 : BitVec 1 := Scalar.cmpi .ne v711 c0_i32_484
  let v716 : BitVec 1 := Scalar.andi v715 v712
  let v717 : BitVec 32 := Scalar.addi v711 v710
  let v718 : BitVec 32 := Scalar.select v716 v717 v711
  let c1_i32_492 : BitVec 32 := 1#32
  let v724 : BitVec 32 := Scalar.muli v718 c1_i32_492
  let v725 : BitVec 32 := Scalar.addi c0_i32_493 v724
  v725.toNat
def k0_mult14 (d0 : Dev nD) : BitVec 32 :=
  let c8_i32_503 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_496 : BitVec 32 := 7#32
  let v732 : BitVec 32 := Scalar.addi v2 c7_i32_496
  let c32_i32_497 : BitVec 32 := 32#32
  let c0_i32_498 : BitVec 32 := 0#32
  let v733 : BitVec 1 := Scalar.cmpi .eq c32_i32_497 c0_i32_498
  let c1_i32_499 : BitVec 32 := 1#32
  let v734 : BitVec 32 := Scalar.select v733 c1_i32_499 c32_i32_497
  let v735 : BitVec 32 := Scalar.remsi v732 v734
  let c0_i32_501 : BitVec 32 := 0#32
  let v737 : BitVec 1 := Scalar.cmpi .slt v735 c0_i32_501
  let c0_i32_502 : BitVec 32 := 0#32
  let v738 : BitVec 1 := Scalar.cmpi .slt v734 c0_i32_502
  let v739 : BitVec 1 := Scalar.xori v737 v738
  let c0_i32_500 : BitVec 32 := 0#32
  let v736 : BitVec 1 := Scalar.cmpi .ne v735 c0_i32_500
  let v740 : BitVec 1 := Scalar.andi v739 v736
  let v741 : BitVec 32 := Scalar.addi v735 v734
  let v742 : BitVec 32 := Scalar.select v740 v741 v735
  let v743 : BitVec 32 := Scalar.muli c8_i32_503 v742
  v743
def k0_mult15 (d0 : Dev nD) : BitVec 32 :=
  let c0_i32_505 : BitVec 32 := 0#32
  let c8_i32_504 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v745 : BitVec 32 := Scalar.muli c8_i32_504 v2
  let v746 : BitVec 32 := Scalar.addi c0_i32_505 v745
  v746
def k0_dev38 (d0 : Dev nD) : Nat :=
  let c0_i32_509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_496 : BitVec 32 := 7#32
  let v732 : BitVec 32 := Scalar.addi v2 c7_i32_496
  let c32_i32_497 : BitVec 32 := 32#32
  let c0_i32_498 : BitVec 32 := 0#32
  let v733 : BitVec 1 := Scalar.cmpi .eq c32_i32_497 c0_i32_498
  let c1_i32_499 : BitVec 32 := 1#32
  let v734 : BitVec 32 := Scalar.select v733 c1_i32_499 c32_i32_497
  let v735 : BitVec 32 := Scalar.remsi v732 v734
  let c0_i32_501 : BitVec 32 := 0#32
  let v737 : BitVec 1 := Scalar.cmpi .slt v735 c0_i32_501
  let c0_i32_502 : BitVec 32 := 0#32
  let v738 : BitVec 1 := Scalar.cmpi .slt v734 c0_i32_502
  let v739 : BitVec 1 := Scalar.xori v737 v738
  let c0_i32_500 : BitVec 32 := 0#32
  let v736 : BitVec 1 := Scalar.cmpi .ne v735 c0_i32_500
  let v740 : BitVec 1 := Scalar.andi v739 v736
  let v741 : BitVec 32 := Scalar.addi v735 v734
  let v742 : BitVec 32 := Scalar.select v740 v741 v735
  let c1_i32_508 : BitVec 32 := 1#32
  let v748 : BitVec 32 := Scalar.muli v742 c1_i32_508
  let v749 : BitVec 32 := Scalar.addi c0_i32_509 v748
  v749.toNat
def k0_mult16 (d0 : Dev nD) : BitVec 32 :=
  let c8_i32_519 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_512 : BitVec 32 := 8#32
  let v756 : BitVec 32 := Scalar.addi v2 c8_i32_512
  let c32_i32_513 : BitVec 32 := 32#32
  let c0_i32_514 : BitVec 32 := 0#32
  let v757 : BitVec 1 := Scalar.cmpi .eq c32_i32_513 c0_i32_514
  let c1_i32_515 : BitVec 32 := 1#32
  let v758 : BitVec 32 := Scalar.select v757 c1_i32_515 c32_i32_513
  let v759 : BitVec 32 := Scalar.remsi v756 v758
  let c0_i32_517 : BitVec 32 := 0#32
  let v761 : BitVec 1 := Scalar.cmpi .slt v759 c0_i32_517
  let c0_i32_518 : BitVec 32 := 0#32
  let v762 : BitVec 1 := Scalar.cmpi .slt v758 c0_i32_518
  let v763 : BitVec 1 := Scalar.xori v761 v762
  let c0_i32_516 : BitVec 32 := 0#32
  let v760 : BitVec 1 := Scalar.cmpi .ne v759 c0_i32_516
  let v764 : BitVec 1 := Scalar.andi v763 v760
  let v765 : BitVec 32 := Scalar.addi v759 v758
  let v766 : BitVec 32 := Scalar.select v764 v765 v759
  let v767 : BitVec 32 := Scalar.muli c8_i32_519 v766
  v767
def k0_mult17 (d0 : Dev nD) : BitVec 32 :=
  let c0_i32_521 : BitVec 32 := 0#32
  let c8_i32_520 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v769 : BitVec 32 := Scalar.muli c8_i32_520 v2
  let v770 : BitVec 32 := Scalar.addi c0_i32_521 v769
  v770
def k0_dev39 (d0 : Dev nD) : Nat :=
  let c0_i32_525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_512 : BitVec 32 := 8#32
  let v756 : BitVec 32 := Scalar.addi v2 c8_i32_512
  let c32_i32_513 : BitVec 32 := 32#32
  let c0_i32_514 : BitVec 32 := 0#32
  let v757 : BitVec 1 := Scalar.cmpi .eq c32_i32_513 c0_i32_514
  let c1_i32_515 : BitVec 32 := 1#32
  let v758 : BitVec 32 := Scalar.select v757 c1_i32_515 c32_i32_513
  let v759 : BitVec 32 := Scalar.remsi v756 v758
  let c0_i32_517 : BitVec 32 := 0#32
  let v761 : BitVec 1 := Scalar.cmpi .slt v759 c0_i32_517
  let c0_i32_518 : BitVec 32 := 0#32
  let v762 : BitVec 1 := Scalar.cmpi .slt v758 c0_i32_518
  let v763 : BitVec 1 := Scalar.xori v761 v762
  let c0_i32_516 : BitVec 32 := 0#32
  let v760 : BitVec 1 := Scalar.cmpi .ne v759 c0_i32_516
  let v764 : BitVec 1 := Scalar.andi v763 v760
  let v765 : BitVec 32 := Scalar.addi v759 v758
  let v766 : BitVec 32 := Scalar.select v764 v765 v759
  let c1_i32_524 : BitVec 32 := 1#32
  let v772 : BitVec 32 := Scalar.muli v766 c1_i32_524
  let v773 : BitVec 32 := Scalar.addi c0_i32_525 v772
  v773.toNat
def k0_mult18 (d0 : Dev nD) : BitVec 32 :=
  let c8_i32_535 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_528 : BitVec 32 := 9#32
  let v780 : BitVec 32 := Scalar.addi v2 c9_i32_528
  let c32_i32_529 : BitVec 32 := 32#32
  let c0_i32_530 : BitVec 32 := 0#32
  let v781 : BitVec 1 := Scalar.cmpi .eq c32_i32_529 c0_i32_530
  let c1_i32_531 : BitVec 32 := 1#32
  let v782 : BitVec 32 := Scalar.select v781 c1_i32_531 c32_i32_529
  let v783 : BitVec 32 := Scalar.remsi v780 v782
  let c0_i32_533 : BitVec 32 := 0#32
  let v785 : BitVec 1 := Scalar.cmpi .slt v783 c0_i32_533
  let c0_i32_534 : BitVec 32 := 0#32
  let v786 : BitVec 1 := Scalar.cmpi .slt v782 c0_i32_534
  let v787 : BitVec 1 := Scalar.xori v785 v786
  let c0_i32_532 : BitVec 32 := 0#32
  let v784 : BitVec 1 := Scalar.cmpi .ne v783 c0_i32_532
  let v788 : BitVec 1 := Scalar.andi v787 v784
  let v789 : BitVec 32 := Scalar.addi v783 v782
  let v790 : BitVec 32 := Scalar.select v788 v789 v783
  let v791 : BitVec 32 := Scalar.muli c8_i32_535 v790
  v791
def k0_mult19 (d0 : Dev nD) : BitVec 32 :=
  let c0_i32_537 : BitVec 32 := 0#32
  let c8_i32_536 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v793 : BitVec 32 := Scalar.muli c8_i32_536 v2
  let v794 : BitVec 32 := Scalar.addi c0_i32_537 v793
  v794
def k0_dev40 (d0 : Dev nD) : Nat :=
  let c0_i32_541 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_528 : BitVec 32 := 9#32
  let v780 : BitVec 32 := Scalar.addi v2 c9_i32_528
  let c32_i32_529 : BitVec 32 := 32#32
  let c0_i32_530 : BitVec 32 := 0#32
  let v781 : BitVec 1 := Scalar.cmpi .eq c32_i32_529 c0_i32_530
  let c1_i32_531 : BitVec 32 := 1#32
  let v782 : BitVec 32 := Scalar.select v781 c1_i32_531 c32_i32_529
  let v783 : BitVec 32 := Scalar.remsi v780 v782
  let c0_i32_533 : BitVec 32 := 0#32
  let v785 : BitVec 1 := Scalar.cmpi .slt v783 c0_i32_533
  let c0_i32_534 : BitVec 32 := 0#32
  let v786 : BitVec 1 := Scalar.cmpi .slt v782 c0_i32_534
  let v787 : BitVec 1 := Scalar.xori v785 v786
  let c0_i32_532 : BitVec 32 := 0#32
  let v784 : BitVec 1 := Scalar.cmpi .ne v783 c0_i32_532
  let v788 : BitVec 1 := Scalar.andi v787 v784
  let v789 : BitVec 32 := Scalar.addi v783 v782
  let v790 : BitVec 32 := Scalar.select v788 v789 v783
  let c1_i32_540 : BitVec 32 := 1#32
  let v796 : BitVec 32 := Scalar.muli v790 c1_i32_540
  let v797 : BitVec 32 := Scalar.addi c0_i32_541 v796
  v797.toNat
def k0_mult20 (d0 : Dev nD) : BitVec 32 :=
  let c8_i32_551 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_544 : BitVec 32 := 10#32
  let v804 : BitVec 32 := Scalar.addi v2 c10_i32_544
  let c32_i32_545 : BitVec 32 := 32#32
  let c0_i32_546 : BitVec 32 := 0#32
  let v805 : BitVec 1 := Scalar.cmpi .eq c32_i32_545 c0_i32_546
  let c1_i32_547 : BitVec 32 := 1#32
  let v806 : BitVec 32 := Scalar.select v805 c1_i32_547 c32_i32_545
  let v807 : BitVec 32 := Scalar.remsi v804 v806
  let c0_i32_549 : BitVec 32 := 0#32
  let v809 : BitVec 1 := Scalar.cmpi .slt v807 c0_i32_549
  let c0_i32_550 : BitVec 32 := 0#32
  let v810 : BitVec 1 := Scalar.cmpi .slt v806 c0_i32_550
  let v811 : BitVec 1 := Scalar.xori v809 v810
  let c0_i32_548 : BitVec 32 := 0#32
  let v808 : BitVec 1 := Scalar.cmpi .ne v807 c0_i32_548
  let v812 : BitVec 1 := Scalar.andi v811 v808
  let v813 : BitVec 32 := Scalar.addi v807 v806
  let v814 : BitVec 32 := Scalar.select v812 v813 v807
  let v815 : BitVec 32 := Scalar.muli c8_i32_551 v814
  v815
def k0_mult21 (d0 : Dev nD) : BitVec 32 :=
  let c0_i32_553 : BitVec 32 := 0#32
  let c8_i32_552 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v817 : BitVec 32 := Scalar.muli c8_i32_552 v2
  let v818 : BitVec 32 := Scalar.addi c0_i32_553 v817
  v818
def k0_dev41 (d0 : Dev nD) : Nat :=
  let c0_i32_557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_544 : BitVec 32 := 10#32
  let v804 : BitVec 32 := Scalar.addi v2 c10_i32_544
  let c32_i32_545 : BitVec 32 := 32#32
  let c0_i32_546 : BitVec 32 := 0#32
  let v805 : BitVec 1 := Scalar.cmpi .eq c32_i32_545 c0_i32_546
  let c1_i32_547 : BitVec 32 := 1#32
  let v806 : BitVec 32 := Scalar.select v805 c1_i32_547 c32_i32_545
  let v807 : BitVec 32 := Scalar.remsi v804 v806
  let c0_i32_549 : BitVec 32 := 0#32
  let v809 : BitVec 1 := Scalar.cmpi .slt v807 c0_i32_549
  let c0_i32_550 : BitVec 32 := 0#32
  let v810 : BitVec 1 := Scalar.cmpi .slt v806 c0_i32_550
  let v811 : BitVec 1 := Scalar.xori v809 v810
  let c0_i32_548 : BitVec 32 := 0#32
  let v808 : BitVec 1 := Scalar.cmpi .ne v807 c0_i32_548
  let v812 : BitVec 1 := Scalar.andi v811 v808
  let v813 : BitVec 32 := Scalar.addi v807 v806
  let v814 : BitVec 32 := Scalar.select v812 v813 v807
  let c1_i32_556 : BitVec 32 := 1#32
  let v820 : BitVec 32 := Scalar.muli v814 c1_i32_556
  let v821 : BitVec 32 := Scalar.addi c0_i32_557 v820
  v821.toNat
def k0_mult22 (d0 : Dev nD) : BitVec 32 :=
  let c8_i32_567 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_560 : BitVec 32 := 11#32
  let v828 : BitVec 32 := Scalar.addi v2 c11_i32_560
  let c32_i32_561 : BitVec 32 := 32#32
  let c0_i32_562 : BitVec 32 := 0#32
  let v829 : BitVec 1 := Scalar.cmpi .eq c32_i32_561 c0_i32_562
  let c1_i32_563 : BitVec 32 := 1#32
  let v830 : BitVec 32 := Scalar.select v829 c1_i32_563 c32_i32_561
  let v831 : BitVec 32 := Scalar.remsi v828 v830
  let c0_i32_565 : BitVec 32 := 0#32
  let v833 : BitVec 1 := Scalar.cmpi .slt v831 c0_i32_565
  let c0_i32_566 : BitVec 32 := 0#32
  let v834 : BitVec 1 := Scalar.cmpi .slt v830 c0_i32_566
  let v835 : BitVec 1 := Scalar.xori v833 v834
  let c0_i32_564 : BitVec 32 := 0#32
  let v832 : BitVec 1 := Scalar.cmpi .ne v831 c0_i32_564
  let v836 : BitVec 1 := Scalar.andi v835 v832
  let v837 : BitVec 32 := Scalar.addi v831 v830
  let v838 : BitVec 32 := Scalar.select v836 v837 v831
  let v839 : BitVec 32 := Scalar.muli c8_i32_567 v838
  v839
def k0_mult23 (d0 : Dev nD) : BitVec 32 :=
  let c0_i32_569 : BitVec 32 := 0#32
  let c8_i32_568 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v841 : BitVec 32 := Scalar.muli c8_i32_568 v2
  let v842 : BitVec 32 := Scalar.addi c0_i32_569 v841
  v842
def k0_dev42 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_560 : BitVec 32 := 11#32
  let v828 : BitVec 32 := Scalar.addi v2 c11_i32_560
  let c32_i32_561 : BitVec 32 := 32#32
  let c0_i32_562 : BitVec 32 := 0#32
  let v829 : BitVec 1 := Scalar.cmpi .eq c32_i32_561 c0_i32_562
  let c1_i32_563 : BitVec 32 := 1#32
  let v830 : BitVec 32 := Scalar.select v829 c1_i32_563 c32_i32_561
  let v831 : BitVec 32 := Scalar.remsi v828 v830
  let c0_i32_565 : BitVec 32 := 0#32
  let v833 : BitVec 1 := Scalar.cmpi .slt v831 c0_i32_565
  let c0_i32_566 : BitVec 32 := 0#32
  let v834 : BitVec 1 := Scalar.cmpi .slt v830 c0_i32_566
  let v835 : BitVec 1 := Scalar.xori v833 v834
  let c0_i32_564 : BitVec 32 := 0#32
  let v832 : BitVec 1 := Scalar.cmpi .ne v831 c0_i32_564
  let v836 : BitVec 1 := Scalar.andi v835 v832
  let v837 : BitVec 32 := Scalar.addi v831 v830
  let v838 : BitVec 32 := Scalar.select v836 v837 v831
  let c1_i32_572 : BitVec 32 := 1#32
  let v844 : BitVec 32 := Scalar.muli v838 c1_i32_572
  let v845 : BitVec 32 := Scalar.addi c0_i32_573 v844
  v845.toNat
def k0_mult24 (d0 : Dev nD) : BitVec 32 :=
  let c8_i32_583 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_576 : BitVec 32 := 12#32
  let v852 : BitVec 32 := Scalar.addi v2 c12_i32_576
  let c32_i32_577 : BitVec 32 := 32#32
  let c0_i32_578 : BitVec 32 := 0#32
  let v853 : BitVec 1 := Scalar.cmpi .eq c32_i32_577 c0_i32_578
  let c1_i32_579 : BitVec 32 := 1#32
  let v854 : BitVec 32 := Scalar.select v853 c1_i32_579 c32_i32_577
  let v855 : BitVec 32 := Scalar.remsi v852 v854
  let c0_i32_581 : BitVec 32 := 0#32
  let v857 : BitVec 1 := Scalar.cmpi .slt v855 c0_i32_581
  let c0_i32_582 : BitVec 32 := 0#32
  let v858 : BitVec 1 := Scalar.cmpi .slt v854 c0_i32_582
  let v859 : BitVec 1 := Scalar.xori v857 v858
  let c0_i32_580 : BitVec 32 := 0#32
  let v856 : BitVec 1 := Scalar.cmpi .ne v855 c0_i32_580
  let v860 : BitVec 1 := Scalar.andi v859 v856
  let v861 : BitVec 32 := Scalar.addi v855 v854
  let v862 : BitVec 32 := Scalar.select v860 v861 v855
  let v863 : BitVec 32 := Scalar.muli c8_i32_583 v862
  v863
def k0_mult25 (d0 : Dev nD) : BitVec 32 :=
  let c0_i32_585 : BitVec 32 := 0#32
  let c8_i32_584 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v865 : BitVec 32 := Scalar.muli c8_i32_584 v2
  let v866 : BitVec 32 := Scalar.addi c0_i32_585 v865
  v866
def k0_dev43 (d0 : Dev nD) : Nat :=
  let c0_i32_589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_576 : BitVec 32 := 12#32
  let v852 : BitVec 32 := Scalar.addi v2 c12_i32_576
  let c32_i32_577 : BitVec 32 := 32#32
  let c0_i32_578 : BitVec 32 := 0#32
  let v853 : BitVec 1 := Scalar.cmpi .eq c32_i32_577 c0_i32_578
  let c1_i32_579 : BitVec 32 := 1#32
  let v854 : BitVec 32 := Scalar.select v853 c1_i32_579 c32_i32_577
  let v855 : BitVec 32 := Scalar.remsi v852 v854
  let c0_i32_581 : BitVec 32 := 0#32
  let v857 : BitVec 1 := Scalar.cmpi .slt v855 c0_i32_581
  let c0_i32_582 : BitVec 32 := 0#32
  let v858 : BitVec 1 := Scalar.cmpi .slt v854 c0_i32_582
  let v859 : BitVec 1 := Scalar.xori v857 v858
  let c0_i32_580 : BitVec 32 := 0#32
  let v856 : BitVec 1 := Scalar.cmpi .ne v855 c0_i32_580
  let v860 : BitVec 1 := Scalar.andi v859 v856
  let v861 : BitVec 32 := Scalar.addi v855 v854
  let v862 : BitVec 32 := Scalar.select v860 v861 v855
  let c1_i32_588 : BitVec 32 := 1#32
  let v868 : BitVec 32 := Scalar.muli v862 c1_i32_588
  let v869 : BitVec 32 := Scalar.addi c0_i32_589 v868
  v869.toNat
def k0_mult26 (d0 : Dev nD) : BitVec 32 :=
  let c8_i32_599 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_592 : BitVec 32 := 13#32
  let v876 : BitVec 32 := Scalar.addi v2 c13_i32_592
  let c32_i32_593 : BitVec 32 := 32#32
  let c0_i32_594 : BitVec 32 := 0#32
  let v877 : BitVec 1 := Scalar.cmpi .eq c32_i32_593 c0_i32_594
  let c1_i32_595 : BitVec 32 := 1#32
  let v878 : BitVec 32 := Scalar.select v877 c1_i32_595 c32_i32_593
  let v879 : BitVec 32 := Scalar.remsi v876 v878
  let c0_i32_597 : BitVec 32 := 0#32
  let v881 : BitVec 1 := Scalar.cmpi .slt v879 c0_i32_597
  let c0_i32_598 : BitVec 32 := 0#32
  let v882 : BitVec 1 := Scalar.cmpi .slt v878 c0_i32_598
  let v883 : BitVec 1 := Scalar.xori v881 v882
  let c0_i32_596 : BitVec 32 := 0#32
  let v880 : BitVec 1 := Scalar.cmpi .ne v879 c0_i32_596
  let v884 : BitVec 1 := Scalar.andi v883 v880
  let v885 : BitVec 32 := Scalar.addi v879 v878
  let v886 : BitVec 32 := Scalar.select v884 v885 v879
  let v887 : BitVec 32 := Scalar.muli c8_i32_599 v886
  v887
def k0_mult27 (d0 : Dev nD) : BitVec 32 :=
  let c0_i32_601 : BitVec 32 := 0#32
  let c8_i32_600 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v889 : BitVec 32 := Scalar.muli c8_i32_600 v2
  let v890 : BitVec 32 := Scalar.addi c0_i32_601 v889
  v890
def k0_dev44 (d0 : Dev nD) : Nat :=
  let c0_i32_605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_592 : BitVec 32 := 13#32
  let v876 : BitVec 32 := Scalar.addi v2 c13_i32_592
  let c32_i32_593 : BitVec 32 := 32#32
  let c0_i32_594 : BitVec 32 := 0#32
  let v877 : BitVec 1 := Scalar.cmpi .eq c32_i32_593 c0_i32_594
  let c1_i32_595 : BitVec 32 := 1#32
  let v878 : BitVec 32 := Scalar.select v877 c1_i32_595 c32_i32_593
  let v879 : BitVec 32 := Scalar.remsi v876 v878
  let c0_i32_597 : BitVec 32 := 0#32
  let v881 : BitVec 1 := Scalar.cmpi .slt v879 c0_i32_597
  let c0_i32_598 : BitVec 32 := 0#32
  let v882 : BitVec 1 := Scalar.cmpi .slt v878 c0_i32_598
  let v883 : BitVec 1 := Scalar.xori v881 v882
  let c0_i32_596 : BitVec 32 := 0#32
  let v880 : BitVec 1 := Scalar.cmpi .ne v879 c0_i32_596
  let v884 : BitVec 1 := Scalar.andi v883 v880
  let v885 : BitVec 32 := Scalar.addi v879 v878
  let v886 : BitVec 32 := Scalar.select v884 v885 v879
  let c1_i32_604 : BitVec 32 := 1#32
  let v892 : BitVec 32 := Scalar.muli v886 c1_i32_604
  let v893 : BitVec 32 := Scalar.addi c0_i32_605 v892
  v893.toNat
def k0_mult28 (d0 : Dev nD) : BitVec 32 :=
  let c8_i32_615 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_608 : BitVec 32 := 14#32
  let v900 : BitVec 32 := Scalar.addi v2 c14_i32_608
  let c32_i32_609 : BitVec 32 := 32#32
  let c0_i32_610 : BitVec 32 := 0#32
  let v901 : BitVec 1 := Scalar.cmpi .eq c32_i32_609 c0_i32_610
  let c1_i32_611 : BitVec 32 := 1#32
  let v902 : BitVec 32 := Scalar.select v901 c1_i32_611 c32_i32_609
  let v903 : BitVec 32 := Scalar.remsi v900 v902
  let c0_i32_613 : BitVec 32 := 0#32
  let v905 : BitVec 1 := Scalar.cmpi .slt v903 c0_i32_613
  let c0_i32_614 : BitVec 32 := 0#32
  let v906 : BitVec 1 := Scalar.cmpi .slt v902 c0_i32_614
  let v907 : BitVec 1 := Scalar.xori v905 v906
  let c0_i32_612 : BitVec 32 := 0#32
  let v904 : BitVec 1 := Scalar.cmpi .ne v903 c0_i32_612
  let v908 : BitVec 1 := Scalar.andi v907 v904
  let v909 : BitVec 32 := Scalar.addi v903 v902
  let v910 : BitVec 32 := Scalar.select v908 v909 v903
  let v911 : BitVec 32 := Scalar.muli c8_i32_615 v910
  v911
def k0_mult29 (d0 : Dev nD) : BitVec 32 :=
  let c0_i32_617 : BitVec 32 := 0#32
  let c8_i32_616 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v913 : BitVec 32 := Scalar.muli c8_i32_616 v2
  let v914 : BitVec 32 := Scalar.addi c0_i32_617 v913
  v914
def k0_dev45 (d0 : Dev nD) : Nat :=
  let c0_i32_621 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_608 : BitVec 32 := 14#32
  let v900 : BitVec 32 := Scalar.addi v2 c14_i32_608
  let c32_i32_609 : BitVec 32 := 32#32
  let c0_i32_610 : BitVec 32 := 0#32
  let v901 : BitVec 1 := Scalar.cmpi .eq c32_i32_609 c0_i32_610
  let c1_i32_611 : BitVec 32 := 1#32
  let v902 : BitVec 32 := Scalar.select v901 c1_i32_611 c32_i32_609
  let v903 : BitVec 32 := Scalar.remsi v900 v902
  let c0_i32_613 : BitVec 32 := 0#32
  let v905 : BitVec 1 := Scalar.cmpi .slt v903 c0_i32_613
  let c0_i32_614 : BitVec 32 := 0#32
  let v906 : BitVec 1 := Scalar.cmpi .slt v902 c0_i32_614
  let v907 : BitVec 1 := Scalar.xori v905 v906
  let c0_i32_612 : BitVec 32 := 0#32
  let v904 : BitVec 1 := Scalar.cmpi .ne v903 c0_i32_612
  let v908 : BitVec 1 := Scalar.andi v907 v904
  let v909 : BitVec 32 := Scalar.addi v903 v902
  let v910 : BitVec 32 := Scalar.select v908 v909 v903
  let c1_i32_620 : BitVec 32 := 1#32
  let v916 : BitVec 32 := Scalar.muli v910 c1_i32_620
  let v917 : BitVec 32 := Scalar.addi c0_i32_621 v916
  v917.toNat
def k0_mult30 (d0 : Dev nD) : BitVec 32 :=
  let c8_i32_631 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_624 : BitVec 32 := 15#32
  let v924 : BitVec 32 := Scalar.addi v2 c15_i32_624
  let c32_i32_625 : BitVec 32 := 32#32
  let c0_i32_626 : BitVec 32 := 0#32
  let v925 : BitVec 1 := Scalar.cmpi .eq c32_i32_625 c0_i32_626
  let c1_i32_627 : BitVec 32 := 1#32
  let v926 : BitVec 32 := Scalar.select v925 c1_i32_627 c32_i32_625
  let v927 : BitVec 32 := Scalar.remsi v924 v926
  let c0_i32_629 : BitVec 32 := 0#32
  let v929 : BitVec 1 := Scalar.cmpi .slt v927 c0_i32_629
  let c0_i32_630 : BitVec 32 := 0#32
  let v930 : BitVec 1 := Scalar.cmpi .slt v926 c0_i32_630
  let v931 : BitVec 1 := Scalar.xori v929 v930
  let c0_i32_628 : BitVec 32 := 0#32
  let v928 : BitVec 1 := Scalar.cmpi .ne v927 c0_i32_628
  let v932 : BitVec 1 := Scalar.andi v931 v928
  let v933 : BitVec 32 := Scalar.addi v927 v926
  let v934 : BitVec 32 := Scalar.select v932 v933 v927
  let v935 : BitVec 32 := Scalar.muli c8_i32_631 v934
  v935
def k0_mult31 (d0 : Dev nD) : BitVec 32 :=
  let c0_i32_633 : BitVec 32 := 0#32
  let c8_i32_632 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v937 : BitVec 32 := Scalar.muli c8_i32_632 v2
  let v938 : BitVec 32 := Scalar.addi c0_i32_633 v937
  v938
def k0_dev46 (d0 : Dev nD) : Nat :=
  let c0_i32_637 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_624 : BitVec 32 := 15#32
  let v924 : BitVec 32 := Scalar.addi v2 c15_i32_624
  let c32_i32_625 : BitVec 32 := 32#32
  let c0_i32_626 : BitVec 32 := 0#32
  let v925 : BitVec 1 := Scalar.cmpi .eq c32_i32_625 c0_i32_626
  let c1_i32_627 : BitVec 32 := 1#32
  let v926 : BitVec 32 := Scalar.select v925 c1_i32_627 c32_i32_625
  let v927 : BitVec 32 := Scalar.remsi v924 v926
  let c0_i32_629 : BitVec 32 := 0#32
  let v929 : BitVec 1 := Scalar.cmpi .slt v927 c0_i32_629
  let c0_i32_630 : BitVec 32 := 0#32
  let v930 : BitVec 1 := Scalar.cmpi .slt v926 c0_i32_630
  let v931 : BitVec 1 := Scalar.xori v929 v930
  let c0_i32_628 : BitVec 32 := 0#32
  let v928 : BitVec 1 := Scalar.cmpi .ne v927 c0_i32_628
  let v932 : BitVec 1 := Scalar.andi v931 v928
  let v933 : BitVec 32 := Scalar.addi v927 v926
  let v934 : BitVec 32 := Scalar.select v932 v933 v927
  let c1_i32_636 : BitVec 32 := 1#32
  let v940 : BitVec 32 := Scalar.muli v934 c1_i32_636
  let v941 : BitVec 32 := Scalar.addi c0_i32_637 v940
  v941.toNat
def k0_mult32 (d0 : Dev nD) : BitVec 32 :=
  let c8_i32_647 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_640 : BitVec 32 := 16#32
  let v948 : BitVec 32 := Scalar.addi v2 c16_i32_640
  let c32_i32_641 : BitVec 32 := 32#32
  let c0_i32_642 : BitVec 32 := 0#32
  let v949 : BitVec 1 := Scalar.cmpi .eq c32_i32_641 c0_i32_642
  let c1_i32_643 : BitVec 32 := 1#32
  let v950 : BitVec 32 := Scalar.select v949 c1_i32_643 c32_i32_641
  let v951 : BitVec 32 := Scalar.remsi v948 v950
  let c0_i32_645 : BitVec 32 := 0#32
  let v953 : BitVec 1 := Scalar.cmpi .slt v951 c0_i32_645
  let c0_i32_646 : BitVec 32 := 0#32
  let v954 : BitVec 1 := Scalar.cmpi .slt v950 c0_i32_646
  let v955 : BitVec 1 := Scalar.xori v953 v954
  let c0_i32_644 : BitVec 32 := 0#32
  let v952 : BitVec 1 := Scalar.cmpi .ne v951 c0_i32_644
  let v956 : BitVec 1 := Scalar.andi v955 v952
  let v957 : BitVec 32 := Scalar.addi v951 v950
  let v958 : BitVec 32 := Scalar.select v956 v957 v951
  let v959 : BitVec 32 := Scalar.muli c8_i32_647 v958
  v959
def k0_mult33 (d0 : Dev nD) : BitVec 32 :=
  let c0_i32_649 : BitVec 32 := 0#32
  let c8_i32_648 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v961 : BitVec 32 := Scalar.muli c8_i32_648 v2
  let v962 : BitVec 32 := Scalar.addi c0_i32_649 v961
  v962
def k0_dev47 (d0 : Dev nD) : Nat :=
  let c0_i32_653 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_640 : BitVec 32 := 16#32
  let v948 : BitVec 32 := Scalar.addi v2 c16_i32_640
  let c32_i32_641 : BitVec 32 := 32#32
  let c0_i32_642 : BitVec 32 := 0#32
  let v949 : BitVec 1 := Scalar.cmpi .eq c32_i32_641 c0_i32_642
  let c1_i32_643 : BitVec 32 := 1#32
  let v950 : BitVec 32 := Scalar.select v949 c1_i32_643 c32_i32_641
  let v951 : BitVec 32 := Scalar.remsi v948 v950
  let c0_i32_645 : BitVec 32 := 0#32
  let v953 : BitVec 1 := Scalar.cmpi .slt v951 c0_i32_645
  let c0_i32_646 : BitVec 32 := 0#32
  let v954 : BitVec 1 := Scalar.cmpi .slt v950 c0_i32_646
  let v955 : BitVec 1 := Scalar.xori v953 v954
  let c0_i32_644 : BitVec 32 := 0#32
  let v952 : BitVec 1 := Scalar.cmpi .ne v951 c0_i32_644
  let v956 : BitVec 1 := Scalar.andi v955 v952
  let v957 : BitVec 32 := Scalar.addi v951 v950
  let v958 : BitVec 32 := Scalar.select v956 v957 v951
  let c1_i32_652 : BitVec 32 := 1#32
  let v964 : BitVec 32 := Scalar.muli v958 c1_i32_652
  let v965 : BitVec 32 := Scalar.addi c0_i32_653 v964
  v965.toNat
def k0_mult34 (d0 : Dev nD) : BitVec 32 :=
  let c8_i32_663 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_656 : BitVec 32 := 17#32
  let v972 : BitVec 32 := Scalar.addi v2 c17_i32_656
  let c32_i32_657 : BitVec 32 := 32#32
  let c0_i32_658 : BitVec 32 := 0#32
  let v973 : BitVec 1 := Scalar.cmpi .eq c32_i32_657 c0_i32_658
  let c1_i32_659 : BitVec 32 := 1#32
  let v974 : BitVec 32 := Scalar.select v973 c1_i32_659 c32_i32_657
  let v975 : BitVec 32 := Scalar.remsi v972 v974
  let c0_i32_661 : BitVec 32 := 0#32
  let v977 : BitVec 1 := Scalar.cmpi .slt v975 c0_i32_661
  let c0_i32_662 : BitVec 32 := 0#32
  let v978 : BitVec 1 := Scalar.cmpi .slt v974 c0_i32_662
  let v979 : BitVec 1 := Scalar.xori v977 v978
  let c0_i32_660 : BitVec 32 := 0#32
  let v976 : BitVec 1 := Scalar.cmpi .ne v975 c0_i32_660
  let v980 : BitVec 1 := Scalar.andi v979 v976
  let v981 : BitVec 32 := Scalar.addi v975 v974
  let v982 : BitVec 32 := Scalar.select v980 v981 v975
  let v983 : BitVec 32 := Scalar.muli c8_i32_663 v982
  v983
def k0_mult35 (d0 : Dev nD) : BitVec 32 :=
  let c0_i32_665 : BitVec 32 := 0#32
  let c8_i32_664 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v985 : BitVec 32 := Scalar.muli c8_i32_664 v2
  let v986 : BitVec 32 := Scalar.addi c0_i32_665 v985
  v986
def k0_dev48 (d0 : Dev nD) : Nat :=
  let c0_i32_669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_656 : BitVec 32 := 17#32
  let v972 : BitVec 32 := Scalar.addi v2 c17_i32_656
  let c32_i32_657 : BitVec 32 := 32#32
  let c0_i32_658 : BitVec 32 := 0#32
  let v973 : BitVec 1 := Scalar.cmpi .eq c32_i32_657 c0_i32_658
  let c1_i32_659 : BitVec 32 := 1#32
  let v974 : BitVec 32 := Scalar.select v973 c1_i32_659 c32_i32_657
  let v975 : BitVec 32 := Scalar.remsi v972 v974
  let c0_i32_661 : BitVec 32 := 0#32
  let v977 : BitVec 1 := Scalar.cmpi .slt v975 c0_i32_661
  let c0_i32_662 : BitVec 32 := 0#32
  let v978 : BitVec 1 := Scalar.cmpi .slt v974 c0_i32_662
  let v979 : BitVec 1 := Scalar.xori v977 v978
  let c0_i32_660 : BitVec 32 := 0#32
  let v976 : BitVec 1 := Scalar.cmpi .ne v975 c0_i32_660
  let v980 : BitVec 1 := Scalar.andi v979 v976
  let v981 : BitVec 32 := Scalar.addi v975 v974
  let v982 : BitVec 32 := Scalar.select v980 v981 v975
  let c1_i32_668 : BitVec 32 := 1#32
  let v988 : BitVec 32 := Scalar.muli v982 c1_i32_668
  let v989 : BitVec 32 := Scalar.addi c0_i32_669 v988
  v989.toNat
def k0_mult36 (d0 : Dev nD) : BitVec 32 :=
  let c8_i32_679 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_672 : BitVec 32 := 18#32
  let v996 : BitVec 32 := Scalar.addi v2 c18_i32_672
  let c32_i32_673 : BitVec 32 := 32#32
  let c0_i32_674 : BitVec 32 := 0#32
  let v997 : BitVec 1 := Scalar.cmpi .eq c32_i32_673 c0_i32_674
  let c1_i32_675 : BitVec 32 := 1#32
  let v998 : BitVec 32 := Scalar.select v997 c1_i32_675 c32_i32_673
  let v999 : BitVec 32 := Scalar.remsi v996 v998
  let c0_i32_677 : BitVec 32 := 0#32
  let v1001 : BitVec 1 := Scalar.cmpi .slt v999 c0_i32_677
  let c0_i32_678 : BitVec 32 := 0#32
  let v1002 : BitVec 1 := Scalar.cmpi .slt v998 c0_i32_678
  let v1003 : BitVec 1 := Scalar.xori v1001 v1002
  let c0_i32_676 : BitVec 32 := 0#32
  let v1000 : BitVec 1 := Scalar.cmpi .ne v999 c0_i32_676
  let v1004 : BitVec 1 := Scalar.andi v1003 v1000
  let v1005 : BitVec 32 := Scalar.addi v999 v998
  let v1006 : BitVec 32 := Scalar.select v1004 v1005 v999
  let v1007 : BitVec 32 := Scalar.muli c8_i32_679 v1006
  v1007
def k0_mult37 (d0 : Dev nD) : BitVec 32 :=
  let c0_i32_681 : BitVec 32 := 0#32
  let c8_i32_680 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1009 : BitVec 32 := Scalar.muli c8_i32_680 v2
  let v1010 : BitVec 32 := Scalar.addi c0_i32_681 v1009
  v1010
def k0_dev49 (d0 : Dev nD) : Nat :=
  let c0_i32_685 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_672 : BitVec 32 := 18#32
  let v996 : BitVec 32 := Scalar.addi v2 c18_i32_672
  let c32_i32_673 : BitVec 32 := 32#32
  let c0_i32_674 : BitVec 32 := 0#32
  let v997 : BitVec 1 := Scalar.cmpi .eq c32_i32_673 c0_i32_674
  let c1_i32_675 : BitVec 32 := 1#32
  let v998 : BitVec 32 := Scalar.select v997 c1_i32_675 c32_i32_673
  let v999 : BitVec 32 := Scalar.remsi v996 v998
  let c0_i32_677 : BitVec 32 := 0#32
  let v1001 : BitVec 1 := Scalar.cmpi .slt v999 c0_i32_677
  let c0_i32_678 : BitVec 32 := 0#32
  let v1002 : BitVec 1 := Scalar.cmpi .slt v998 c0_i32_678
  let v1003 : BitVec 1 := Scalar.xori v1001 v1002
  let c0_i32_676 : BitVec 32 := 0#32
  let v1000 : BitVec 1 := Scalar.cmpi .ne v999 c0_i32_676
  let v1004 : BitVec 1 := Scalar.andi v1003 v1000
  let v1005 : BitVec 32 := Scalar.addi v999 v998
  let v1006 : BitVec 32 := Scalar.select v1004 v1005 v999
  let c1_i32_684 : BitVec 32 := 1#32
  let v1012 : BitVec 32 := Scalar.muli v1006 c1_i32_684
  let v1013 : BitVec 32 := Scalar.addi c0_i32_685 v1012
  v1013.toNat
def k0_mult38 (d0 : Dev nD) : BitVec 32 :=
  let c8_i32_695 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_688 : BitVec 32 := 19#32
  let v1020 : BitVec 32 := Scalar.addi v2 c19_i32_688
  let c32_i32_689 : BitVec 32 := 32#32
  let c0_i32_690 : BitVec 32 := 0#32
  let v1021 : BitVec 1 := Scalar.cmpi .eq c32_i32_689 c0_i32_690
  let c1_i32_691 : BitVec 32 := 1#32
  let v1022 : BitVec 32 := Scalar.select v1021 c1_i32_691 c32_i32_689
  let v1023 : BitVec 32 := Scalar.remsi v1020 v1022
  let c0_i32_693 : BitVec 32 := 0#32
  let v1025 : BitVec 1 := Scalar.cmpi .slt v1023 c0_i32_693
  let c0_i32_694 : BitVec 32 := 0#32
  let v1026 : BitVec 1 := Scalar.cmpi .slt v1022 c0_i32_694
  let v1027 : BitVec 1 := Scalar.xori v1025 v1026
  let c0_i32_692 : BitVec 32 := 0#32
  let v1024 : BitVec 1 := Scalar.cmpi .ne v1023 c0_i32_692
  let v1028 : BitVec 1 := Scalar.andi v1027 v1024
  let v1029 : BitVec 32 := Scalar.addi v1023 v1022
  let v1030 : BitVec 32 := Scalar.select v1028 v1029 v1023
  let v1031 : BitVec 32 := Scalar.muli c8_i32_695 v1030
  v1031
def k0_mult39 (d0 : Dev nD) : BitVec 32 :=
  let c0_i32_697 : BitVec 32 := 0#32
  let c8_i32_696 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1033 : BitVec 32 := Scalar.muli c8_i32_696 v2
  let v1034 : BitVec 32 := Scalar.addi c0_i32_697 v1033
  v1034
def k0_dev50 (d0 : Dev nD) : Nat :=
  let c0_i32_701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_688 : BitVec 32 := 19#32
  let v1020 : BitVec 32 := Scalar.addi v2 c19_i32_688
  let c32_i32_689 : BitVec 32 := 32#32
  let c0_i32_690 : BitVec 32 := 0#32
  let v1021 : BitVec 1 := Scalar.cmpi .eq c32_i32_689 c0_i32_690
  let c1_i32_691 : BitVec 32 := 1#32
  let v1022 : BitVec 32 := Scalar.select v1021 c1_i32_691 c32_i32_689
  let v1023 : BitVec 32 := Scalar.remsi v1020 v1022
  let c0_i32_693 : BitVec 32 := 0#32
  let v1025 : BitVec 1 := Scalar.cmpi .slt v1023 c0_i32_693
  let c0_i32_694 : BitVec 32 := 0#32
  let v1026 : BitVec 1 := Scalar.cmpi .slt v1022 c0_i32_694
  let v1027 : BitVec 1 := Scalar.xori v1025 v1026
  let c0_i32_692 : BitVec 32 := 0#32
  let v1024 : BitVec 1 := Scalar.cmpi .ne v1023 c0_i32_692
  let v1028 : BitVec 1 := Scalar.andi v1027 v1024
  let v1029 : BitVec 32 := Scalar.addi v1023 v1022
  let v1030 : BitVec 32 := Scalar.select v1028 v1029 v1023
  let c1_i32_700 : BitVec 32 := 1#32
  let v1036 : BitVec 32 := Scalar.muli v1030 c1_i32_700
  let v1037 : BitVec 32 := Scalar.addi c0_i32_701 v1036
  v1037.toNat
def k0_mult40 (d0 : Dev nD) : BitVec 32 :=
  let c8_i32_711 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_704 : BitVec 32 := 20#32
  let v1044 : BitVec 32 := Scalar.addi v2 c20_i32_704
  let c32_i32_705 : BitVec 32 := 32#32
  let c0_i32_706 : BitVec 32 := 0#32
  let v1045 : BitVec 1 := Scalar.cmpi .eq c32_i32_705 c0_i32_706
  let c1_i32_707 : BitVec 32 := 1#32
  let v1046 : BitVec 32 := Scalar.select v1045 c1_i32_707 c32_i32_705
  let v1047 : BitVec 32 := Scalar.remsi v1044 v1046
  let c0_i32_709 : BitVec 32 := 0#32
  let v1049 : BitVec 1 := Scalar.cmpi .slt v1047 c0_i32_709
  let c0_i32_710 : BitVec 32 := 0#32
  let v1050 : BitVec 1 := Scalar.cmpi .slt v1046 c0_i32_710
  let v1051 : BitVec 1 := Scalar.xori v1049 v1050
  let c0_i32_708 : BitVec 32 := 0#32
  let v1048 : BitVec 1 := Scalar.cmpi .ne v1047 c0_i32_708
  let v1052 : BitVec 1 := Scalar.andi v1051 v1048
  let v1053 : BitVec 32 := Scalar.addi v1047 v1046
  let v1054 : BitVec 32 := Scalar.select v1052 v1053 v1047
  let v1055 : BitVec 32 := Scalar.muli c8_i32_711 v1054
  v1055
def k0_mult41 (d0 : Dev nD) : BitVec 32 :=
  let c0_i32_713 : BitVec 32 := 0#32
  let c8_i32_712 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1057 : BitVec 32 := Scalar.muli c8_i32_712 v2
  let v1058 : BitVec 32 := Scalar.addi c0_i32_713 v1057
  v1058
def k0_dev51 (d0 : Dev nD) : Nat :=
  let c0_i32_717 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_704 : BitVec 32 := 20#32
  let v1044 : BitVec 32 := Scalar.addi v2 c20_i32_704
  let c32_i32_705 : BitVec 32 := 32#32
  let c0_i32_706 : BitVec 32 := 0#32
  let v1045 : BitVec 1 := Scalar.cmpi .eq c32_i32_705 c0_i32_706
  let c1_i32_707 : BitVec 32 := 1#32
  let v1046 : BitVec 32 := Scalar.select v1045 c1_i32_707 c32_i32_705
  let v1047 : BitVec 32 := Scalar.remsi v1044 v1046
  let c0_i32_709 : BitVec 32 := 0#32
  let v1049 : BitVec 1 := Scalar.cmpi .slt v1047 c0_i32_709
  let c0_i32_710 : BitVec 32 := 0#32
  let v1050 : BitVec 1 := Scalar.cmpi .slt v1046 c0_i32_710
  let v1051 : BitVec 1 := Scalar.xori v1049 v1050
  let c0_i32_708 : BitVec 32 := 0#32
  let v1048 : BitVec 1 := Scalar.cmpi .ne v1047 c0_i32_708
  let v1052 : BitVec 1 := Scalar.andi v1051 v1048
  let v1053 : BitVec 32 := Scalar.addi v1047 v1046
  let v1054 : BitVec 32 := Scalar.select v1052 v1053 v1047
  let c1_i32_716 : BitVec 32 := 1#32
  let v1060 : BitVec 32 := Scalar.muli v1054 c1_i32_716
  let v1061 : BitVec 32 := Scalar.addi c0_i32_717 v1060
  v1061.toNat
def k0_mult42 (d0 : Dev nD) : BitVec 32 :=
  let c8_i32_727 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_720 : BitVec 32 := 21#32
  let v1068 : BitVec 32 := Scalar.addi v2 c21_i32_720
  let c32_i32_721 : BitVec 32 := 32#32
  let c0_i32_722 : BitVec 32 := 0#32
  let v1069 : BitVec 1 := Scalar.cmpi .eq c32_i32_721 c0_i32_722
  let c1_i32_723 : BitVec 32 := 1#32
  let v1070 : BitVec 32 := Scalar.select v1069 c1_i32_723 c32_i32_721
  let v1071 : BitVec 32 := Scalar.remsi v1068 v1070
  let c0_i32_725 : BitVec 32 := 0#32
  let v1073 : BitVec 1 := Scalar.cmpi .slt v1071 c0_i32_725
  let c0_i32_726 : BitVec 32 := 0#32
  let v1074 : BitVec 1 := Scalar.cmpi .slt v1070 c0_i32_726
  let v1075 : BitVec 1 := Scalar.xori v1073 v1074
  let c0_i32_724 : BitVec 32 := 0#32
  let v1072 : BitVec 1 := Scalar.cmpi .ne v1071 c0_i32_724
  let v1076 : BitVec 1 := Scalar.andi v1075 v1072
  let v1077 : BitVec 32 := Scalar.addi v1071 v1070
  let v1078 : BitVec 32 := Scalar.select v1076 v1077 v1071
  let v1079 : BitVec 32 := Scalar.muli c8_i32_727 v1078
  v1079
def k0_mult43 (d0 : Dev nD) : BitVec 32 :=
  let c0_i32_729 : BitVec 32 := 0#32
  let c8_i32_728 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1081 : BitVec 32 := Scalar.muli c8_i32_728 v2
  let v1082 : BitVec 32 := Scalar.addi c0_i32_729 v1081
  v1082
def k0_dev52 (d0 : Dev nD) : Nat :=
  let c0_i32_733 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_720 : BitVec 32 := 21#32
  let v1068 : BitVec 32 := Scalar.addi v2 c21_i32_720
  let c32_i32_721 : BitVec 32 := 32#32
  let c0_i32_722 : BitVec 32 := 0#32
  let v1069 : BitVec 1 := Scalar.cmpi .eq c32_i32_721 c0_i32_722
  let c1_i32_723 : BitVec 32 := 1#32
  let v1070 : BitVec 32 := Scalar.select v1069 c1_i32_723 c32_i32_721
  let v1071 : BitVec 32 := Scalar.remsi v1068 v1070
  let c0_i32_725 : BitVec 32 := 0#32
  let v1073 : BitVec 1 := Scalar.cmpi .slt v1071 c0_i32_725
  let c0_i32_726 : BitVec 32 := 0#32
  let v1074 : BitVec 1 := Scalar.cmpi .slt v1070 c0_i32_726
  let v1075 : BitVec 1 := Scalar.xori v1073 v1074
  let c0_i32_724 : BitVec 32 := 0#32
  let v1072 : BitVec 1 := Scalar.cmpi .ne v1071 c0_i32_724
  let v1076 : BitVec 1 := Scalar.andi v1075 v1072
  let v1077 : BitVec 32 := Scalar.addi v1071 v1070
  let v1078 : BitVec 32 := Scalar.select v1076 v1077 v1071
  let c1_i32_732 : BitVec 32 := 1#32
  let v1084 : BitVec 32 := Scalar.muli v1078 c1_i32_732
  let v1085 : BitVec 32 := Scalar.addi c0_i32_733 v1084
  v1085.toNat
def k0_mult44 (d0 : Dev nD) : BitVec 32 :=
  let c8_i32_743 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_736 : BitVec 32 := 22#32
  let v1092 : BitVec 32 := Scalar.addi v2 c22_i32_736
  let c32_i32_737 : BitVec 32 := 32#32
  let c0_i32_738 : BitVec 32 := 0#32
  let v1093 : BitVec 1 := Scalar.cmpi .eq c32_i32_737 c0_i32_738
  let c1_i32_739 : BitVec 32 := 1#32
  let v1094 : BitVec 32 := Scalar.select v1093 c1_i32_739 c32_i32_737
  let v1095 : BitVec 32 := Scalar.remsi v1092 v1094
  let c0_i32_741 : BitVec 32 := 0#32
  let v1097 : BitVec 1 := Scalar.cmpi .slt v1095 c0_i32_741
  let c0_i32_742 : BitVec 32 := 0#32
  let v1098 : BitVec 1 := Scalar.cmpi .slt v1094 c0_i32_742
  let v1099 : BitVec 1 := Scalar.xori v1097 v1098
  let c0_i32_740 : BitVec 32 := 0#32
  let v1096 : BitVec 1 := Scalar.cmpi .ne v1095 c0_i32_740
  let v1100 : BitVec 1 := Scalar.andi v1099 v1096
  let v1101 : BitVec 32 := Scalar.addi v1095 v1094
  let v1102 : BitVec 32 := Scalar.select v1100 v1101 v1095
  let v1103 : BitVec 32 := Scalar.muli c8_i32_743 v1102
  v1103
def k0_mult45 (d0 : Dev nD) : BitVec 32 :=
  let c0_i32_745 : BitVec 32 := 0#32
  let c8_i32_744 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1105 : BitVec 32 := Scalar.muli c8_i32_744 v2
  let v1106 : BitVec 32 := Scalar.addi c0_i32_745 v1105
  v1106
def k0_dev53 (d0 : Dev nD) : Nat :=
  let c0_i32_749 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_736 : BitVec 32 := 22#32
  let v1092 : BitVec 32 := Scalar.addi v2 c22_i32_736
  let c32_i32_737 : BitVec 32 := 32#32
  let c0_i32_738 : BitVec 32 := 0#32
  let v1093 : BitVec 1 := Scalar.cmpi .eq c32_i32_737 c0_i32_738
  let c1_i32_739 : BitVec 32 := 1#32
  let v1094 : BitVec 32 := Scalar.select v1093 c1_i32_739 c32_i32_737
  let v1095 : BitVec 32 := Scalar.remsi v1092 v1094
  let c0_i32_741 : BitVec 32 := 0#32
  let v1097 : BitVec 1 := Scalar.cmpi .slt v1095 c0_i32_741
  let c0_i32_742 : BitVec 32 := 0#32
  let v1098 : BitVec 1 := Scalar.cmpi .slt v1094 c0_i32_742
  let v1099 : BitVec 1 := Scalar.xori v1097 v1098
  let c0_i32_740 : BitVec 32 := 0#32
  let v1096 : BitVec 1 := Scalar.cmpi .ne v1095 c0_i32_740
  let v1100 : BitVec 1 := Scalar.andi v1099 v1096
  let v1101 : BitVec 32 := Scalar.addi v1095 v1094
  let v1102 : BitVec 32 := Scalar.select v1100 v1101 v1095
  let c1_i32_748 : BitVec 32 := 1#32
  let v1108 : BitVec 32 := Scalar.muli v1102 c1_i32_748
  let v1109 : BitVec 32 := Scalar.addi c0_i32_749 v1108
  v1109.toNat
def k0_mult46 (d0 : Dev nD) : BitVec 32 :=
  let c8_i32_759 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_752 : BitVec 32 := 23#32
  let v1116 : BitVec 32 := Scalar.addi v2 c23_i32_752
  let c32_i32_753 : BitVec 32 := 32#32
  let c0_i32_754 : BitVec 32 := 0#32
  let v1117 : BitVec 1 := Scalar.cmpi .eq c32_i32_753 c0_i32_754
  let c1_i32_755 : BitVec 32 := 1#32
  let v1118 : BitVec 32 := Scalar.select v1117 c1_i32_755 c32_i32_753
  let v1119 : BitVec 32 := Scalar.remsi v1116 v1118
  let c0_i32_757 : BitVec 32 := 0#32
  let v1121 : BitVec 1 := Scalar.cmpi .slt v1119 c0_i32_757
  let c0_i32_758 : BitVec 32 := 0#32
  let v1122 : BitVec 1 := Scalar.cmpi .slt v1118 c0_i32_758
  let v1123 : BitVec 1 := Scalar.xori v1121 v1122
  let c0_i32_756 : BitVec 32 := 0#32
  let v1120 : BitVec 1 := Scalar.cmpi .ne v1119 c0_i32_756
  let v1124 : BitVec 1 := Scalar.andi v1123 v1120
  let v1125 : BitVec 32 := Scalar.addi v1119 v1118
  let v1126 : BitVec 32 := Scalar.select v1124 v1125 v1119
  let v1127 : BitVec 32 := Scalar.muli c8_i32_759 v1126
  v1127
def k0_mult47 (d0 : Dev nD) : BitVec 32 :=
  let c0_i32_761 : BitVec 32 := 0#32
  let c8_i32_760 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1129 : BitVec 32 := Scalar.muli c8_i32_760 v2
  let v1130 : BitVec 32 := Scalar.addi c0_i32_761 v1129
  v1130
def k0_dev54 (d0 : Dev nD) : Nat :=
  let c0_i32_765 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_752 : BitVec 32 := 23#32
  let v1116 : BitVec 32 := Scalar.addi v2 c23_i32_752
  let c32_i32_753 : BitVec 32 := 32#32
  let c0_i32_754 : BitVec 32 := 0#32
  let v1117 : BitVec 1 := Scalar.cmpi .eq c32_i32_753 c0_i32_754
  let c1_i32_755 : BitVec 32 := 1#32
  let v1118 : BitVec 32 := Scalar.select v1117 c1_i32_755 c32_i32_753
  let v1119 : BitVec 32 := Scalar.remsi v1116 v1118
  let c0_i32_757 : BitVec 32 := 0#32
  let v1121 : BitVec 1 := Scalar.cmpi .slt v1119 c0_i32_757
  let c0_i32_758 : BitVec 32 := 0#32
  let v1122 : BitVec 1 := Scalar.cmpi .slt v1118 c0_i32_758
  let v1123 : BitVec 1 := Scalar.xori v1121 v1122
  let c0_i32_756 : BitVec 32 := 0#32
  let v1120 : BitVec 1 := Scalar.cmpi .ne v1119 c0_i32_756
  let v1124 : BitVec 1 := Scalar.andi v1123 v1120
  let v1125 : BitVec 32 := Scalar.addi v1119 v1118
  let v1126 : BitVec 32 := Scalar.select v1124 v1125 v1119
  let c1_i32_764 : BitVec 32 := 1#32
  let v1132 : BitVec 32 := Scalar.muli v1126 c1_i32_764
  let v1133 : BitVec 32 := Scalar.addi c0_i32_765 v1132
  v1133.toNat
def k0_mult48 (d0 : Dev nD) : BitVec 32 :=
  let c8_i32_775 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_768 : BitVec 32 := 24#32
  let v1140 : BitVec 32 := Scalar.addi v2 c24_i32_768
  let c32_i32_769 : BitVec 32 := 32#32
  let c0_i32_770 : BitVec 32 := 0#32
  let v1141 : BitVec 1 := Scalar.cmpi .eq c32_i32_769 c0_i32_770
  let c1_i32_771 : BitVec 32 := 1#32
  let v1142 : BitVec 32 := Scalar.select v1141 c1_i32_771 c32_i32_769
  let v1143 : BitVec 32 := Scalar.remsi v1140 v1142
  let c0_i32_773 : BitVec 32 := 0#32
  let v1145 : BitVec 1 := Scalar.cmpi .slt v1143 c0_i32_773
  let c0_i32_774 : BitVec 32 := 0#32
  let v1146 : BitVec 1 := Scalar.cmpi .slt v1142 c0_i32_774
  let v1147 : BitVec 1 := Scalar.xori v1145 v1146
  let c0_i32_772 : BitVec 32 := 0#32
  let v1144 : BitVec 1 := Scalar.cmpi .ne v1143 c0_i32_772
  let v1148 : BitVec 1 := Scalar.andi v1147 v1144
  let v1149 : BitVec 32 := Scalar.addi v1143 v1142
  let v1150 : BitVec 32 := Scalar.select v1148 v1149 v1143
  let v1151 : BitVec 32 := Scalar.muli c8_i32_775 v1150
  v1151
def k0_mult49 (d0 : Dev nD) : BitVec 32 :=
  let c0_i32_777 : BitVec 32 := 0#32
  let c8_i32_776 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1153 : BitVec 32 := Scalar.muli c8_i32_776 v2
  let v1154 : BitVec 32 := Scalar.addi c0_i32_777 v1153
  v1154
def k0_dev55 (d0 : Dev nD) : Nat :=
  let c0_i32_781 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_768 : BitVec 32 := 24#32
  let v1140 : BitVec 32 := Scalar.addi v2 c24_i32_768
  let c32_i32_769 : BitVec 32 := 32#32
  let c0_i32_770 : BitVec 32 := 0#32
  let v1141 : BitVec 1 := Scalar.cmpi .eq c32_i32_769 c0_i32_770
  let c1_i32_771 : BitVec 32 := 1#32
  let v1142 : BitVec 32 := Scalar.select v1141 c1_i32_771 c32_i32_769
  let v1143 : BitVec 32 := Scalar.remsi v1140 v1142
  let c0_i32_773 : BitVec 32 := 0#32
  let v1145 : BitVec 1 := Scalar.cmpi .slt v1143 c0_i32_773
  let c0_i32_774 : BitVec 32 := 0#32
  let v1146 : BitVec 1 := Scalar.cmpi .slt v1142 c0_i32_774
  let v1147 : BitVec 1 := Scalar.xori v1145 v1146
  let c0_i32_772 : BitVec 32 := 0#32
  let v1144 : BitVec 1 := Scalar.cmpi .ne v1143 c0_i32_772
  let v1148 : BitVec 1 := Scalar.andi v1147 v1144
  let v1149 : BitVec 32 := Scalar.addi v1143 v1142
  let v1150 : BitVec 32 := Scalar.select v1148 v1149 v1143
  let c1_i32_780 : BitVec 32 := 1#32
  let v1156 : BitVec 32 := Scalar.muli v1150 c1_i32_780
  let v1157 : BitVec 32 := Scalar.addi c0_i32_781 v1156
  v1157.toNat
def k0_mult50 (d0 : Dev nD) : BitVec 32 :=
  let c8_i32_791 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_784 : BitVec 32 := 25#32
  let v1164 : BitVec 32 := Scalar.addi v2 c25_i32_784
  let c32_i32_785 : BitVec 32 := 32#32
  let c0_i32_786 : BitVec 32 := 0#32
  let v1165 : BitVec 1 := Scalar.cmpi .eq c32_i32_785 c0_i32_786
  let c1_i32_787 : BitVec 32 := 1#32
  let v1166 : BitVec 32 := Scalar.select v1165 c1_i32_787 c32_i32_785
  let v1167 : BitVec 32 := Scalar.remsi v1164 v1166
  let c0_i32_789 : BitVec 32 := 0#32
  let v1169 : BitVec 1 := Scalar.cmpi .slt v1167 c0_i32_789
  let c0_i32_790 : BitVec 32 := 0#32
  let v1170 : BitVec 1 := Scalar.cmpi .slt v1166 c0_i32_790
  let v1171 : BitVec 1 := Scalar.xori v1169 v1170
  let c0_i32_788 : BitVec 32 := 0#32
  let v1168 : BitVec 1 := Scalar.cmpi .ne v1167 c0_i32_788
  let v1172 : BitVec 1 := Scalar.andi v1171 v1168
  let v1173 : BitVec 32 := Scalar.addi v1167 v1166
  let v1174 : BitVec 32 := Scalar.select v1172 v1173 v1167
  let v1175 : BitVec 32 := Scalar.muli c8_i32_791 v1174
  v1175
def k0_mult51 (d0 : Dev nD) : BitVec 32 :=
  let c0_i32_793 : BitVec 32 := 0#32
  let c8_i32_792 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1177 : BitVec 32 := Scalar.muli c8_i32_792 v2
  let v1178 : BitVec 32 := Scalar.addi c0_i32_793 v1177
  v1178
def k0_dev56 (d0 : Dev nD) : Nat :=
  let c0_i32_797 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_784 : BitVec 32 := 25#32
  let v1164 : BitVec 32 := Scalar.addi v2 c25_i32_784
  let c32_i32_785 : BitVec 32 := 32#32
  let c0_i32_786 : BitVec 32 := 0#32
  let v1165 : BitVec 1 := Scalar.cmpi .eq c32_i32_785 c0_i32_786
  let c1_i32_787 : BitVec 32 := 1#32
  let v1166 : BitVec 32 := Scalar.select v1165 c1_i32_787 c32_i32_785
  let v1167 : BitVec 32 := Scalar.remsi v1164 v1166
  let c0_i32_789 : BitVec 32 := 0#32
  let v1169 : BitVec 1 := Scalar.cmpi .slt v1167 c0_i32_789
  let c0_i32_790 : BitVec 32 := 0#32
  let v1170 : BitVec 1 := Scalar.cmpi .slt v1166 c0_i32_790
  let v1171 : BitVec 1 := Scalar.xori v1169 v1170
  let c0_i32_788 : BitVec 32 := 0#32
  let v1168 : BitVec 1 := Scalar.cmpi .ne v1167 c0_i32_788
  let v1172 : BitVec 1 := Scalar.andi v1171 v1168
  let v1173 : BitVec 32 := Scalar.addi v1167 v1166
  let v1174 : BitVec 32 := Scalar.select v1172 v1173 v1167
  let c1_i32_796 : BitVec 32 := 1#32
  let v1180 : BitVec 32 := Scalar.muli v1174 c1_i32_796
  let v1181 : BitVec 32 := Scalar.addi c0_i32_797 v1180
  v1181.toNat
def k0_mult52 (d0 : Dev nD) : BitVec 32 :=
  let c8_i32_807 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_800 : BitVec 32 := 26#32
  let v1188 : BitVec 32 := Scalar.addi v2 c26_i32_800
  let c32_i32_801 : BitVec 32 := 32#32
  let c0_i32_802 : BitVec 32 := 0#32
  let v1189 : BitVec 1 := Scalar.cmpi .eq c32_i32_801 c0_i32_802
  let c1_i32_803 : BitVec 32 := 1#32
  let v1190 : BitVec 32 := Scalar.select v1189 c1_i32_803 c32_i32_801
  let v1191 : BitVec 32 := Scalar.remsi v1188 v1190
  let c0_i32_805 : BitVec 32 := 0#32
  let v1193 : BitVec 1 := Scalar.cmpi .slt v1191 c0_i32_805
  let c0_i32_806 : BitVec 32 := 0#32
  let v1194 : BitVec 1 := Scalar.cmpi .slt v1190 c0_i32_806
  let v1195 : BitVec 1 := Scalar.xori v1193 v1194
  let c0_i32_804 : BitVec 32 := 0#32
  let v1192 : BitVec 1 := Scalar.cmpi .ne v1191 c0_i32_804
  let v1196 : BitVec 1 := Scalar.andi v1195 v1192
  let v1197 : BitVec 32 := Scalar.addi v1191 v1190
  let v1198 : BitVec 32 := Scalar.select v1196 v1197 v1191
  let v1199 : BitVec 32 := Scalar.muli c8_i32_807 v1198
  v1199
def k0_mult53 (d0 : Dev nD) : BitVec 32 :=
  let c0_i32_809 : BitVec 32 := 0#32
  let c8_i32_808 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1201 : BitVec 32 := Scalar.muli c8_i32_808 v2
  let v1202 : BitVec 32 := Scalar.addi c0_i32_809 v1201
  v1202
def k0_dev57 (d0 : Dev nD) : Nat :=
  let c0_i32_813 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_800 : BitVec 32 := 26#32
  let v1188 : BitVec 32 := Scalar.addi v2 c26_i32_800
  let c32_i32_801 : BitVec 32 := 32#32
  let c0_i32_802 : BitVec 32 := 0#32
  let v1189 : BitVec 1 := Scalar.cmpi .eq c32_i32_801 c0_i32_802
  let c1_i32_803 : BitVec 32 := 1#32
  let v1190 : BitVec 32 := Scalar.select v1189 c1_i32_803 c32_i32_801
  let v1191 : BitVec 32 := Scalar.remsi v1188 v1190
  let c0_i32_805 : BitVec 32 := 0#32
  let v1193 : BitVec 1 := Scalar.cmpi .slt v1191 c0_i32_805
  let c0_i32_806 : BitVec 32 := 0#32
  let v1194 : BitVec 1 := Scalar.cmpi .slt v1190 c0_i32_806
  let v1195 : BitVec 1 := Scalar.xori v1193 v1194
  let c0_i32_804 : BitVec 32 := 0#32
  let v1192 : BitVec 1 := Scalar.cmpi .ne v1191 c0_i32_804
  let v1196 : BitVec 1 := Scalar.andi v1195 v1192
  let v1197 : BitVec 32 := Scalar.addi v1191 v1190
  let v1198 : BitVec 32 := Scalar.select v1196 v1197 v1191
  let c1_i32_812 : BitVec 32 := 1#32
  let v1204 : BitVec 32 := Scalar.muli v1198 c1_i32_812
  let v1205 : BitVec 32 := Scalar.addi c0_i32_813 v1204
  v1205.toNat
def k0_mult54 (d0 : Dev nD) : BitVec 32 :=
  let c8_i32_823 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_816 : BitVec 32 := 27#32
  let v1212 : BitVec 32 := Scalar.addi v2 c27_i32_816
  let c32_i32_817 : BitVec 32 := 32#32
  let c0_i32_818 : BitVec 32 := 0#32
  let v1213 : BitVec 1 := Scalar.cmpi .eq c32_i32_817 c0_i32_818
  let c1_i32_819 : BitVec 32 := 1#32
  let v1214 : BitVec 32 := Scalar.select v1213 c1_i32_819 c32_i32_817
  let v1215 : BitVec 32 := Scalar.remsi v1212 v1214
  let c0_i32_821 : BitVec 32 := 0#32
  let v1217 : BitVec 1 := Scalar.cmpi .slt v1215 c0_i32_821
  let c0_i32_822 : BitVec 32 := 0#32
  let v1218 : BitVec 1 := Scalar.cmpi .slt v1214 c0_i32_822
  let v1219 : BitVec 1 := Scalar.xori v1217 v1218
  let c0_i32_820 : BitVec 32 := 0#32
  let v1216 : BitVec 1 := Scalar.cmpi .ne v1215 c0_i32_820
  let v1220 : BitVec 1 := Scalar.andi v1219 v1216
  let v1221 : BitVec 32 := Scalar.addi v1215 v1214
  let v1222 : BitVec 32 := Scalar.select v1220 v1221 v1215
  let v1223 : BitVec 32 := Scalar.muli c8_i32_823 v1222
  v1223
def k0_mult55 (d0 : Dev nD) : BitVec 32 :=
  let c0_i32_825 : BitVec 32 := 0#32
  let c8_i32_824 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1225 : BitVec 32 := Scalar.muli c8_i32_824 v2
  let v1226 : BitVec 32 := Scalar.addi c0_i32_825 v1225
  v1226
def k0_dev58 (d0 : Dev nD) : Nat :=
  let c0_i32_829 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_816 : BitVec 32 := 27#32
  let v1212 : BitVec 32 := Scalar.addi v2 c27_i32_816
  let c32_i32_817 : BitVec 32 := 32#32
  let c0_i32_818 : BitVec 32 := 0#32
  let v1213 : BitVec 1 := Scalar.cmpi .eq c32_i32_817 c0_i32_818
  let c1_i32_819 : BitVec 32 := 1#32
  let v1214 : BitVec 32 := Scalar.select v1213 c1_i32_819 c32_i32_817
  let v1215 : BitVec 32 := Scalar.remsi v1212 v1214
  let c0_i32_821 : BitVec 32 := 0#32
  let v1217 : BitVec 1 := Scalar.cmpi .slt v1215 c0_i32_821
  let c0_i32_822 : BitVec 32 := 0#32
  let v1218 : BitVec 1 := Scalar.cmpi .slt v1214 c0_i32_822
  let v1219 : BitVec 1 := Scalar.xori v1217 v1218
  let c0_i32_820 : BitVec 32 := 0#32
  let v1216 : BitVec 1 := Scalar.cmpi .ne v1215 c0_i32_820
  let v1220 : BitVec 1 := Scalar.andi v1219 v1216
  let v1221 : BitVec 32 := Scalar.addi v1215 v1214
  let v1222 : BitVec 32 := Scalar.select v1220 v1221 v1215
  let c1_i32_828 : BitVec 32 := 1#32
  let v1228 : BitVec 32 := Scalar.muli v1222 c1_i32_828
  let v1229 : BitVec 32 := Scalar.addi c0_i32_829 v1228
  v1229.toNat
def k0_mult56 (d0 : Dev nD) : BitVec 32 :=
  let c8_i32_839 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_832 : BitVec 32 := 28#32
  let v1236 : BitVec 32 := Scalar.addi v2 c28_i32_832
  let c32_i32_833 : BitVec 32 := 32#32
  let c0_i32_834 : BitVec 32 := 0#32
  let v1237 : BitVec 1 := Scalar.cmpi .eq c32_i32_833 c0_i32_834
  let c1_i32_835 : BitVec 32 := 1#32
  let v1238 : BitVec 32 := Scalar.select v1237 c1_i32_835 c32_i32_833
  let v1239 : BitVec 32 := Scalar.remsi v1236 v1238
  let c0_i32_837 : BitVec 32 := 0#32
  let v1241 : BitVec 1 := Scalar.cmpi .slt v1239 c0_i32_837
  let c0_i32_838 : BitVec 32 := 0#32
  let v1242 : BitVec 1 := Scalar.cmpi .slt v1238 c0_i32_838
  let v1243 : BitVec 1 := Scalar.xori v1241 v1242
  let c0_i32_836 : BitVec 32 := 0#32
  let v1240 : BitVec 1 := Scalar.cmpi .ne v1239 c0_i32_836
  let v1244 : BitVec 1 := Scalar.andi v1243 v1240
  let v1245 : BitVec 32 := Scalar.addi v1239 v1238
  let v1246 : BitVec 32 := Scalar.select v1244 v1245 v1239
  let v1247 : BitVec 32 := Scalar.muli c8_i32_839 v1246
  v1247
def k0_mult57 (d0 : Dev nD) : BitVec 32 :=
  let c0_i32_841 : BitVec 32 := 0#32
  let c8_i32_840 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1249 : BitVec 32 := Scalar.muli c8_i32_840 v2
  let v1250 : BitVec 32 := Scalar.addi c0_i32_841 v1249
  v1250
def k0_dev59 (d0 : Dev nD) : Nat :=
  let c0_i32_845 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_832 : BitVec 32 := 28#32
  let v1236 : BitVec 32 := Scalar.addi v2 c28_i32_832
  let c32_i32_833 : BitVec 32 := 32#32
  let c0_i32_834 : BitVec 32 := 0#32
  let v1237 : BitVec 1 := Scalar.cmpi .eq c32_i32_833 c0_i32_834
  let c1_i32_835 : BitVec 32 := 1#32
  let v1238 : BitVec 32 := Scalar.select v1237 c1_i32_835 c32_i32_833
  let v1239 : BitVec 32 := Scalar.remsi v1236 v1238
  let c0_i32_837 : BitVec 32 := 0#32
  let v1241 : BitVec 1 := Scalar.cmpi .slt v1239 c0_i32_837
  let c0_i32_838 : BitVec 32 := 0#32
  let v1242 : BitVec 1 := Scalar.cmpi .slt v1238 c0_i32_838
  let v1243 : BitVec 1 := Scalar.xori v1241 v1242
  let c0_i32_836 : BitVec 32 := 0#32
  let v1240 : BitVec 1 := Scalar.cmpi .ne v1239 c0_i32_836
  let v1244 : BitVec 1 := Scalar.andi v1243 v1240
  let v1245 : BitVec 32 := Scalar.addi v1239 v1238
  let v1246 : BitVec 32 := Scalar.select v1244 v1245 v1239
  let c1_i32_844 : BitVec 32 := 1#32
  let v1252 : BitVec 32 := Scalar.muli v1246 c1_i32_844
  let v1253 : BitVec 32 := Scalar.addi c0_i32_845 v1252
  v1253.toNat
def k0_mult58 (d0 : Dev nD) : BitVec 32 :=
  let c8_i32_855 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_848 : BitVec 32 := 29#32
  let v1260 : BitVec 32 := Scalar.addi v2 c29_i32_848
  let c32_i32_849 : BitVec 32 := 32#32
  let c0_i32_850 : BitVec 32 := 0#32
  let v1261 : BitVec 1 := Scalar.cmpi .eq c32_i32_849 c0_i32_850
  let c1_i32_851 : BitVec 32 := 1#32
  let v1262 : BitVec 32 := Scalar.select v1261 c1_i32_851 c32_i32_849
  let v1263 : BitVec 32 := Scalar.remsi v1260 v1262
  let c0_i32_853 : BitVec 32 := 0#32
  let v1265 : BitVec 1 := Scalar.cmpi .slt v1263 c0_i32_853
  let c0_i32_854 : BitVec 32 := 0#32
  let v1266 : BitVec 1 := Scalar.cmpi .slt v1262 c0_i32_854
  let v1267 : BitVec 1 := Scalar.xori v1265 v1266
  let c0_i32_852 : BitVec 32 := 0#32
  let v1264 : BitVec 1 := Scalar.cmpi .ne v1263 c0_i32_852
  let v1268 : BitVec 1 := Scalar.andi v1267 v1264
  let v1269 : BitVec 32 := Scalar.addi v1263 v1262
  let v1270 : BitVec 32 := Scalar.select v1268 v1269 v1263
  let v1271 : BitVec 32 := Scalar.muli c8_i32_855 v1270
  v1271
def k0_mult59 (d0 : Dev nD) : BitVec 32 :=
  let c0_i32_857 : BitVec 32 := 0#32
  let c8_i32_856 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1273 : BitVec 32 := Scalar.muli c8_i32_856 v2
  let v1274 : BitVec 32 := Scalar.addi c0_i32_857 v1273
  v1274
def k0_dev60 (d0 : Dev nD) : Nat :=
  let c0_i32_861 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_848 : BitVec 32 := 29#32
  let v1260 : BitVec 32 := Scalar.addi v2 c29_i32_848
  let c32_i32_849 : BitVec 32 := 32#32
  let c0_i32_850 : BitVec 32 := 0#32
  let v1261 : BitVec 1 := Scalar.cmpi .eq c32_i32_849 c0_i32_850
  let c1_i32_851 : BitVec 32 := 1#32
  let v1262 : BitVec 32 := Scalar.select v1261 c1_i32_851 c32_i32_849
  let v1263 : BitVec 32 := Scalar.remsi v1260 v1262
  let c0_i32_853 : BitVec 32 := 0#32
  let v1265 : BitVec 1 := Scalar.cmpi .slt v1263 c0_i32_853
  let c0_i32_854 : BitVec 32 := 0#32
  let v1266 : BitVec 1 := Scalar.cmpi .slt v1262 c0_i32_854
  let v1267 : BitVec 1 := Scalar.xori v1265 v1266
  let c0_i32_852 : BitVec 32 := 0#32
  let v1264 : BitVec 1 := Scalar.cmpi .ne v1263 c0_i32_852
  let v1268 : BitVec 1 := Scalar.andi v1267 v1264
  let v1269 : BitVec 32 := Scalar.addi v1263 v1262
  let v1270 : BitVec 32 := Scalar.select v1268 v1269 v1263
  let c1_i32_860 : BitVec 32 := 1#32
  let v1276 : BitVec 32 := Scalar.muli v1270 c1_i32_860
  let v1277 : BitVec 32 := Scalar.addi c0_i32_861 v1276
  v1277.toNat
def k0_mult60 (d0 : Dev nD) : BitVec 32 :=
  let c8_i32_871 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_864 : BitVec 32 := 30#32
  let v1284 : BitVec 32 := Scalar.addi v2 c30_i32_864
  let c32_i32_865 : BitVec 32 := 32#32
  let c0_i32_866 : BitVec 32 := 0#32
  let v1285 : BitVec 1 := Scalar.cmpi .eq c32_i32_865 c0_i32_866
  let c1_i32_867 : BitVec 32 := 1#32
  let v1286 : BitVec 32 := Scalar.select v1285 c1_i32_867 c32_i32_865
  let v1287 : BitVec 32 := Scalar.remsi v1284 v1286
  let c0_i32_869 : BitVec 32 := 0#32
  let v1289 : BitVec 1 := Scalar.cmpi .slt v1287 c0_i32_869
  let c0_i32_870 : BitVec 32 := 0#32
  let v1290 : BitVec 1 := Scalar.cmpi .slt v1286 c0_i32_870
  let v1291 : BitVec 1 := Scalar.xori v1289 v1290
  let c0_i32_868 : BitVec 32 := 0#32
  let v1288 : BitVec 1 := Scalar.cmpi .ne v1287 c0_i32_868
  let v1292 : BitVec 1 := Scalar.andi v1291 v1288
  let v1293 : BitVec 32 := Scalar.addi v1287 v1286
  let v1294 : BitVec 32 := Scalar.select v1292 v1293 v1287
  let v1295 : BitVec 32 := Scalar.muli c8_i32_871 v1294
  v1295
def k0_mult61 (d0 : Dev nD) : BitVec 32 :=
  let c0_i32_873 : BitVec 32 := 0#32
  let c8_i32_872 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1297 : BitVec 32 := Scalar.muli c8_i32_872 v2
  let v1298 : BitVec 32 := Scalar.addi c0_i32_873 v1297
  v1298
def k0_dev61 (d0 : Dev nD) : Nat :=
  let c0_i32_877 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_864 : BitVec 32 := 30#32
  let v1284 : BitVec 32 := Scalar.addi v2 c30_i32_864
  let c32_i32_865 : BitVec 32 := 32#32
  let c0_i32_866 : BitVec 32 := 0#32
  let v1285 : BitVec 1 := Scalar.cmpi .eq c32_i32_865 c0_i32_866
  let c1_i32_867 : BitVec 32 := 1#32
  let v1286 : BitVec 32 := Scalar.select v1285 c1_i32_867 c32_i32_865
  let v1287 : BitVec 32 := Scalar.remsi v1284 v1286
  let c0_i32_869 : BitVec 32 := 0#32
  let v1289 : BitVec 1 := Scalar.cmpi .slt v1287 c0_i32_869
  let c0_i32_870 : BitVec 32 := 0#32
  let v1290 : BitVec 1 := Scalar.cmpi .slt v1286 c0_i32_870
  let v1291 : BitVec 1 := Scalar.xori v1289 v1290
  let c0_i32_868 : BitVec 32 := 0#32
  let v1288 : BitVec 1 := Scalar.cmpi .ne v1287 c0_i32_868
  let v1292 : BitVec 1 := Scalar.andi v1291 v1288
  let v1293 : BitVec 32 := Scalar.addi v1287 v1286
  let v1294 : BitVec 32 := Scalar.select v1292 v1293 v1287
  let c1_i32_876 : BitVec 32 := 1#32
  let v1300 : BitVec 32 := Scalar.muli v1294 c1_i32_876
  let v1301 : BitVec 32 := Scalar.addi c0_i32_877 v1300
  v1301.toNat
def k0_mult62 (d0 : Dev nD) : BitVec 32 :=
  let c8_i32_887 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_880 : BitVec 32 := 31#32
  let v1308 : BitVec 32 := Scalar.addi v2 c31_i32_880
  let c32_i32_881 : BitVec 32 := 32#32
  let c0_i32_882 : BitVec 32 := 0#32
  let v1309 : BitVec 1 := Scalar.cmpi .eq c32_i32_881 c0_i32_882
  let c1_i32_883 : BitVec 32 := 1#32
  let v1310 : BitVec 32 := Scalar.select v1309 c1_i32_883 c32_i32_881
  let v1311 : BitVec 32 := Scalar.remsi v1308 v1310
  let c0_i32_885 : BitVec 32 := 0#32
  let v1313 : BitVec 1 := Scalar.cmpi .slt v1311 c0_i32_885
  let c0_i32_886 : BitVec 32 := 0#32
  let v1314 : BitVec 1 := Scalar.cmpi .slt v1310 c0_i32_886
  let v1315 : BitVec 1 := Scalar.xori v1313 v1314
  let c0_i32_884 : BitVec 32 := 0#32
  let v1312 : BitVec 1 := Scalar.cmpi .ne v1311 c0_i32_884
  let v1316 : BitVec 1 := Scalar.andi v1315 v1312
  let v1317 : BitVec 32 := Scalar.addi v1311 v1310
  let v1318 : BitVec 32 := Scalar.select v1316 v1317 v1311
  let v1319 : BitVec 32 := Scalar.muli c8_i32_887 v1318
  v1319
def k0_mult63 (d0 : Dev nD) : BitVec 32 :=
  let c0_i32_889 : BitVec 32 := 0#32
  let c8_i32_888 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1321 : BitVec 32 := Scalar.muli c8_i32_888 v2
  let v1322 : BitVec 32 := Scalar.addi c0_i32_889 v1321
  v1322
def k0_dev62 (d0 : Dev nD) : Nat :=
  let c0_i32_893 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_880 : BitVec 32 := 31#32
  let v1308 : BitVec 32 := Scalar.addi v2 c31_i32_880
  let c32_i32_881 : BitVec 32 := 32#32
  let c0_i32_882 : BitVec 32 := 0#32
  let v1309 : BitVec 1 := Scalar.cmpi .eq c32_i32_881 c0_i32_882
  let c1_i32_883 : BitVec 32 := 1#32
  let v1310 : BitVec 32 := Scalar.select v1309 c1_i32_883 c32_i32_881
  let v1311 : BitVec 32 := Scalar.remsi v1308 v1310
  let c0_i32_885 : BitVec 32 := 0#32
  let v1313 : BitVec 1 := Scalar.cmpi .slt v1311 c0_i32_885
  let c0_i32_886 : BitVec 32 := 0#32
  let v1314 : BitVec 1 := Scalar.cmpi .slt v1310 c0_i32_886
  let v1315 : BitVec 1 := Scalar.xori v1313 v1314
  let c0_i32_884 : BitVec 32 := 0#32
  let v1312 : BitVec 1 := Scalar.cmpi .ne v1311 c0_i32_884
  let v1316 : BitVec 1 := Scalar.andi v1315 v1312
  let v1317 : BitVec 32 := Scalar.addi v1311 v1310
  let v1318 : BitVec 32 := Scalar.select v1316 v1317 v1311
  let c1_i32_892 : BitVec 32 := 1#32
  let v1324 : BitVec 32 := Scalar.muli v1318 c1_i32_892
  let v1325 : BitVec 32 := Scalar.addi c0_i32_893 v1324
  v1325.toNat
def k0_off4 (d0 : Dev nD) : Fin 2 → Nat :=
  let c8_i32_394 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v580 : BitVec 32 := Scalar.muli c8_i32_394 v2
  let v581 : BitVec 32 := v580
  let v1332 : Index := Scalar.indexCast v581
  let c0_896 : Index := 0#32
  ![v1332.toNat, 0]
def k0_mult64 (d0 : Dev nD) : BitVec 32 :=
  let c0_i32_897 : BitVec 32 := 0#32
  let c8_i32_394 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v580 : BitVec 32 := Scalar.muli c8_i32_394 v2
  let v581 : BitVec 32 := v580
  let v1334 : BitVec 32 := Scalar.addi c0_i32_897 v581
  v1334
def k0_off5 (d0 : Dev nD) (c0_i32_897 : BitVec 32) : Fin 2 → Nat :=
  let c8_i32_394 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v580 : BitVec 32 := Scalar.muli c8_i32_394 v2
  let v581 : BitVec 32 := v580
  let v1334 : BitVec 32 := Scalar.addi c0_i32_897 v581
  let v1335 : BitVec 32 := v1334
  let v1336 : Index := Scalar.indexCast v1335
  let c0_898 : Index := 0#32
  ![v1336.toNat, 0]
def k0_off6 (d0 : Dev nD) : Fin 3 → Nat :=
  let c0_1243 : Index := 0#32
  let c8_i32_394 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v580 : BitVec 32 := Scalar.muli c8_i32_394 v2
  let v581 : BitVec 32 := v580
  let v1654 : Index := Scalar.indexCast v581
  let c0_1244 : Index := 0#32
  ![0, v1654.toNat, 0]
def k0_mult65 (d0 : Dev nD) : BitVec 32 :=
  let c256_i32 : BitVec 32 := 256#32
  let c8_i32_1254 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1673 : BitVec 32 := Scalar.muli c8_i32_1254 v2
  let v1674 : BitVec 32 := Scalar.addi c256_i32 v1673
  v1674
def k0_dev63 (d0 : Dev nD) : Nat :=
  let c0_i32_1258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1247 : BitVec 32 := 1#32
  let v1662 : BitVec 32 := Scalar.addi v2 c1_i32_1247
  let c32_i32_1248 : BitVec 32 := 32#32
  let c0_i32_1249 : BitVec 32 := 0#32
  let v1663 : BitVec 1 := Scalar.cmpi .eq c32_i32_1248 c0_i32_1249
  let c1_i32_1250 : BitVec 32 := 1#32
  let v1664 : BitVec 32 := Scalar.select v1663 c1_i32_1250 c32_i32_1248
  let v1665 : BitVec 32 := Scalar.remsi v1662 v1664
  let c0_i32_1252 : BitVec 32 := 0#32
  let v1667 : BitVec 1 := Scalar.cmpi .slt v1665 c0_i32_1252
  let c0_i32_1253 : BitVec 32 := 0#32
  let v1668 : BitVec 1 := Scalar.cmpi .slt v1664 c0_i32_1253
  let v1669 : BitVec 1 := Scalar.xori v1667 v1668
  let c0_i32_1251 : BitVec 32 := 0#32
  let v1666 : BitVec 1 := Scalar.cmpi .ne v1665 c0_i32_1251
  let v1670 : BitVec 1 := Scalar.andi v1669 v1666
  let v1671 : BitVec 32 := Scalar.addi v1665 v1664
  let v1672 : BitVec 32 := Scalar.select v1670 v1671 v1665
  let c1_i32_1257 : BitVec 32 := 1#32
  let v1676 : BitVec 32 := Scalar.muli v1672 c1_i32_1257
  let v1677 : BitVec 32 := Scalar.addi c0_i32_1258 v1676
  v1677.toNat
def k0_mult66 (d0 : Dev nD) : BitVec 32 :=
  let c256_i32_1270 : BitVec 32 := 256#32
  let c8_i32_1269 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1695 : BitVec 32 := Scalar.muli c8_i32_1269 v2
  let v1696 : BitVec 32 := Scalar.addi c256_i32_1270 v1695
  v1696
def k0_dev64 (d0 : Dev nD) : Nat :=
  let c0_i32_1274 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1262 : BitVec 32 := 2#32
  let v1684 : BitVec 32 := Scalar.addi v2 c2_i32_1262
  let c32_i32_1263 : BitVec 32 := 32#32
  let c0_i32_1264 : BitVec 32 := 0#32
  let v1685 : BitVec 1 := Scalar.cmpi .eq c32_i32_1263 c0_i32_1264
  let c1_i32_1265 : BitVec 32 := 1#32
  let v1686 : BitVec 32 := Scalar.select v1685 c1_i32_1265 c32_i32_1263
  let v1687 : BitVec 32 := Scalar.remsi v1684 v1686
  let c0_i32_1267 : BitVec 32 := 0#32
  let v1689 : BitVec 1 := Scalar.cmpi .slt v1687 c0_i32_1267
  let c0_i32_1268 : BitVec 32 := 0#32
  let v1690 : BitVec 1 := Scalar.cmpi .slt v1686 c0_i32_1268
  let v1691 : BitVec 1 := Scalar.xori v1689 v1690
  let c0_i32_1266 : BitVec 32 := 0#32
  let v1688 : BitVec 1 := Scalar.cmpi .ne v1687 c0_i32_1266
  let v1692 : BitVec 1 := Scalar.andi v1691 v1688
  let v1693 : BitVec 32 := Scalar.addi v1687 v1686
  let v1694 : BitVec 32 := Scalar.select v1692 v1693 v1687
  let c1_i32_1273 : BitVec 32 := 1#32
  let v1698 : BitVec 32 := Scalar.muli v1694 c1_i32_1273
  let v1699 : BitVec 32 := Scalar.addi c0_i32_1274 v1698
  v1699.toNat
def k0_mult67 (d0 : Dev nD) : BitVec 32 :=
  let c256_i32_1286 : BitVec 32 := 256#32
  let c8_i32_1285 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1717 : BitVec 32 := Scalar.muli c8_i32_1285 v2
  let v1718 : BitVec 32 := Scalar.addi c256_i32_1286 v1717
  v1718
def k0_dev65 (d0 : Dev nD) : Nat :=
  let c0_i32_1289 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1278 : BitVec 32 := 3#32
  let v1706 : BitVec 32 := Scalar.addi v2 c3_i32_1278
  let c32_i32_1279 : BitVec 32 := 32#32
  let c0_i32_1280 : BitVec 32 := 0#32
  let v1707 : BitVec 1 := Scalar.cmpi .eq c32_i32_1279 c0_i32_1280
  let c1_i32_1281 : BitVec 32 := 1#32
  let v1708 : BitVec 32 := Scalar.select v1707 c1_i32_1281 c32_i32_1279
  let v1709 : BitVec 32 := Scalar.remsi v1706 v1708
  let c0_i32_1283 : BitVec 32 := 0#32
  let v1711 : BitVec 1 := Scalar.cmpi .slt v1709 c0_i32_1283
  let c0_i32_1284 : BitVec 32 := 0#32
  let v1712 : BitVec 1 := Scalar.cmpi .slt v1708 c0_i32_1284
  let v1713 : BitVec 1 := Scalar.xori v1711 v1712
  let c0_i32_1282 : BitVec 32 := 0#32
  let v1710 : BitVec 1 := Scalar.cmpi .ne v1709 c0_i32_1282
  let v1714 : BitVec 1 := Scalar.andi v1713 v1710
  let v1715 : BitVec 32 := Scalar.addi v1709 v1708
  let v1716 : BitVec 32 := Scalar.select v1714 v1715 v1709
  let c1_i32_1288 : BitVec 32 := 1#32
  let v1720 : BitVec 32 := Scalar.muli v1716 c1_i32_1288
  let v1721 : BitVec 32 := Scalar.addi c0_i32_1289 v1720
  v1721.toNat
def k0_mult68 (d0 : Dev nD) : BitVec 32 :=
  let c256_i32_1301 : BitVec 32 := 256#32
  let c8_i32_1300 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1739 : BitVec 32 := Scalar.muli c8_i32_1300 v2
  let v1740 : BitVec 32 := Scalar.addi c256_i32_1301 v1739
  v1740
def k0_dev66 (d0 : Dev nD) : Nat :=
  let c0_i32_1304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1293 : BitVec 32 := 4#32
  let v1728 : BitVec 32 := Scalar.addi v2 c4_i32_1293
  let c32_i32_1294 : BitVec 32 := 32#32
  let c0_i32_1295 : BitVec 32 := 0#32
  let v1729 : BitVec 1 := Scalar.cmpi .eq c32_i32_1294 c0_i32_1295
  let c1_i32_1296 : BitVec 32 := 1#32
  let v1730 : BitVec 32 := Scalar.select v1729 c1_i32_1296 c32_i32_1294
  let v1731 : BitVec 32 := Scalar.remsi v1728 v1730
  let c0_i32_1298 : BitVec 32 := 0#32
  let v1733 : BitVec 1 := Scalar.cmpi .slt v1731 c0_i32_1298
  let c0_i32_1299 : BitVec 32 := 0#32
  let v1734 : BitVec 1 := Scalar.cmpi .slt v1730 c0_i32_1299
  let v1735 : BitVec 1 := Scalar.xori v1733 v1734
  let c0_i32_1297 : BitVec 32 := 0#32
  let v1732 : BitVec 1 := Scalar.cmpi .ne v1731 c0_i32_1297
  let v1736 : BitVec 1 := Scalar.andi v1735 v1732
  let v1737 : BitVec 32 := Scalar.addi v1731 v1730
  let v1738 : BitVec 32 := Scalar.select v1736 v1737 v1731
  let c1_i32_1303 : BitVec 32 := 1#32
  let v1742 : BitVec 32 := Scalar.muli v1738 c1_i32_1303
  let v1743 : BitVec 32 := Scalar.addi c0_i32_1304 v1742
  v1743.toNat
def k0_mult69 (d0 : Dev nD) : BitVec 32 :=
  let c256_i32_1316 : BitVec 32 := 256#32
  let c8_i32_1315 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1761 : BitVec 32 := Scalar.muli c8_i32_1315 v2
  let v1762 : BitVec 32 := Scalar.addi c256_i32_1316 v1761
  v1762
def k0_dev67 (d0 : Dev nD) : Nat :=
  let c0_i32_1319 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1308 : BitVec 32 := 5#32
  let v1750 : BitVec 32 := Scalar.addi v2 c5_i32_1308
  let c32_i32_1309 : BitVec 32 := 32#32
  let c0_i32_1310 : BitVec 32 := 0#32
  let v1751 : BitVec 1 := Scalar.cmpi .eq c32_i32_1309 c0_i32_1310
  let c1_i32_1311 : BitVec 32 := 1#32
  let v1752 : BitVec 32 := Scalar.select v1751 c1_i32_1311 c32_i32_1309
  let v1753 : BitVec 32 := Scalar.remsi v1750 v1752
  let c0_i32_1313 : BitVec 32 := 0#32
  let v1755 : BitVec 1 := Scalar.cmpi .slt v1753 c0_i32_1313
  let c0_i32_1314 : BitVec 32 := 0#32
  let v1756 : BitVec 1 := Scalar.cmpi .slt v1752 c0_i32_1314
  let v1757 : BitVec 1 := Scalar.xori v1755 v1756
  let c0_i32_1312 : BitVec 32 := 0#32
  let v1754 : BitVec 1 := Scalar.cmpi .ne v1753 c0_i32_1312
  let v1758 : BitVec 1 := Scalar.andi v1757 v1754
  let v1759 : BitVec 32 := Scalar.addi v1753 v1752
  let v1760 : BitVec 32 := Scalar.select v1758 v1759 v1753
  let c1_i32_1318 : BitVec 32 := 1#32
  let v1764 : BitVec 32 := Scalar.muli v1760 c1_i32_1318
  let v1765 : BitVec 32 := Scalar.addi c0_i32_1319 v1764
  v1765.toNat
def k0_mult70 (d0 : Dev nD) : BitVec 32 :=
  let c256_i32_1331 : BitVec 32 := 256#32
  let c8_i32_1330 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1783 : BitVec 32 := Scalar.muli c8_i32_1330 v2
  let v1784 : BitVec 32 := Scalar.addi c256_i32_1331 v1783
  v1784
def k0_dev68 (d0 : Dev nD) : Nat :=
  let c0_i32_1334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1323 : BitVec 32 := 6#32
  let v1772 : BitVec 32 := Scalar.addi v2 c6_i32_1323
  let c32_i32_1324 : BitVec 32 := 32#32
  let c0_i32_1325 : BitVec 32 := 0#32
  let v1773 : BitVec 1 := Scalar.cmpi .eq c32_i32_1324 c0_i32_1325
  let c1_i32_1326 : BitVec 32 := 1#32
  let v1774 : BitVec 32 := Scalar.select v1773 c1_i32_1326 c32_i32_1324
  let v1775 : BitVec 32 := Scalar.remsi v1772 v1774
  let c0_i32_1328 : BitVec 32 := 0#32
  let v1777 : BitVec 1 := Scalar.cmpi .slt v1775 c0_i32_1328
  let c0_i32_1329 : BitVec 32 := 0#32
  let v1778 : BitVec 1 := Scalar.cmpi .slt v1774 c0_i32_1329
  let v1779 : BitVec 1 := Scalar.xori v1777 v1778
  let c0_i32_1327 : BitVec 32 := 0#32
  let v1776 : BitVec 1 := Scalar.cmpi .ne v1775 c0_i32_1327
  let v1780 : BitVec 1 := Scalar.andi v1779 v1776
  let v1781 : BitVec 32 := Scalar.addi v1775 v1774
  let v1782 : BitVec 32 := Scalar.select v1780 v1781 v1775
  let c1_i32_1333 : BitVec 32 := 1#32
  let v1786 : BitVec 32 := Scalar.muli v1782 c1_i32_1333
  let v1787 : BitVec 32 := Scalar.addi c0_i32_1334 v1786
  v1787.toNat
def k0_mult71 (d0 : Dev nD) : BitVec 32 :=
  let c256_i32_1346 : BitVec 32 := 256#32
  let c8_i32_1345 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1805 : BitVec 32 := Scalar.muli c8_i32_1345 v2
  let v1806 : BitVec 32 := Scalar.addi c256_i32_1346 v1805
  v1806
def k0_dev69 (d0 : Dev nD) : Nat :=
  let c0_i32_1349 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1338 : BitVec 32 := 7#32
  let v1794 : BitVec 32 := Scalar.addi v2 c7_i32_1338
  let c32_i32_1339 : BitVec 32 := 32#32
  let c0_i32_1340 : BitVec 32 := 0#32
  let v1795 : BitVec 1 := Scalar.cmpi .eq c32_i32_1339 c0_i32_1340
  let c1_i32_1341 : BitVec 32 := 1#32
  let v1796 : BitVec 32 := Scalar.select v1795 c1_i32_1341 c32_i32_1339
  let v1797 : BitVec 32 := Scalar.remsi v1794 v1796
  let c0_i32_1343 : BitVec 32 := 0#32
  let v1799 : BitVec 1 := Scalar.cmpi .slt v1797 c0_i32_1343
  let c0_i32_1344 : BitVec 32 := 0#32
  let v1800 : BitVec 1 := Scalar.cmpi .slt v1796 c0_i32_1344
  let v1801 : BitVec 1 := Scalar.xori v1799 v1800
  let c0_i32_1342 : BitVec 32 := 0#32
  let v1798 : BitVec 1 := Scalar.cmpi .ne v1797 c0_i32_1342
  let v1802 : BitVec 1 := Scalar.andi v1801 v1798
  let v1803 : BitVec 32 := Scalar.addi v1797 v1796
  let v1804 : BitVec 32 := Scalar.select v1802 v1803 v1797
  let c1_i32_1348 : BitVec 32 := 1#32
  let v1808 : BitVec 32 := Scalar.muli v1804 c1_i32_1348
  let v1809 : BitVec 32 := Scalar.addi c0_i32_1349 v1808
  v1809.toNat
def k0_mult72 (d0 : Dev nD) : BitVec 32 :=
  let c256_i32_1361 : BitVec 32 := 256#32
  let c8_i32_1360 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1827 : BitVec 32 := Scalar.muli c8_i32_1360 v2
  let v1828 : BitVec 32 := Scalar.addi c256_i32_1361 v1827
  v1828
def k0_dev70 (d0 : Dev nD) : Nat :=
  let c0_i32_1364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1353 : BitVec 32 := 8#32
  let v1816 : BitVec 32 := Scalar.addi v2 c8_i32_1353
  let c32_i32_1354 : BitVec 32 := 32#32
  let c0_i32_1355 : BitVec 32 := 0#32
  let v1817 : BitVec 1 := Scalar.cmpi .eq c32_i32_1354 c0_i32_1355
  let c1_i32_1356 : BitVec 32 := 1#32
  let v1818 : BitVec 32 := Scalar.select v1817 c1_i32_1356 c32_i32_1354
  let v1819 : BitVec 32 := Scalar.remsi v1816 v1818
  let c0_i32_1358 : BitVec 32 := 0#32
  let v1821 : BitVec 1 := Scalar.cmpi .slt v1819 c0_i32_1358
  let c0_i32_1359 : BitVec 32 := 0#32
  let v1822 : BitVec 1 := Scalar.cmpi .slt v1818 c0_i32_1359
  let v1823 : BitVec 1 := Scalar.xori v1821 v1822
  let c0_i32_1357 : BitVec 32 := 0#32
  let v1820 : BitVec 1 := Scalar.cmpi .ne v1819 c0_i32_1357
  let v1824 : BitVec 1 := Scalar.andi v1823 v1820
  let v1825 : BitVec 32 := Scalar.addi v1819 v1818
  let v1826 : BitVec 32 := Scalar.select v1824 v1825 v1819
  let c1_i32_1363 : BitVec 32 := 1#32
  let v1830 : BitVec 32 := Scalar.muli v1826 c1_i32_1363
  let v1831 : BitVec 32 := Scalar.addi c0_i32_1364 v1830
  v1831.toNat
def k0_mult73 (d0 : Dev nD) : BitVec 32 :=
  let c256_i32_1376 : BitVec 32 := 256#32
  let c8_i32_1375 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1849 : BitVec 32 := Scalar.muli c8_i32_1375 v2
  let v1850 : BitVec 32 := Scalar.addi c256_i32_1376 v1849
  v1850
def k0_dev71 (d0 : Dev nD) : Nat :=
  let c0_i32_1379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1368 : BitVec 32 := 9#32
  let v1838 : BitVec 32 := Scalar.addi v2 c9_i32_1368
  let c32_i32_1369 : BitVec 32 := 32#32
  let c0_i32_1370 : BitVec 32 := 0#32
  let v1839 : BitVec 1 := Scalar.cmpi .eq c32_i32_1369 c0_i32_1370
  let c1_i32_1371 : BitVec 32 := 1#32
  let v1840 : BitVec 32 := Scalar.select v1839 c1_i32_1371 c32_i32_1369
  let v1841 : BitVec 32 := Scalar.remsi v1838 v1840
  let c0_i32_1373 : BitVec 32 := 0#32
  let v1843 : BitVec 1 := Scalar.cmpi .slt v1841 c0_i32_1373
  let c0_i32_1374 : BitVec 32 := 0#32
  let v1844 : BitVec 1 := Scalar.cmpi .slt v1840 c0_i32_1374
  let v1845 : BitVec 1 := Scalar.xori v1843 v1844
  let c0_i32_1372 : BitVec 32 := 0#32
  let v1842 : BitVec 1 := Scalar.cmpi .ne v1841 c0_i32_1372
  let v1846 : BitVec 1 := Scalar.andi v1845 v1842
  let v1847 : BitVec 32 := Scalar.addi v1841 v1840
  let v1848 : BitVec 32 := Scalar.select v1846 v1847 v1841
  let c1_i32_1378 : BitVec 32 := 1#32
  let v1852 : BitVec 32 := Scalar.muli v1848 c1_i32_1378
  let v1853 : BitVec 32 := Scalar.addi c0_i32_1379 v1852
  v1853.toNat
def k0_mult74 (d0 : Dev nD) : BitVec 32 :=
  let c256_i32_1391 : BitVec 32 := 256#32
  let c8_i32_1390 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1871 : BitVec 32 := Scalar.muli c8_i32_1390 v2
  let v1872 : BitVec 32 := Scalar.addi c256_i32_1391 v1871
  v1872
def k0_dev72 (d0 : Dev nD) : Nat :=
  let c0_i32_1394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1383 : BitVec 32 := 10#32
  let v1860 : BitVec 32 := Scalar.addi v2 c10_i32_1383
  let c32_i32_1384 : BitVec 32 := 32#32
  let c0_i32_1385 : BitVec 32 := 0#32
  let v1861 : BitVec 1 := Scalar.cmpi .eq c32_i32_1384 c0_i32_1385
  let c1_i32_1386 : BitVec 32 := 1#32
  let v1862 : BitVec 32 := Scalar.select v1861 c1_i32_1386 c32_i32_1384
  let v1863 : BitVec 32 := Scalar.remsi v1860 v1862
  let c0_i32_1388 : BitVec 32 := 0#32
  let v1865 : BitVec 1 := Scalar.cmpi .slt v1863 c0_i32_1388
  let c0_i32_1389 : BitVec 32 := 0#32
  let v1866 : BitVec 1 := Scalar.cmpi .slt v1862 c0_i32_1389
  let v1867 : BitVec 1 := Scalar.xori v1865 v1866
  let c0_i32_1387 : BitVec 32 := 0#32
  let v1864 : BitVec 1 := Scalar.cmpi .ne v1863 c0_i32_1387
  let v1868 : BitVec 1 := Scalar.andi v1867 v1864
  let v1869 : BitVec 32 := Scalar.addi v1863 v1862
  let v1870 : BitVec 32 := Scalar.select v1868 v1869 v1863
  let c1_i32_1393 : BitVec 32 := 1#32
  let v1874 : BitVec 32 := Scalar.muli v1870 c1_i32_1393
  let v1875 : BitVec 32 := Scalar.addi c0_i32_1394 v1874
  v1875.toNat
def k0_mult75 (d0 : Dev nD) : BitVec 32 :=
  let c256_i32_1406 : BitVec 32 := 256#32
  let c8_i32_1405 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1893 : BitVec 32 := Scalar.muli c8_i32_1405 v2
  let v1894 : BitVec 32 := Scalar.addi c256_i32_1406 v1893
  v1894
def k0_dev73 (d0 : Dev nD) : Nat :=
  let c0_i32_1409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1398 : BitVec 32 := 11#32
  let v1882 : BitVec 32 := Scalar.addi v2 c11_i32_1398
  let c32_i32_1399 : BitVec 32 := 32#32
  let c0_i32_1400 : BitVec 32 := 0#32
  let v1883 : BitVec 1 := Scalar.cmpi .eq c32_i32_1399 c0_i32_1400
  let c1_i32_1401 : BitVec 32 := 1#32
  let v1884 : BitVec 32 := Scalar.select v1883 c1_i32_1401 c32_i32_1399
  let v1885 : BitVec 32 := Scalar.remsi v1882 v1884
  let c0_i32_1403 : BitVec 32 := 0#32
  let v1887 : BitVec 1 := Scalar.cmpi .slt v1885 c0_i32_1403
  let c0_i32_1404 : BitVec 32 := 0#32
  let v1888 : BitVec 1 := Scalar.cmpi .slt v1884 c0_i32_1404
  let v1889 : BitVec 1 := Scalar.xori v1887 v1888
  let c0_i32_1402 : BitVec 32 := 0#32
  let v1886 : BitVec 1 := Scalar.cmpi .ne v1885 c0_i32_1402
  let v1890 : BitVec 1 := Scalar.andi v1889 v1886
  let v1891 : BitVec 32 := Scalar.addi v1885 v1884
  let v1892 : BitVec 32 := Scalar.select v1890 v1891 v1885
  let c1_i32_1408 : BitVec 32 := 1#32
  let v1896 : BitVec 32 := Scalar.muli v1892 c1_i32_1408
  let v1897 : BitVec 32 := Scalar.addi c0_i32_1409 v1896
  v1897.toNat
def k0_mult76 (d0 : Dev nD) : BitVec 32 :=
  let c256_i32_1421 : BitVec 32 := 256#32
  let c8_i32_1420 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1915 : BitVec 32 := Scalar.muli c8_i32_1420 v2
  let v1916 : BitVec 32 := Scalar.addi c256_i32_1421 v1915
  v1916
def k0_dev74 (d0 : Dev nD) : Nat :=
  let c0_i32_1424 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1413 : BitVec 32 := 12#32
  let v1904 : BitVec 32 := Scalar.addi v2 c12_i32_1413
  let c32_i32_1414 : BitVec 32 := 32#32
  let c0_i32_1415 : BitVec 32 := 0#32
  let v1905 : BitVec 1 := Scalar.cmpi .eq c32_i32_1414 c0_i32_1415
  let c1_i32_1416 : BitVec 32 := 1#32
  let v1906 : BitVec 32 := Scalar.select v1905 c1_i32_1416 c32_i32_1414
  let v1907 : BitVec 32 := Scalar.remsi v1904 v1906
  let c0_i32_1418 : BitVec 32 := 0#32
  let v1909 : BitVec 1 := Scalar.cmpi .slt v1907 c0_i32_1418
  let c0_i32_1419 : BitVec 32 := 0#32
  let v1910 : BitVec 1 := Scalar.cmpi .slt v1906 c0_i32_1419
  let v1911 : BitVec 1 := Scalar.xori v1909 v1910
  let c0_i32_1417 : BitVec 32 := 0#32
  let v1908 : BitVec 1 := Scalar.cmpi .ne v1907 c0_i32_1417
  let v1912 : BitVec 1 := Scalar.andi v1911 v1908
  let v1913 : BitVec 32 := Scalar.addi v1907 v1906
  let v1914 : BitVec 32 := Scalar.select v1912 v1913 v1907
  let c1_i32_1423 : BitVec 32 := 1#32
  let v1918 : BitVec 32 := Scalar.muli v1914 c1_i32_1423
  let v1919 : BitVec 32 := Scalar.addi c0_i32_1424 v1918
  v1919.toNat
def k0_mult77 (d0 : Dev nD) : BitVec 32 :=
  let c256_i32_1436 : BitVec 32 := 256#32
  let c8_i32_1435 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1937 : BitVec 32 := Scalar.muli c8_i32_1435 v2
  let v1938 : BitVec 32 := Scalar.addi c256_i32_1436 v1937
  v1938
def k0_dev75 (d0 : Dev nD) : Nat :=
  let c0_i32_1439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1428 : BitVec 32 := 13#32
  let v1926 : BitVec 32 := Scalar.addi v2 c13_i32_1428
  let c32_i32_1429 : BitVec 32 := 32#32
  let c0_i32_1430 : BitVec 32 := 0#32
  let v1927 : BitVec 1 := Scalar.cmpi .eq c32_i32_1429 c0_i32_1430
  let c1_i32_1431 : BitVec 32 := 1#32
  let v1928 : BitVec 32 := Scalar.select v1927 c1_i32_1431 c32_i32_1429
  let v1929 : BitVec 32 := Scalar.remsi v1926 v1928
  let c0_i32_1433 : BitVec 32 := 0#32
  let v1931 : BitVec 1 := Scalar.cmpi .slt v1929 c0_i32_1433
  let c0_i32_1434 : BitVec 32 := 0#32
  let v1932 : BitVec 1 := Scalar.cmpi .slt v1928 c0_i32_1434
  let v1933 : BitVec 1 := Scalar.xori v1931 v1932
  let c0_i32_1432 : BitVec 32 := 0#32
  let v1930 : BitVec 1 := Scalar.cmpi .ne v1929 c0_i32_1432
  let v1934 : BitVec 1 := Scalar.andi v1933 v1930
  let v1935 : BitVec 32 := Scalar.addi v1929 v1928
  let v1936 : BitVec 32 := Scalar.select v1934 v1935 v1929
  let c1_i32_1438 : BitVec 32 := 1#32
  let v1940 : BitVec 32 := Scalar.muli v1936 c1_i32_1438
  let v1941 : BitVec 32 := Scalar.addi c0_i32_1439 v1940
  v1941.toNat
def k0_mult78 (d0 : Dev nD) : BitVec 32 :=
  let c256_i32_1451 : BitVec 32 := 256#32
  let c8_i32_1450 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1959 : BitVec 32 := Scalar.muli c8_i32_1450 v2
  let v1960 : BitVec 32 := Scalar.addi c256_i32_1451 v1959
  v1960
def k0_dev76 (d0 : Dev nD) : Nat :=
  let c0_i32_1454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1443 : BitVec 32 := 14#32
  let v1948 : BitVec 32 := Scalar.addi v2 c14_i32_1443
  let c32_i32_1444 : BitVec 32 := 32#32
  let c0_i32_1445 : BitVec 32 := 0#32
  let v1949 : BitVec 1 := Scalar.cmpi .eq c32_i32_1444 c0_i32_1445
  let c1_i32_1446 : BitVec 32 := 1#32
  let v1950 : BitVec 32 := Scalar.select v1949 c1_i32_1446 c32_i32_1444
  let v1951 : BitVec 32 := Scalar.remsi v1948 v1950
  let c0_i32_1448 : BitVec 32 := 0#32
  let v1953 : BitVec 1 := Scalar.cmpi .slt v1951 c0_i32_1448
  let c0_i32_1449 : BitVec 32 := 0#32
  let v1954 : BitVec 1 := Scalar.cmpi .slt v1950 c0_i32_1449
  let v1955 : BitVec 1 := Scalar.xori v1953 v1954
  let c0_i32_1447 : BitVec 32 := 0#32
  let v1952 : BitVec 1 := Scalar.cmpi .ne v1951 c0_i32_1447
  let v1956 : BitVec 1 := Scalar.andi v1955 v1952
  let v1957 : BitVec 32 := Scalar.addi v1951 v1950
  let v1958 : BitVec 32 := Scalar.select v1956 v1957 v1951
  let c1_i32_1453 : BitVec 32 := 1#32
  let v1962 : BitVec 32 := Scalar.muli v1958 c1_i32_1453
  let v1963 : BitVec 32 := Scalar.addi c0_i32_1454 v1962
  v1963.toNat
def k0_mult79 (d0 : Dev nD) : BitVec 32 :=
  let c256_i32_1466 : BitVec 32 := 256#32
  let c8_i32_1465 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1981 : BitVec 32 := Scalar.muli c8_i32_1465 v2
  let v1982 : BitVec 32 := Scalar.addi c256_i32_1466 v1981
  v1982
def k0_dev77 (d0 : Dev nD) : Nat :=
  let c0_i32_1469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1458 : BitVec 32 := 15#32
  let v1970 : BitVec 32 := Scalar.addi v2 c15_i32_1458
  let c32_i32_1459 : BitVec 32 := 32#32
  let c0_i32_1460 : BitVec 32 := 0#32
  let v1971 : BitVec 1 := Scalar.cmpi .eq c32_i32_1459 c0_i32_1460
  let c1_i32_1461 : BitVec 32 := 1#32
  let v1972 : BitVec 32 := Scalar.select v1971 c1_i32_1461 c32_i32_1459
  let v1973 : BitVec 32 := Scalar.remsi v1970 v1972
  let c0_i32_1463 : BitVec 32 := 0#32
  let v1975 : BitVec 1 := Scalar.cmpi .slt v1973 c0_i32_1463
  let c0_i32_1464 : BitVec 32 := 0#32
  let v1976 : BitVec 1 := Scalar.cmpi .slt v1972 c0_i32_1464
  let v1977 : BitVec 1 := Scalar.xori v1975 v1976
  let c0_i32_1462 : BitVec 32 := 0#32
  let v1974 : BitVec 1 := Scalar.cmpi .ne v1973 c0_i32_1462
  let v1978 : BitVec 1 := Scalar.andi v1977 v1974
  let v1979 : BitVec 32 := Scalar.addi v1973 v1972
  let v1980 : BitVec 32 := Scalar.select v1978 v1979 v1973
  let c1_i32_1468 : BitVec 32 := 1#32
  let v1984 : BitVec 32 := Scalar.muli v1980 c1_i32_1468
  let v1985 : BitVec 32 := Scalar.addi c0_i32_1469 v1984
  v1985.toNat
def k0_mult80 (d0 : Dev nD) : BitVec 32 :=
  let c256_i32_1481 : BitVec 32 := 256#32
  let c8_i32_1480 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2003 : BitVec 32 := Scalar.muli c8_i32_1480 v2
  let v2004 : BitVec 32 := Scalar.addi c256_i32_1481 v2003
  v2004
def k0_dev78 (d0 : Dev nD) : Nat :=
  let c0_i32_1484 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1473 : BitVec 32 := 16#32
  let v1992 : BitVec 32 := Scalar.addi v2 c16_i32_1473
  let c32_i32_1474 : BitVec 32 := 32#32
  let c0_i32_1475 : BitVec 32 := 0#32
  let v1993 : BitVec 1 := Scalar.cmpi .eq c32_i32_1474 c0_i32_1475
  let c1_i32_1476 : BitVec 32 := 1#32
  let v1994 : BitVec 32 := Scalar.select v1993 c1_i32_1476 c32_i32_1474
  let v1995 : BitVec 32 := Scalar.remsi v1992 v1994
  let c0_i32_1478 : BitVec 32 := 0#32
  let v1997 : BitVec 1 := Scalar.cmpi .slt v1995 c0_i32_1478
  let c0_i32_1479 : BitVec 32 := 0#32
  let v1998 : BitVec 1 := Scalar.cmpi .slt v1994 c0_i32_1479
  let v1999 : BitVec 1 := Scalar.xori v1997 v1998
  let c0_i32_1477 : BitVec 32 := 0#32
  let v1996 : BitVec 1 := Scalar.cmpi .ne v1995 c0_i32_1477
  let v2000 : BitVec 1 := Scalar.andi v1999 v1996
  let v2001 : BitVec 32 := Scalar.addi v1995 v1994
  let v2002 : BitVec 32 := Scalar.select v2000 v2001 v1995
  let c1_i32_1483 : BitVec 32 := 1#32
  let v2006 : BitVec 32 := Scalar.muli v2002 c1_i32_1483
  let v2007 : BitVec 32 := Scalar.addi c0_i32_1484 v2006
  v2007.toNat
def k0_mult81 (d0 : Dev nD) : BitVec 32 :=
  let c256_i32_1496 : BitVec 32 := 256#32
  let c8_i32_1495 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2025 : BitVec 32 := Scalar.muli c8_i32_1495 v2
  let v2026 : BitVec 32 := Scalar.addi c256_i32_1496 v2025
  v2026
def k0_dev79 (d0 : Dev nD) : Nat :=
  let c0_i32_1499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1488 : BitVec 32 := 17#32
  let v2014 : BitVec 32 := Scalar.addi v2 c17_i32_1488
  let c32_i32_1489 : BitVec 32 := 32#32
  let c0_i32_1490 : BitVec 32 := 0#32
  let v2015 : BitVec 1 := Scalar.cmpi .eq c32_i32_1489 c0_i32_1490
  let c1_i32_1491 : BitVec 32 := 1#32
  let v2016 : BitVec 32 := Scalar.select v2015 c1_i32_1491 c32_i32_1489
  let v2017 : BitVec 32 := Scalar.remsi v2014 v2016
  let c0_i32_1493 : BitVec 32 := 0#32
  let v2019 : BitVec 1 := Scalar.cmpi .slt v2017 c0_i32_1493
  let c0_i32_1494 : BitVec 32 := 0#32
  let v2020 : BitVec 1 := Scalar.cmpi .slt v2016 c0_i32_1494
  let v2021 : BitVec 1 := Scalar.xori v2019 v2020
  let c0_i32_1492 : BitVec 32 := 0#32
  let v2018 : BitVec 1 := Scalar.cmpi .ne v2017 c0_i32_1492
  let v2022 : BitVec 1 := Scalar.andi v2021 v2018
  let v2023 : BitVec 32 := Scalar.addi v2017 v2016
  let v2024 : BitVec 32 := Scalar.select v2022 v2023 v2017
  let c1_i32_1498 : BitVec 32 := 1#32
  let v2028 : BitVec 32 := Scalar.muli v2024 c1_i32_1498
  let v2029 : BitVec 32 := Scalar.addi c0_i32_1499 v2028
  v2029.toNat
def k0_mult82 (d0 : Dev nD) : BitVec 32 :=
  let c256_i32_1511 : BitVec 32 := 256#32
  let c8_i32_1510 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2047 : BitVec 32 := Scalar.muli c8_i32_1510 v2
  let v2048 : BitVec 32 := Scalar.addi c256_i32_1511 v2047
  v2048
def k0_dev80 (d0 : Dev nD) : Nat :=
  let c0_i32_1514 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1503 : BitVec 32 := 18#32
  let v2036 : BitVec 32 := Scalar.addi v2 c18_i32_1503
  let c32_i32_1504 : BitVec 32 := 32#32
  let c0_i32_1505 : BitVec 32 := 0#32
  let v2037 : BitVec 1 := Scalar.cmpi .eq c32_i32_1504 c0_i32_1505
  let c1_i32_1506 : BitVec 32 := 1#32
  let v2038 : BitVec 32 := Scalar.select v2037 c1_i32_1506 c32_i32_1504
  let v2039 : BitVec 32 := Scalar.remsi v2036 v2038
  let c0_i32_1508 : BitVec 32 := 0#32
  let v2041 : BitVec 1 := Scalar.cmpi .slt v2039 c0_i32_1508
  let c0_i32_1509 : BitVec 32 := 0#32
  let v2042 : BitVec 1 := Scalar.cmpi .slt v2038 c0_i32_1509
  let v2043 : BitVec 1 := Scalar.xori v2041 v2042
  let c0_i32_1507 : BitVec 32 := 0#32
  let v2040 : BitVec 1 := Scalar.cmpi .ne v2039 c0_i32_1507
  let v2044 : BitVec 1 := Scalar.andi v2043 v2040
  let v2045 : BitVec 32 := Scalar.addi v2039 v2038
  let v2046 : BitVec 32 := Scalar.select v2044 v2045 v2039
  let c1_i32_1513 : BitVec 32 := 1#32
  let v2050 : BitVec 32 := Scalar.muli v2046 c1_i32_1513
  let v2051 : BitVec 32 := Scalar.addi c0_i32_1514 v2050
  v2051.toNat
def k0_mult83 (d0 : Dev nD) : BitVec 32 :=
  let c256_i32_1526 : BitVec 32 := 256#32
  let c8_i32_1525 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2069 : BitVec 32 := Scalar.muli c8_i32_1525 v2
  let v2070 : BitVec 32 := Scalar.addi c256_i32_1526 v2069
  v2070
def k0_dev81 (d0 : Dev nD) : Nat :=
  let c0_i32_1529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1518 : BitVec 32 := 19#32
  let v2058 : BitVec 32 := Scalar.addi v2 c19_i32_1518
  let c32_i32_1519 : BitVec 32 := 32#32
  let c0_i32_1520 : BitVec 32 := 0#32
  let v2059 : BitVec 1 := Scalar.cmpi .eq c32_i32_1519 c0_i32_1520
  let c1_i32_1521 : BitVec 32 := 1#32
  let v2060 : BitVec 32 := Scalar.select v2059 c1_i32_1521 c32_i32_1519
  let v2061 : BitVec 32 := Scalar.remsi v2058 v2060
  let c0_i32_1523 : BitVec 32 := 0#32
  let v2063 : BitVec 1 := Scalar.cmpi .slt v2061 c0_i32_1523
  let c0_i32_1524 : BitVec 32 := 0#32
  let v2064 : BitVec 1 := Scalar.cmpi .slt v2060 c0_i32_1524
  let v2065 : BitVec 1 := Scalar.xori v2063 v2064
  let c0_i32_1522 : BitVec 32 := 0#32
  let v2062 : BitVec 1 := Scalar.cmpi .ne v2061 c0_i32_1522
  let v2066 : BitVec 1 := Scalar.andi v2065 v2062
  let v2067 : BitVec 32 := Scalar.addi v2061 v2060
  let v2068 : BitVec 32 := Scalar.select v2066 v2067 v2061
  let c1_i32_1528 : BitVec 32 := 1#32
  let v2072 : BitVec 32 := Scalar.muli v2068 c1_i32_1528
  let v2073 : BitVec 32 := Scalar.addi c0_i32_1529 v2072
  v2073.toNat
def k0_mult84 (d0 : Dev nD) : BitVec 32 :=
  let c256_i32_1541 : BitVec 32 := 256#32
  let c8_i32_1540 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2091 : BitVec 32 := Scalar.muli c8_i32_1540 v2
  let v2092 : BitVec 32 := Scalar.addi c256_i32_1541 v2091
  v2092
def k0_dev82 (d0 : Dev nD) : Nat :=
  let c0_i32_1544 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1533 : BitVec 32 := 20#32
  let v2080 : BitVec 32 := Scalar.addi v2 c20_i32_1533
  let c32_i32_1534 : BitVec 32 := 32#32
  let c0_i32_1535 : BitVec 32 := 0#32
  let v2081 : BitVec 1 := Scalar.cmpi .eq c32_i32_1534 c0_i32_1535
  let c1_i32_1536 : BitVec 32 := 1#32
  let v2082 : BitVec 32 := Scalar.select v2081 c1_i32_1536 c32_i32_1534
  let v2083 : BitVec 32 := Scalar.remsi v2080 v2082
  let c0_i32_1538 : BitVec 32 := 0#32
  let v2085 : BitVec 1 := Scalar.cmpi .slt v2083 c0_i32_1538
  let c0_i32_1539 : BitVec 32 := 0#32
  let v2086 : BitVec 1 := Scalar.cmpi .slt v2082 c0_i32_1539
  let v2087 : BitVec 1 := Scalar.xori v2085 v2086
  let c0_i32_1537 : BitVec 32 := 0#32
  let v2084 : BitVec 1 := Scalar.cmpi .ne v2083 c0_i32_1537
  let v2088 : BitVec 1 := Scalar.andi v2087 v2084
  let v2089 : BitVec 32 := Scalar.addi v2083 v2082
  let v2090 : BitVec 32 := Scalar.select v2088 v2089 v2083
  let c1_i32_1543 : BitVec 32 := 1#32
  let v2094 : BitVec 32 := Scalar.muli v2090 c1_i32_1543
  let v2095 : BitVec 32 := Scalar.addi c0_i32_1544 v2094
  v2095.toNat
def k0_mult85 (d0 : Dev nD) : BitVec 32 :=
  let c256_i32_1556 : BitVec 32 := 256#32
  let c8_i32_1555 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2113 : BitVec 32 := Scalar.muli c8_i32_1555 v2
  let v2114 : BitVec 32 := Scalar.addi c256_i32_1556 v2113
  v2114
def k0_dev83 (d0 : Dev nD) : Nat :=
  let c0_i32_1559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1548 : BitVec 32 := 21#32
  let v2102 : BitVec 32 := Scalar.addi v2 c21_i32_1548
  let c32_i32_1549 : BitVec 32 := 32#32
  let c0_i32_1550 : BitVec 32 := 0#32
  let v2103 : BitVec 1 := Scalar.cmpi .eq c32_i32_1549 c0_i32_1550
  let c1_i32_1551 : BitVec 32 := 1#32
  let v2104 : BitVec 32 := Scalar.select v2103 c1_i32_1551 c32_i32_1549
  let v2105 : BitVec 32 := Scalar.remsi v2102 v2104
  let c0_i32_1553 : BitVec 32 := 0#32
  let v2107 : BitVec 1 := Scalar.cmpi .slt v2105 c0_i32_1553
  let c0_i32_1554 : BitVec 32 := 0#32
  let v2108 : BitVec 1 := Scalar.cmpi .slt v2104 c0_i32_1554
  let v2109 : BitVec 1 := Scalar.xori v2107 v2108
  let c0_i32_1552 : BitVec 32 := 0#32
  let v2106 : BitVec 1 := Scalar.cmpi .ne v2105 c0_i32_1552
  let v2110 : BitVec 1 := Scalar.andi v2109 v2106
  let v2111 : BitVec 32 := Scalar.addi v2105 v2104
  let v2112 : BitVec 32 := Scalar.select v2110 v2111 v2105
  let c1_i32_1558 : BitVec 32 := 1#32
  let v2116 : BitVec 32 := Scalar.muli v2112 c1_i32_1558
  let v2117 : BitVec 32 := Scalar.addi c0_i32_1559 v2116
  v2117.toNat
def k0_mult86 (d0 : Dev nD) : BitVec 32 :=
  let c256_i32_1571 : BitVec 32 := 256#32
  let c8_i32_1570 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2135 : BitVec 32 := Scalar.muli c8_i32_1570 v2
  let v2136 : BitVec 32 := Scalar.addi c256_i32_1571 v2135
  v2136
def k0_dev84 (d0 : Dev nD) : Nat :=
  let c0_i32_1574 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1563 : BitVec 32 := 22#32
  let v2124 : BitVec 32 := Scalar.addi v2 c22_i32_1563
  let c32_i32_1564 : BitVec 32 := 32#32
  let c0_i32_1565 : BitVec 32 := 0#32
  let v2125 : BitVec 1 := Scalar.cmpi .eq c32_i32_1564 c0_i32_1565
  let c1_i32_1566 : BitVec 32 := 1#32
  let v2126 : BitVec 32 := Scalar.select v2125 c1_i32_1566 c32_i32_1564
  let v2127 : BitVec 32 := Scalar.remsi v2124 v2126
  let c0_i32_1568 : BitVec 32 := 0#32
  let v2129 : BitVec 1 := Scalar.cmpi .slt v2127 c0_i32_1568
  let c0_i32_1569 : BitVec 32 := 0#32
  let v2130 : BitVec 1 := Scalar.cmpi .slt v2126 c0_i32_1569
  let v2131 : BitVec 1 := Scalar.xori v2129 v2130
  let c0_i32_1567 : BitVec 32 := 0#32
  let v2128 : BitVec 1 := Scalar.cmpi .ne v2127 c0_i32_1567
  let v2132 : BitVec 1 := Scalar.andi v2131 v2128
  let v2133 : BitVec 32 := Scalar.addi v2127 v2126
  let v2134 : BitVec 32 := Scalar.select v2132 v2133 v2127
  let c1_i32_1573 : BitVec 32 := 1#32
  let v2138 : BitVec 32 := Scalar.muli v2134 c1_i32_1573
  let v2139 : BitVec 32 := Scalar.addi c0_i32_1574 v2138
  v2139.toNat
def k0_mult87 (d0 : Dev nD) : BitVec 32 :=
  let c256_i32_1586 : BitVec 32 := 256#32
  let c8_i32_1585 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2157 : BitVec 32 := Scalar.muli c8_i32_1585 v2
  let v2158 : BitVec 32 := Scalar.addi c256_i32_1586 v2157
  v2158
def k0_dev85 (d0 : Dev nD) : Nat :=
  let c0_i32_1589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1578 : BitVec 32 := 23#32
  let v2146 : BitVec 32 := Scalar.addi v2 c23_i32_1578
  let c32_i32_1579 : BitVec 32 := 32#32
  let c0_i32_1580 : BitVec 32 := 0#32
  let v2147 : BitVec 1 := Scalar.cmpi .eq c32_i32_1579 c0_i32_1580
  let c1_i32_1581 : BitVec 32 := 1#32
  let v2148 : BitVec 32 := Scalar.select v2147 c1_i32_1581 c32_i32_1579
  let v2149 : BitVec 32 := Scalar.remsi v2146 v2148
  let c0_i32_1583 : BitVec 32 := 0#32
  let v2151 : BitVec 1 := Scalar.cmpi .slt v2149 c0_i32_1583
  let c0_i32_1584 : BitVec 32 := 0#32
  let v2152 : BitVec 1 := Scalar.cmpi .slt v2148 c0_i32_1584
  let v2153 : BitVec 1 := Scalar.xori v2151 v2152
  let c0_i32_1582 : BitVec 32 := 0#32
  let v2150 : BitVec 1 := Scalar.cmpi .ne v2149 c0_i32_1582
  let v2154 : BitVec 1 := Scalar.andi v2153 v2150
  let v2155 : BitVec 32 := Scalar.addi v2149 v2148
  let v2156 : BitVec 32 := Scalar.select v2154 v2155 v2149
  let c1_i32_1588 : BitVec 32 := 1#32
  let v2160 : BitVec 32 := Scalar.muli v2156 c1_i32_1588
  let v2161 : BitVec 32 := Scalar.addi c0_i32_1589 v2160
  v2161.toNat
def k0_mult88 (d0 : Dev nD) : BitVec 32 :=
  let c256_i32_1601 : BitVec 32 := 256#32
  let c8_i32_1600 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2179 : BitVec 32 := Scalar.muli c8_i32_1600 v2
  let v2180 : BitVec 32 := Scalar.addi c256_i32_1601 v2179
  v2180
def k0_dev86 (d0 : Dev nD) : Nat :=
  let c0_i32_1604 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1593 : BitVec 32 := 24#32
  let v2168 : BitVec 32 := Scalar.addi v2 c24_i32_1593
  let c32_i32_1594 : BitVec 32 := 32#32
  let c0_i32_1595 : BitVec 32 := 0#32
  let v2169 : BitVec 1 := Scalar.cmpi .eq c32_i32_1594 c0_i32_1595
  let c1_i32_1596 : BitVec 32 := 1#32
  let v2170 : BitVec 32 := Scalar.select v2169 c1_i32_1596 c32_i32_1594
  let v2171 : BitVec 32 := Scalar.remsi v2168 v2170
  let c0_i32_1598 : BitVec 32 := 0#32
  let v2173 : BitVec 1 := Scalar.cmpi .slt v2171 c0_i32_1598
  let c0_i32_1599 : BitVec 32 := 0#32
  let v2174 : BitVec 1 := Scalar.cmpi .slt v2170 c0_i32_1599
  let v2175 : BitVec 1 := Scalar.xori v2173 v2174
  let c0_i32_1597 : BitVec 32 := 0#32
  let v2172 : BitVec 1 := Scalar.cmpi .ne v2171 c0_i32_1597
  let v2176 : BitVec 1 := Scalar.andi v2175 v2172
  let v2177 : BitVec 32 := Scalar.addi v2171 v2170
  let v2178 : BitVec 32 := Scalar.select v2176 v2177 v2171
  let c1_i32_1603 : BitVec 32 := 1#32
  let v2182 : BitVec 32 := Scalar.muli v2178 c1_i32_1603
  let v2183 : BitVec 32 := Scalar.addi c0_i32_1604 v2182
  v2183.toNat
def k0_mult89 (d0 : Dev nD) : BitVec 32 :=
  let c256_i32_1616 : BitVec 32 := 256#32
  let c8_i32_1615 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2201 : BitVec 32 := Scalar.muli c8_i32_1615 v2
  let v2202 : BitVec 32 := Scalar.addi c256_i32_1616 v2201
  v2202
def k0_dev87 (d0 : Dev nD) : Nat :=
  let c0_i32_1619 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1608 : BitVec 32 := 25#32
  let v2190 : BitVec 32 := Scalar.addi v2 c25_i32_1608
  let c32_i32_1609 : BitVec 32 := 32#32
  let c0_i32_1610 : BitVec 32 := 0#32
  let v2191 : BitVec 1 := Scalar.cmpi .eq c32_i32_1609 c0_i32_1610
  let c1_i32_1611 : BitVec 32 := 1#32
  let v2192 : BitVec 32 := Scalar.select v2191 c1_i32_1611 c32_i32_1609
  let v2193 : BitVec 32 := Scalar.remsi v2190 v2192
  let c0_i32_1613 : BitVec 32 := 0#32
  let v2195 : BitVec 1 := Scalar.cmpi .slt v2193 c0_i32_1613
  let c0_i32_1614 : BitVec 32 := 0#32
  let v2196 : BitVec 1 := Scalar.cmpi .slt v2192 c0_i32_1614
  let v2197 : BitVec 1 := Scalar.xori v2195 v2196
  let c0_i32_1612 : BitVec 32 := 0#32
  let v2194 : BitVec 1 := Scalar.cmpi .ne v2193 c0_i32_1612
  let v2198 : BitVec 1 := Scalar.andi v2197 v2194
  let v2199 : BitVec 32 := Scalar.addi v2193 v2192
  let v2200 : BitVec 32 := Scalar.select v2198 v2199 v2193
  let c1_i32_1618 : BitVec 32 := 1#32
  let v2204 : BitVec 32 := Scalar.muli v2200 c1_i32_1618
  let v2205 : BitVec 32 := Scalar.addi c0_i32_1619 v2204
  v2205.toNat
def k0_mult90 (d0 : Dev nD) : BitVec 32 :=
  let c256_i32_1631 : BitVec 32 := 256#32
  let c8_i32_1630 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2223 : BitVec 32 := Scalar.muli c8_i32_1630 v2
  let v2224 : BitVec 32 := Scalar.addi c256_i32_1631 v2223
  v2224
def k0_dev88 (d0 : Dev nD) : Nat :=
  let c0_i32_1634 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1623 : BitVec 32 := 26#32
  let v2212 : BitVec 32 := Scalar.addi v2 c26_i32_1623
  let c32_i32_1624 : BitVec 32 := 32#32
  let c0_i32_1625 : BitVec 32 := 0#32
  let v2213 : BitVec 1 := Scalar.cmpi .eq c32_i32_1624 c0_i32_1625
  let c1_i32_1626 : BitVec 32 := 1#32
  let v2214 : BitVec 32 := Scalar.select v2213 c1_i32_1626 c32_i32_1624
  let v2215 : BitVec 32 := Scalar.remsi v2212 v2214
  let c0_i32_1628 : BitVec 32 := 0#32
  let v2217 : BitVec 1 := Scalar.cmpi .slt v2215 c0_i32_1628
  let c0_i32_1629 : BitVec 32 := 0#32
  let v2218 : BitVec 1 := Scalar.cmpi .slt v2214 c0_i32_1629
  let v2219 : BitVec 1 := Scalar.xori v2217 v2218
  let c0_i32_1627 : BitVec 32 := 0#32
  let v2216 : BitVec 1 := Scalar.cmpi .ne v2215 c0_i32_1627
  let v2220 : BitVec 1 := Scalar.andi v2219 v2216
  let v2221 : BitVec 32 := Scalar.addi v2215 v2214
  let v2222 : BitVec 32 := Scalar.select v2220 v2221 v2215
  let c1_i32_1633 : BitVec 32 := 1#32
  let v2226 : BitVec 32 := Scalar.muli v2222 c1_i32_1633
  let v2227 : BitVec 32 := Scalar.addi c0_i32_1634 v2226
  v2227.toNat
def k0_mult91 (d0 : Dev nD) : BitVec 32 :=
  let c256_i32_1646 : BitVec 32 := 256#32
  let c8_i32_1645 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2245 : BitVec 32 := Scalar.muli c8_i32_1645 v2
  let v2246 : BitVec 32 := Scalar.addi c256_i32_1646 v2245
  v2246
def k0_dev89 (d0 : Dev nD) : Nat :=
  let c0_i32_1649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1638 : BitVec 32 := 27#32
  let v2234 : BitVec 32 := Scalar.addi v2 c27_i32_1638
  let c32_i32_1639 : BitVec 32 := 32#32
  let c0_i32_1640 : BitVec 32 := 0#32
  let v2235 : BitVec 1 := Scalar.cmpi .eq c32_i32_1639 c0_i32_1640
  let c1_i32_1641 : BitVec 32 := 1#32
  let v2236 : BitVec 32 := Scalar.select v2235 c1_i32_1641 c32_i32_1639
  let v2237 : BitVec 32 := Scalar.remsi v2234 v2236
  let c0_i32_1643 : BitVec 32 := 0#32
  let v2239 : BitVec 1 := Scalar.cmpi .slt v2237 c0_i32_1643
  let c0_i32_1644 : BitVec 32 := 0#32
  let v2240 : BitVec 1 := Scalar.cmpi .slt v2236 c0_i32_1644
  let v2241 : BitVec 1 := Scalar.xori v2239 v2240
  let c0_i32_1642 : BitVec 32 := 0#32
  let v2238 : BitVec 1 := Scalar.cmpi .ne v2237 c0_i32_1642
  let v2242 : BitVec 1 := Scalar.andi v2241 v2238
  let v2243 : BitVec 32 := Scalar.addi v2237 v2236
  let v2244 : BitVec 32 := Scalar.select v2242 v2243 v2237
  let c1_i32_1648 : BitVec 32 := 1#32
  let v2248 : BitVec 32 := Scalar.muli v2244 c1_i32_1648
  let v2249 : BitVec 32 := Scalar.addi c0_i32_1649 v2248
  v2249.toNat
def k0_mult92 (d0 : Dev nD) : BitVec 32 :=
  let c256_i32_1661 : BitVec 32 := 256#32
  let c8_i32_1660 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2267 : BitVec 32 := Scalar.muli c8_i32_1660 v2
  let v2268 : BitVec 32 := Scalar.addi c256_i32_1661 v2267
  v2268
def k0_dev90 (d0 : Dev nD) : Nat :=
  let c0_i32_1664 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1653 : BitVec 32 := 28#32
  let v2256 : BitVec 32 := Scalar.addi v2 c28_i32_1653
  let c32_i32_1654 : BitVec 32 := 32#32
  let c0_i32_1655 : BitVec 32 := 0#32
  let v2257 : BitVec 1 := Scalar.cmpi .eq c32_i32_1654 c0_i32_1655
  let c1_i32_1656 : BitVec 32 := 1#32
  let v2258 : BitVec 32 := Scalar.select v2257 c1_i32_1656 c32_i32_1654
  let v2259 : BitVec 32 := Scalar.remsi v2256 v2258
  let c0_i32_1658 : BitVec 32 := 0#32
  let v2261 : BitVec 1 := Scalar.cmpi .slt v2259 c0_i32_1658
  let c0_i32_1659 : BitVec 32 := 0#32
  let v2262 : BitVec 1 := Scalar.cmpi .slt v2258 c0_i32_1659
  let v2263 : BitVec 1 := Scalar.xori v2261 v2262
  let c0_i32_1657 : BitVec 32 := 0#32
  let v2260 : BitVec 1 := Scalar.cmpi .ne v2259 c0_i32_1657
  let v2264 : BitVec 1 := Scalar.andi v2263 v2260
  let v2265 : BitVec 32 := Scalar.addi v2259 v2258
  let v2266 : BitVec 32 := Scalar.select v2264 v2265 v2259
  let c1_i32_1663 : BitVec 32 := 1#32
  let v2270 : BitVec 32 := Scalar.muli v2266 c1_i32_1663
  let v2271 : BitVec 32 := Scalar.addi c0_i32_1664 v2270
  v2271.toNat
def k0_mult93 (d0 : Dev nD) : BitVec 32 :=
  let c256_i32_1676 : BitVec 32 := 256#32
  let c8_i32_1675 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2289 : BitVec 32 := Scalar.muli c8_i32_1675 v2
  let v2290 : BitVec 32 := Scalar.addi c256_i32_1676 v2289
  v2290
def k0_dev91 (d0 : Dev nD) : Nat :=
  let c0_i32_1679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1668 : BitVec 32 := 29#32
  let v2278 : BitVec 32 := Scalar.addi v2 c29_i32_1668
  let c32_i32_1669 : BitVec 32 := 32#32
  let c0_i32_1670 : BitVec 32 := 0#32
  let v2279 : BitVec 1 := Scalar.cmpi .eq c32_i32_1669 c0_i32_1670
  let c1_i32_1671 : BitVec 32 := 1#32
  let v2280 : BitVec 32 := Scalar.select v2279 c1_i32_1671 c32_i32_1669
  let v2281 : BitVec 32 := Scalar.remsi v2278 v2280
  let c0_i32_1673 : BitVec 32 := 0#32
  let v2283 : BitVec 1 := Scalar.cmpi .slt v2281 c0_i32_1673
  let c0_i32_1674 : BitVec 32 := 0#32
  let v2284 : BitVec 1 := Scalar.cmpi .slt v2280 c0_i32_1674
  let v2285 : BitVec 1 := Scalar.xori v2283 v2284
  let c0_i32_1672 : BitVec 32 := 0#32
  let v2282 : BitVec 1 := Scalar.cmpi .ne v2281 c0_i32_1672
  let v2286 : BitVec 1 := Scalar.andi v2285 v2282
  let v2287 : BitVec 32 := Scalar.addi v2281 v2280
  let v2288 : BitVec 32 := Scalar.select v2286 v2287 v2281
  let c1_i32_1678 : BitVec 32 := 1#32
  let v2292 : BitVec 32 := Scalar.muli v2288 c1_i32_1678
  let v2293 : BitVec 32 := Scalar.addi c0_i32_1679 v2292
  v2293.toNat
def k0_mult94 (d0 : Dev nD) : BitVec 32 :=
  let c256_i32_1691 : BitVec 32 := 256#32
  let c8_i32_1690 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2311 : BitVec 32 := Scalar.muli c8_i32_1690 v2
  let v2312 : BitVec 32 := Scalar.addi c256_i32_1691 v2311
  v2312
def k0_dev92 (d0 : Dev nD) : Nat :=
  let c0_i32_1694 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1683 : BitVec 32 := 30#32
  let v2300 : BitVec 32 := Scalar.addi v2 c30_i32_1683
  let c32_i32_1684 : BitVec 32 := 32#32
  let c0_i32_1685 : BitVec 32 := 0#32
  let v2301 : BitVec 1 := Scalar.cmpi .eq c32_i32_1684 c0_i32_1685
  let c1_i32_1686 : BitVec 32 := 1#32
  let v2302 : BitVec 32 := Scalar.select v2301 c1_i32_1686 c32_i32_1684
  let v2303 : BitVec 32 := Scalar.remsi v2300 v2302
  let c0_i32_1688 : BitVec 32 := 0#32
  let v2305 : BitVec 1 := Scalar.cmpi .slt v2303 c0_i32_1688
  let c0_i32_1689 : BitVec 32 := 0#32
  let v2306 : BitVec 1 := Scalar.cmpi .slt v2302 c0_i32_1689
  let v2307 : BitVec 1 := Scalar.xori v2305 v2306
  let c0_i32_1687 : BitVec 32 := 0#32
  let v2304 : BitVec 1 := Scalar.cmpi .ne v2303 c0_i32_1687
  let v2308 : BitVec 1 := Scalar.andi v2307 v2304
  let v2309 : BitVec 32 := Scalar.addi v2303 v2302
  let v2310 : BitVec 32 := Scalar.select v2308 v2309 v2303
  let c1_i32_1693 : BitVec 32 := 1#32
  let v2314 : BitVec 32 := Scalar.muli v2310 c1_i32_1693
  let v2315 : BitVec 32 := Scalar.addi c0_i32_1694 v2314
  v2315.toNat
def k0_mult95 (d0 : Dev nD) : BitVec 32 :=
  let c256_i32_1706 : BitVec 32 := 256#32
  let c8_i32_1705 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2333 : BitVec 32 := Scalar.muli c8_i32_1705 v2
  let v2334 : BitVec 32 := Scalar.addi c256_i32_1706 v2333
  v2334
def k0_dev93 (d0 : Dev nD) : Nat :=
  let c0_i32_1709 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1698 : BitVec 32 := 31#32
  let v2322 : BitVec 32 := Scalar.addi v2 c31_i32_1698
  let c32_i32_1699 : BitVec 32 := 32#32
  let c0_i32_1700 : BitVec 32 := 0#32
  let v2323 : BitVec 1 := Scalar.cmpi .eq c32_i32_1699 c0_i32_1700
  let c1_i32_1701 : BitVec 32 := 1#32
  let v2324 : BitVec 32 := Scalar.select v2323 c1_i32_1701 c32_i32_1699
  let v2325 : BitVec 32 := Scalar.remsi v2322 v2324
  let c0_i32_1703 : BitVec 32 := 0#32
  let v2327 : BitVec 1 := Scalar.cmpi .slt v2325 c0_i32_1703
  let c0_i32_1704 : BitVec 32 := 0#32
  let v2328 : BitVec 1 := Scalar.cmpi .slt v2324 c0_i32_1704
  let v2329 : BitVec 1 := Scalar.xori v2327 v2328
  let c0_i32_1702 : BitVec 32 := 0#32
  let v2326 : BitVec 1 := Scalar.cmpi .ne v2325 c0_i32_1702
  let v2330 : BitVec 1 := Scalar.andi v2329 v2326
  let v2331 : BitVec 32 := Scalar.addi v2325 v2324
  let v2332 : BitVec 32 := Scalar.select v2330 v2331 v2325
  let c1_i32_1708 : BitVec 32 := 1#32
  let v2336 : BitVec 32 := Scalar.muli v2332 c1_i32_1708
  let v2337 : BitVec 32 := Scalar.addi c0_i32_1709 v2336
  v2337.toNat
def k0_mult96 (d0 : Dev nD) : BitVec 32 :=
  let c256_i32_1715 : BitVec 32 := 256#32
  let c8_i32_394 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v580 : BitVec 32 := Scalar.muli c8_i32_394 v2
  let v581 : BitVec 32 := v580
  let v2345 : BitVec 32 := Scalar.addi c256_i32_1715 v581
  v2345
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x256x1024 : Shape := ⟨3, ![1, 256, 1024]⟩
abbrev S1024x32768 : Shape := ⟨2, ![1024, 32768]⟩
abbrev S1x4096x64x128 : Shape := ⟨4, ![1, 4096, 64, 128]⟩
abbrev S32768x1024 : Shape := ⟨2, ![32768, 1024]⟩
abbrev S1x256x32768 : Shape := ⟨3, ![1, 256, 32768]⟩
abbrev S1x256x256x128 : Shape := ⟨4, ![1, 256, 256, 128]⟩
abbrev S1x4096x64x4x128 : Shape := ⟨5, ![1, 4096, 64, 4, 128]⟩
abbrev S1x4096x256x128 : Shape := ⟨4, ![1, 4096, 256, 128]⟩
abbrev S_ : Shape := ⟨0, ![]⟩
abbrev S1x256x256x1 : Shape := ⟨4, ![1, 256, 256, 1]⟩
abbrev S1x1024x256x128 : Shape := ⟨4, ![1, 1024, 256, 128]⟩
abbrev S1x256x256x1024 : Shape := ⟨4, ![1, 256, 256, 1024]⟩
abbrev S1x256x256 : Shape := ⟨3, ![1, 256, 256]⟩
abbrev S1x256x128x256 : Shape := ⟨4, ![1, 256, 128, 256]⟩

abbrev nBuf : Space → Nat
  | .hbm => 126
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x32768, .f32⟩
  | .hbm, ⟨2, _⟩ => ⟨S1x4096x64x128, .f32⟩
  | .hbm, ⟨3, _⟩ => ⟨S1x4096x64x128, .f32⟩
  | .hbm, ⟨4, _⟩ => ⟨S32768x1024, .f32⟩
  | .hbm, ⟨5, _⟩ => ⟨S1x256x32768, .f32⟩
  | .hbm, ⟨6, _⟩ => ⟨S1x256x256x128, .f32⟩
  | .hbm, ⟨7, _⟩ => ⟨S1x4096x64x4x128, .f32⟩
  | .hbm, ⟨8, _⟩ => ⟨S1x4096x256x128, .f32⟩
  | .hbm, ⟨9, _⟩ => ⟨S1x4096x64x4x128, .f32⟩
  | .hbm, ⟨10, _⟩ => ⟨S1x4096x256x128, .f32⟩
  | .hbm, ⟨11, _⟩ => ⟨S_, .f32⟩
  | .hbm, ⟨12, _⟩ => ⟨S1x256x256x128, .f32⟩
  | .hbm, ⟨13, _⟩ => ⟨S_, .f32⟩
  | .hbm, ⟨14, _⟩ => ⟨S1x256x256x1, .f32⟩
  | .hbm, ⟨15, _⟩ => ⟨S_, .f32⟩
  | .hbm, ⟨16, _⟩ => ⟨S1x256x256x1, .f32⟩
  | .hbm, ⟨17, _⟩ => ⟨S1x1024x256x128, .f32⟩
  | .hbm, ⟨18, _⟩ => ⟨S1x1024x256x128, .f32⟩
  | .hbm, ⟨19, _⟩ => ⟨S1x256x256x1024, .f32⟩
  | .hbm, ⟨20, _⟩ => ⟨S_, .f32⟩
  | .hbm, ⟨21, _⟩ => ⟨S1x256x256x1024, .f32⟩
  | .hbm, ⟨22, _⟩ => ⟨S1x256x256x1024, .f32⟩
  | .hbm, ⟨23, _⟩ => ⟨S_, .f32⟩
  | .hbm, ⟨24, _⟩ => ⟨S1x256x256, .f32⟩
  | .hbm, ⟨25, _⟩ => ⟨S1x256x256x1, .f32⟩
  | .hbm, ⟨26, _⟩ => ⟨S1x256x256x1, .f32⟩
  | .hbm, ⟨27, _⟩ => ⟨S1x256x256x1, .f32⟩
  | .hbm, ⟨28, _⟩ => ⟨S1x256x256x1, .f32⟩
  | .hbm, ⟨29, _⟩ => ⟨S1x256x256x1024, .f32⟩
  | .hbm, ⟨30, _⟩ => ⟨S1x256x256x1024, .f32⟩
  | .hbm, ⟨31, _⟩ => ⟨S1x256x256x1024, .f32⟩
  | .hbm, ⟨32, _⟩ => ⟨S1x256x256x1, .f32⟩
  | .hbm, ⟨33, _⟩ => ⟨S_, .f32⟩
  | .hbm, ⟨34, _⟩ => ⟨S1x256x256, .f32⟩
  | .hbm, ⟨35, _⟩ => ⟨S1x256x256x1, .f32⟩
  | .hbm, ⟨36, _⟩ => ⟨S1x256x256x1, .f32⟩
  | .hbm, ⟨37, _⟩ => ⟨S1x256x256x1, .f32⟩
  | .hbm, ⟨38, _⟩ => ⟨S1x256x256x128, .f32⟩
  | .hbm, ⟨39, _⟩ => ⟨S1x256x256x128, .f32⟩
  | .hbm, ⟨40, _⟩ => ⟨S1x256x128x256, .f32⟩
  | .hbm, ⟨41, _⟩ => ⟨S1x256x256x128, .f32⟩
  | .hbm, ⟨42, _⟩ => ⟨S1x256x256x128, .f32⟩
  | .hbm, ⟨43, _⟩ => ⟨S1x1024x256x128, .f32⟩
  | .hbm, ⟨44, _⟩ => ⟨S1x1024x256x128, .f32⟩
  | .hbm, ⟨45, _⟩ => ⟨S1x256x256x1024, .f32⟩
  | .hbm, ⟨46, _⟩ => ⟨S_, .f32⟩
  | .hbm, ⟨47, _⟩ => ⟨S1x256x256x1024, .f32⟩
  | .hbm, ⟨48, _⟩ => ⟨S1x256x256x1024, .f32⟩
  | .hbm, ⟨49, _⟩ => ⟨S_, .f32⟩
  | .hbm, ⟨50, _⟩ => ⟨S1x256x256, .f32⟩
  | .hbm, ⟨51, _⟩ => ⟨S1x256x256x1, .f32⟩
  | .hbm, ⟨52, _⟩ => ⟨S1x256x256x1, .f32⟩
  | .hbm, ⟨53, _⟩ => ⟨S1x256x256x1, .f32⟩
  | .hbm, ⟨54, _⟩ => ⟨S1x256x256x1, .f32⟩
  | .hbm, ⟨55, _⟩ => ⟨S1x256x256x1024, .f32⟩
  | .hbm, ⟨56, _⟩ => ⟨S1x256x256x1024, .f32⟩
  | .hbm, ⟨57, _⟩ => ⟨S1x256x256x1024, .f32⟩
  | .hbm, ⟨58, _⟩ => ⟨S1x256x256x1, .f32⟩
  | .hbm, ⟨59, _⟩ => ⟨S_, .f32⟩
  | .hbm, ⟨60, _⟩ => ⟨S1x256x256, .f32⟩
  | .hbm, ⟨61, _⟩ => ⟨S1x256x256x1, .f32⟩
  | .hbm, ⟨62, _⟩ => ⟨S1x256x256x1, .f32⟩
  | .hbm, ⟨63, _⟩ => ⟨S1x256x256x1, .f32⟩
  | .hbm, ⟨64, _⟩ => ⟨S1x256x256x128, .f32⟩
  | .hbm, ⟨65, _⟩ => ⟨S1x256x256x128, .f32⟩
  | .hbm, ⟨66, _⟩ => ⟨S1x256x128x256, .f32⟩
  | .hbm, ⟨67, _⟩ => ⟨S1x256x256x128, .f32⟩
  | .hbm, ⟨68, _⟩ => ⟨S1x256x256x128, .f32⟩
  | .hbm, ⟨69, _⟩ => ⟨S1x1024x256x128, .f32⟩
  | .hbm, ⟨70, _⟩ => ⟨S1x1024x256x128, .f32⟩
  | .hbm, ⟨71, _⟩ => ⟨S1x256x256x1024, .f32⟩
  | .hbm, ⟨72, _⟩ => ⟨S_, .f32⟩
  | .hbm, ⟨73, _⟩ => ⟨S1x256x256x1024, .f32⟩
  | .hbm, ⟨74, _⟩ => ⟨S1x256x256x1024, .f32⟩
  | .hbm, ⟨75, _⟩ => ⟨S_, .f32⟩
  | .hbm, ⟨76, _⟩ => ⟨S1x256x256, .f32⟩
  | .hbm, ⟨77, _⟩ => ⟨S1x256x256x1, .f32⟩
  | .hbm, ⟨78, _⟩ => ⟨S1x256x256x1, .f32⟩
  | .hbm, ⟨79, _⟩ => ⟨S1x256x256x1, .f32⟩
  | .hbm, ⟨80, _⟩ => ⟨S1x256x256x1, .f32⟩
  | .hbm, ⟨81, _⟩ => ⟨S1x256x256x1024, .f32⟩
  | .hbm, ⟨82, _⟩ => ⟨S1x256x256x1024, .f32⟩
  | .hbm, ⟨83, _⟩ => ⟨S1x256x256x1024, .f32⟩
  | .hbm, ⟨84, _⟩ => ⟨S1x256x256x1, .f32⟩
  | .hbm, ⟨85, _⟩ => ⟨S_, .f32⟩
  | .hbm, ⟨86, _⟩ => ⟨S1x256x256, .f32⟩
  | .hbm, ⟨87, _⟩ => ⟨S1x256x256x1, .f32⟩
  | .hbm, ⟨88, _⟩ => ⟨S1x256x256x1, .f32⟩
  | .hbm, ⟨89, _⟩ => ⟨S1x256x256x1, .f32⟩
  | .hbm, ⟨90, _⟩ => ⟨S1x256x256x128, .f32⟩
  | .hbm, ⟨91, _⟩ => ⟨S1x256x256x128, .f32⟩
  | .hbm, ⟨92, _⟩ => ⟨S1x256x128x256, .f32⟩
  | .hbm, ⟨93, _⟩ => ⟨S1x256x256x128, .f32⟩
  | .hbm, ⟨94, _⟩ => ⟨S1x256x256x128, .f32⟩
  | .hbm, ⟨95, _⟩ => ⟨S1x1024x256x128, .f32⟩
  | .hbm, ⟨96, _⟩ => ⟨S1x1024x256x128, .f32⟩
  | .hbm, ⟨97, _⟩ => ⟨S1x256x256x1024, .f32⟩
  | .hbm, ⟨98, _⟩ => ⟨S_, .f32⟩
  | .hbm, ⟨99, _⟩ => ⟨S1x256x256x1024, .f32⟩
  | .hbm, ⟨100, _⟩ => ⟨S1x256x256x1024, .f32⟩
  | .hbm, ⟨101, _⟩ => ⟨S_, .f32⟩
  | .hbm, ⟨102, _⟩ => ⟨S1x256x256, .f32⟩
  | .hbm, ⟨103, _⟩ => ⟨S1x256x256x1, .f32⟩
  | .hbm, ⟨104, _⟩ => ⟨S1x256x256x1, .f32⟩
  | .hbm, ⟨105, _⟩ => ⟨S1x256x256x1, .f32⟩
  | .hbm, ⟨106, _⟩ => ⟨S1x256x256x1, .f32⟩
  | .hbm, ⟨107, _⟩ => ⟨S1x256x256x1024, .f32⟩
  | .hbm, ⟨108, _⟩ => ⟨S1x256x256x1024, .f32⟩
  | .hbm, ⟨109, _⟩ => ⟨S1x256x256x1024, .f32⟩
  | .hbm, ⟨110, _⟩ => ⟨S1x256x256x1, .f32⟩
  | .hbm, ⟨111, _⟩ => ⟨S_, .f32⟩
  | .hbm, ⟨112, _⟩ => ⟨S1x256x256, .f32⟩
  | .hbm, ⟨113, _⟩ => ⟨S1x256x256x1, .f32⟩
  | .hbm, ⟨114, _⟩ => ⟨S1x256x256x1, .f32⟩
  | .hbm, ⟨115, _⟩ => ⟨S1x256x256x1, .f32⟩
  | .hbm, ⟨116, _⟩ => ⟨S1x256x256x128, .f32⟩
  | .hbm, ⟨117, _⟩ => ⟨S1x256x256x128, .f32⟩
  | .hbm, ⟨118, _⟩ => ⟨S1x256x128x256, .f32⟩
  | .hbm, ⟨119, _⟩ => ⟨S1x256x256x128, .f32⟩
  | .hbm, ⟨120, _⟩ => ⟨S1x256x256x128, .f32⟩
  | .hbm, ⟨121, _⟩ => ⟨S1x256x256x1, .f32⟩
  | .hbm, ⟨122, _⟩ => ⟨S1x256x256x128, .f32⟩
  | .hbm, ⟨123, _⟩ => ⟨S1x256x256x128, .f32⟩
  | .hbm, ⟨124, _⟩ => ⟨S1x256x32768, .f32⟩
  | .hbm, ⟨125, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_10 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_11 : Ref sig .tc := ⟨.hbm, 98, rfl⟩
abbrev main_v81 : Ref sig .tc := ⟨.hbm, 99, rfl⟩
abbrev main_v82 : Ref sig .tc := ⟨.hbm, 100, rfl⟩
abbrev main_cst_12 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_13 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩

abbrev nD : Nat := 1
abbrev τ : Topo := Topo.v7x

variable {F : FTy → Type} [FloatOps F]
-- ==== Proof.Ki.Body.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The kernel's body as seven loops

The printed body names each of its signals, copies and waits one after another. Here the same operations are written
as lists indexed by the distance `k` between sender and receiver, so that one step is proved once, at a symbolic `k`. -/

abbrev PrK (F : FTy → Type) [FloatOps F] (α : Type) : Type _ := Prog (TpuEff nD τ sig (Elt F) Λ₀ .tc) α

/-- A list of steps run in order. -/
def seqL (L : List (PrK F PUnit)) : PrK F PUnit := L.foldr (fun p q => p >>= fun _ => q) (pure ⟨⟩)

/-! ## The buffers -/

abbrev xM : Memref sig .tc .vmem S1x256x1024 .f32 := Memref.whole cc0_stg0_0
abbrev qM : Memref sig .tc .vmem S1024x1024 .f32 := Memref.whole cc0_stg1_0
abbrev wM : Memref sig .tc .vmem S1024x1024 .f32 := Memref.whole cc0_stg2_0
abbrev oM : Memref sig .tc .vmem S1x256x1024 .f32 := Memref.whole cc0_stg3_0
abbrev kH : Memref sig .tc .hbm S1x4096x64x128 .f32 := Memref.whole main_arg2
abbrev vH : Memref sig .tc .hbm S1x4096x64x128 .f32 := Memref.whole main_arg3
abbrev kM : Memref sig .tc .vmem S4096x2x128 .f32 := Memref.whole cc0_scratch0
abbrev vM : Memref sig .tc .vmem S4096x2x128 .f32 := Memref.whole cc0_scratch1
abbrev cM : Memref sig .tc .vmem S512x1024 .bf16 := Memref.whole cc0_scratch3
abbrev sM : Memref sig .tc .vmem S256x1024 .bf16 := Memref.whole cc0_scratch4

theorem hkM : kM.IsWhole := Memref.isWhole_whole _
theorem hvM : vM.IsWhole := Memref.isWhole_whole _
theorem hcM : cM.IsWhole := Memref.isWhole_whole _
theorem hsM : sM.IsWhole := Memref.isWhole_whole _

/-- Device `c`'s two key/value heads. -/
abbrev kHs (c : Dev nD) : Memref sig .tc .hbm S4096x2x128 .f32 :=
  (kH.slice (Rect.unit (s := S1x4096x64x128) (k0_off1 c) S1x4096x2x128.size (k0_off1_inb c)) (fun _ => rfl)).squeeze S4096x2x128 squeezes_S1x4096x2x128_S4096x2x128
abbrev vHs (c : Dev nD) : Memref sig .tc .hbm S4096x2x128 .f32 :=
  (vH.slice (Rect.unit (s := S1x4096x64x128) (k0_off1 c) S1x4096x2x128.size (k0_off1_inb c)) (fun _ => rfl)).squeeze S4096x2x128 squeezes_S1x4096x2x128_S4096x2x128

/-- Rows `8 c …` of the landing buffer's half `h` (what device `c` writes on its peers). -/
abbrev cRow (h : Fin 2) (c : Dev nD) : Memref sig .tc .vmem S8x1024 .bf16 :=
  cM.slice (Rect.unit (s := S512x1024) (k0_off2 c (BitVec.ofNat 32 (256 * h.val))) S8x1024.size (k0_off2_inb c h)) (fun _ => rfl)
/-- The rows of the staging buffer that device `c` sends to its `k`-th peer. -/
abbrev sRow (c : Dev nD) (k : Fin 31) : Memref sig .tc .vmem S8x1024 .bf16 :=
  sM.slice (Rect.unit (s := S256x1024) (k0_off3 c (BitVec.ofNat 32 (1 + k.val))) S8x1024.size (k0_off3_inb c k)) (fun _ => rfl)
/-- The first eight rows of the staging buffer, from which the reduced rows go out. -/
abbrev sTop : Memref sig .tc .vmem S8x1024 .bf16 :=
  sM.slice (Rect.unit (s := S256x1024) ![0, 0] S8x1024.size inb_S256x1024_S8x1024_0_0) (fun _ => rfl)

/-! ## The semaphores -/

theorem inb2 (j : Fin 2) : ∀ a, (![j.val] : Fin 1 → Nat) a + S1.size a ≤ S2.size a := by revert j; decide
theorem inb62 (j : Fin 62) : ∀ a, (![j.val] : Fin 1 → Nat) a + S1.size a ≤ S62.size a := by revert j; decide

abbrev barS : Sem sig := (SemArray.scalar (sig.barrier 0 rfl) : Sems sig S_).sem
abbrev cpS (j : Fin 2) : DmaSem sig := ((cc0_scratch2.slice (Rect.unit (s := S2) ![j.val] S1.size (inb2 j))).squeeze S_ squeezes_S1_S_).sem
abbrev sndS (j : Fin 62) : DmaSem sig := ((cc0_scratch5.slice (Rect.unit (s := S62) ![j.val] S1.size (inb62 j))).squeeze S_ squeezes_S1_S_).sem
abbrev rcvS (j : Fin 62) : DmaSem sig := ((cc0_scratch6.slice (Rect.unit (s := S62) ![j.val] S1.size (inb62 j))).squeeze S_ squeezes_S1_S_).sem

/-- The number of the `k`-th semaphore of exchange `h` (0: the partial rows, 1: the reduced rows). -/
abbrev ix (h : Fin 2) (k : Fin 31) : Fin 62 := ⟨31 * h.val + k.val, by omega⟩

/-! ## One step of each loop -/

def stSig (p : Dev nD) : PrK F PUnit := semSignalWord p barS 1#32
def stSend0 (c p : Dev nD) (k : Fin 31) : PrK F PUnit :=
  Prog.lift (.enqueueDma (sRow c k) (.remote (Dev.tc p) (cRow 0 c) (.dma (sndS (ix 0 k)))) (.dma (rcvS (ix 0 k)))
    (hsM.wordExact_slice rfl _ (k0_off3_wordsbf16 c k)) (hcM.wordExact_slice rfl _ (k0_off2_wordsbf16 c 0)) ⟨⟨rfl, Or.inl rfl⟩, trivial⟩)
def stSend1 (c p : Dev nD) (k : Fin 31) : PrK F PUnit :=
  Prog.lift (.enqueueDma sTop (.remote (Dev.tc p) (cRow 1 c) (.dma (sndS (ix 1 k)))) (.dma (rcvS (ix 1 k)))
    (hsM.wordExact_slice rfl _ wordsbf16_S256x1024_S8x1024_0_0) (hcM.wordExact_slice rfl _ (k0_off2_wordsbf16 c 1)) ⟨⟨rfl, Or.inl rfl⟩, trivial⟩)
def stWaitS0 (c : Dev nD) (k : Fin 31) : PrK F PUnit :=
  Prog.lift (.waitDma2 (sndS (ix 0 k)) (cRow 0 c) (sRow c k) (hcM.wordExact_slice rfl _ (k0_off2_wordsbf16 c 0)) (hsM.wordExact_slice rfl _ (k0_off3_wordsbf16 c k)))
def stWaitR0 (c : Dev nD) (k : Fin 31) : PrK F PUnit :=
  Prog.lift (.waitDma2 (rcvS (ix 0 k)) (sRow c k) (cRow 0 c) (hsM.wordExact_slice rfl _ (k0_off3_wordsbf16 c k)) (hcM.wordExact_slice rfl _ (k0_off2_wordsbf16 c 0)))
def stWaitS1 (c : Dev nD) (k : Fin 31) : PrK F PUnit :=
  Prog.lift (.waitDma2 (sndS (ix 1 k)) (cRow 1 c) sTop (hcM.wordExact_slice rfl _ (k0_off2_wordsbf16 c 1)) (hsM.wordExact_slice rfl _ wordsbf16_S256x1024_S8x1024_0_0))
def stWaitR1 (c : Dev nD) (k : Fin 31) : PrK F PUnit :=
  Prog.lift (.waitDma2 (rcvS (ix 1 k)) sTop (cRow 1 c) (hsM.wordExact_slice rfl _ wordsbf16_S256x1024_S8x1024_0_0) (hcM.wordExact_slice rfl _ (k0_off2_wordsbf16 c 1)))

/-! ## The value of the local part -/

/-- What the local part computes from its blocks: the eight heads' attention, then the output projection. -/
def partOf8 (v416 : Vec F S1x256x1024 .f32) (v418 : Vec F S1024x1024 .f32) (k0 v0 k1 v1 k2 v2 k3 v3 k4 v4 k5 v5 k6 v6 k7 v7 : Vec F S4096x1x128 .f32) (v574 : Vec F S1024x1024 .f32) : FVec F S1x256x1024 .f32 :=
  k0_pay20 (k0_pay4 (k0_pay2 v416) v418 k0 v0)
    (k0_pay7 (k0_pay5 (k0_pay2 v416) v418) (k0_pay6 k1) v1)
    (k0_pay8 (k0_pay3 (k0_pay2 v416) v418) k2 v2)
    (k0_pay11 (k0_pay9 (k0_pay3 (k0_pay2 v416) v418)) (k0_pay10 k3) v3)
    (k0_pay12 (k0_pay3 (k0_pay2 v416) v418) k4 v4)
    (k0_pay16 (k0_pay13 (k0_pay3 (k0_pay2 v416) v418)) (k0_pay14 k5) (k0_pay15 v5) (constant S256x4096 .f32 0x00000000#32))
    (k0_pay17 (k0_pay3 (k0_pay2 v416) v418) k6 v6)
    (k0_pay18 v7) (k0_pay19 (k0_pay3 (k0_pay2 v416) v418) k7) (Scalar.ofBits .f32 0x3DB504F3#32) v574
/-- The heads share two key/value heads, four each. -/
def partOf (v416 : Vec F S1x256x1024 .f32) (v418 : Vec F S1024x1024 .f32) (K0 V0 K1 V1 : Vec F S4096x1x128 .f32) (v574 : Vec F S1024x1024 .f32) : FVec F S1x256x1024 .f32 :=
  partOf8 v416 v418 K0 V0 K0 V0 K0 V0 K0 V0 K1 V1 K1 V1 K1 V1 K1 V1 v574

/-! ## The body -/

/-- The steps of the seven loops, each naming its peers as the printed body does. -/
def lSig (c : Dev nD) : List (PrK F PUnit) := [
  stSig ⟨k0_dev1 c, k0_dev1_lt c⟩,
  stSig ⟨k0_dev2 c, k0_dev2_lt c⟩,
  stSig ⟨k0_dev3 c, k0_dev3_lt c⟩,
  stSig ⟨k0_dev4 c, k0_dev4_lt c⟩,
  stSig ⟨k0_dev5 c, k0_dev5_lt c⟩,
  stSig ⟨k0_dev6 c, k0_dev6_lt c⟩,
  stSig ⟨k0_dev7 c, k0_dev7_lt c⟩,
  stSig ⟨k0_dev8 c, k0_dev8_lt c⟩,
  stSig ⟨k0_dev9 c, k0_dev9_lt c⟩,
  stSig ⟨k0_dev10 c, k0_dev10_lt c⟩,
  stSig ⟨k0_dev11 c, k0_dev11_lt c⟩,
  stSig ⟨k0_dev12 c, k0_dev12_lt c⟩,
  stSig ⟨k0_dev13 c, k0_dev13_lt c⟩,
  stSig ⟨k0_dev14 c, k0_dev14_lt c⟩,
  stSig ⟨k0_dev15 c, k0_dev15_lt c⟩,
  stSig ⟨k0_dev16 c, k0_dev16_lt c⟩,
  stSig ⟨k0_dev17 c, k0_dev17_lt c⟩,
  stSig ⟨k0_dev18 c, k0_dev18_lt c⟩,
  stSig ⟨k0_dev19 c, k0_dev19_lt c⟩,
  stSig ⟨k0_dev20 c, k0_dev20_lt c⟩,
  stSig ⟨k0_dev21 c, k0_dev21_lt c⟩,
  stSig ⟨k0_dev22 c, k0_dev22_lt c⟩,
  stSig ⟨k0_dev23 c, k0_dev23_lt c⟩,
  stSig ⟨k0_dev24 c, k0_dev24_lt c⟩,
  stSig ⟨k0_dev25 c, k0_dev25_lt c⟩,
  stSig ⟨k0_dev26 c, k0_dev26_lt c⟩,
  stSig ⟨k0_dev27 c, k0_dev27_lt c⟩,
  stSig ⟨k0_dev28 c, k0_dev28_lt c⟩,
  stSig ⟨k0_dev29 c, k0_dev29_lt c⟩,
  stSig ⟨k0_dev30 c, k0_dev30_lt c⟩,
  stSig ⟨k0_dev31 c, k0_dev31_lt c⟩]
def lSend0 (c : Dev nD) : List (PrK F PUnit) := [
  stSend0 c ⟨k0_dev32 c, k0_dev32_lt c⟩ 0,
  stSend0 c ⟨k0_dev33 c, k0_dev33_lt c⟩ 1,
  stSend0 c ⟨k0_dev34 c, k0_dev34_lt c⟩ 2,
  stSend0 c ⟨k0_dev35 c, k0_dev35_lt c⟩ 3,
  stSend0 c ⟨k0_dev36 c, k0_dev36_lt c⟩ 4,
  stSend0 c ⟨k0_dev37 c, k0_dev37_lt c⟩ 5,
  stSend0 c ⟨k0_dev38 c, k0_dev38_lt c⟩ 6,
  stSend0 c ⟨k0_dev39 c, k0_dev39_lt c⟩ 7,
  stSend0 c ⟨k0_dev40 c, k0_dev40_lt c⟩ 8,
  stSend0 c ⟨k0_dev41 c, k0_dev41_lt c⟩ 9,
  stSend0 c ⟨k0_dev42 c, k0_dev42_lt c⟩ 10,
  stSend0 c ⟨k0_dev43 c, k0_dev43_lt c⟩ 11,
  stSend0 c ⟨k0_dev44 c, k0_dev44_lt c⟩ 12,
  stSend0 c ⟨k0_dev45 c, k0_dev45_lt c⟩ 13,
  stSend0 c ⟨k0_dev46 c, k0_dev46_lt c⟩ 14,
  stSend0 c ⟨k0_dev47 c, k0_dev47_lt c⟩ 15,
  stSend0 c ⟨k0_dev48 c, k0_dev48_lt c⟩ 16,
  stSend0 c ⟨k0_dev49 c, k0_dev49_lt c⟩ 17,
  stSend0 c ⟨k0_dev50 c, k0_dev50_lt c⟩ 18,
  stSend0 c ⟨k0_dev51 c, k0_dev51_lt c⟩ 19,
  stSend0 c ⟨k0_dev52 c, k0_dev52_lt c⟩ 20,
  stSend0 c ⟨k0_dev53 c, k0_dev53_lt c⟩ 21,
  stSend0 c ⟨k0_dev54 c, k0_dev54_lt c⟩ 22,
  stSend0 c ⟨k0_dev55 c, k0_dev55_lt c⟩ 23,
  stSend0 c ⟨k0_dev56 c, k0_dev56_lt c⟩ 24,
  stSend0 c ⟨k0_dev57 c, k0_dev57_lt c⟩ 25,
  stSend0 c ⟨k0_dev58 c, k0_dev58_lt c⟩ 26,
  stSend0 c ⟨k0_dev59 c, k0_dev59_lt c⟩ 27,
  stSend0 c ⟨k0_dev60 c, k0_dev60_lt c⟩ 28,
  stSend0 c ⟨k0_dev61 c, k0_dev61_lt c⟩ 29,
  stSend0 c ⟨k0_dev62 c, k0_dev62_lt c⟩ 30]
def lSend1 (c : Dev nD) : List (PrK F PUnit) := [
  stSend1 c ⟨k0_dev63 c, k0_dev63_lt c⟩ 0,
  stSend1 c ⟨k0_dev64 c, k0_dev64_lt c⟩ 1,
  stSend1 c ⟨k0_dev65 c, k0_dev65_lt c⟩ 2,
  stSend1 c ⟨k0_dev66 c, k0_dev66_lt c⟩ 3,
  stSend1 c ⟨k0_dev67 c, k0_dev67_lt c⟩ 4,
  stSend1 c ⟨k0_dev68 c, k0_dev68_lt c⟩ 5,
  stSend1 c ⟨k0_dev69 c, k0_dev69_lt c⟩ 6,
  stSend1 c ⟨k0_dev70 c, k0_dev70_lt c⟩ 7,
  stSend1 c ⟨k0_dev71 c, k0_dev71_lt c⟩ 8,
  stSend1 c ⟨k0_dev72 c, k0_dev72_lt c⟩ 9,
  stSend1 c ⟨k0_dev73 c, k0_dev73_lt c⟩ 10,
  stSend1 c ⟨k0_dev74 c, k0_dev74_lt c⟩ 11,
  stSend1 c ⟨k0_dev75 c, k0_dev75_lt c⟩ 12,
  stSend1 c ⟨k0_dev76 c, k0_dev76_lt c⟩ 13,
  stSend1 c ⟨k0_dev77 c, k0_dev77_lt c⟩ 14,
  stSend1 c ⟨k0_dev78 c, k0_dev78_lt c⟩ 15,
  stSend1 c ⟨k0_dev79 c, k0_dev79_lt c⟩ 16,
  stSend1 c ⟨k0_dev80 c, k0_dev80_lt c⟩ 17,
  stSend1 c ⟨k0_dev81 c, k0_dev81_lt c⟩ 18,
  stSend1 c ⟨k0_dev82 c, k0_dev82_lt c⟩ 19,
  stSend1 c ⟨k0_dev83 c, k0_dev83_lt c⟩ 20,
  stSend1 c ⟨k0_dev84 c, k0_dev84_lt c⟩ 21,
  stSend1 c ⟨k0_dev85 c, k0_dev85_lt c⟩ 22,
  stSend1 c ⟨k0_dev86 c, k0_dev86_lt c⟩ 23,
  stSend1 c ⟨k0_dev87 c, k0_dev87_lt c⟩ 24,
  stSend1 c ⟨k0_dev88 c, k0_dev88_lt c⟩ 25,
  stSend1 c ⟨k0_dev89 c, k0_dev89_lt c⟩ 26,
  stSend1 c ⟨k0_dev90 c, k0_dev90_lt c⟩ 27,
  stSend1 c ⟨k0_dev91 c, k0_dev91_lt c⟩ 28,
  stSend1 c ⟨k0_dev92 c, k0_dev92_lt c⟩ 29,
  stSend1 c ⟨k0_dev93 c, k0_dev93_lt c⟩ 30]
def lWaitS0 (c : Dev nD) : List (PrK F PUnit) := [stWaitS0 c 0, stWaitS0 c 1, stWaitS0 c 2, stWaitS0 c 3, stWaitS0 c 4, stWaitS0 c 5, stWaitS0 c 6, stWaitS0 c 7, stWaitS0 c 8, stWaitS0 c 9, stWaitS0 c 10, stWaitS0 c 11, stWaitS0 c 12, stWaitS0 c 13, stWaitS0 c 14, stWaitS0 c 15, stWaitS0 c 16, stWaitS0 c 17, stWaitS0 c 18, stWaitS0 c 19, stWaitS0 c 20, stWaitS0 c 21, stWaitS0 c 22, stWaitS0 c 23, stWaitS0 c 24, stWaitS0 c 25, stWaitS0 c 26, stWaitS0 c 27, stWaitS0 c 28, stWaitS0 c 29, stWaitS0 c 30]
def lWaitR0 (c : Dev nD) : List (PrK F PUnit) := [stWaitR0 c 0, stWaitR0 c 1, stWaitR0 c 2, stWaitR0 c 3, stWaitR0 c 4, stWaitR0 c 5, stWaitR0 c 6, stWaitR0 c 7, stWaitR0 c 8, stWaitR0 c 9, stWaitR0 c 10, stWaitR0 c 11, stWaitR0 c 12, stWaitR0 c 13, stWaitR0 c 14, stWaitR0 c 15, stWaitR0 c 16, stWaitR0 c 17, stWaitR0 c 18, stWaitR0 c 19, stWaitR0 c 20, stWaitR0 c 21, stWaitR0 c 22, stWaitR0 c 23, stWaitR0 c 24, stWaitR0 c 25, stWaitR0 c 26, stWaitR0 c 27, stWaitR0 c 28, stWaitR0 c 29, stWaitR0 c 30]
def lWaitS1 (c : Dev nD) : List (PrK F PUnit) := [stWaitS1 c 0, stWaitS1 c 1, stWaitS1 c 2, stWaitS1 c 3, stWaitS1 c 4, stWaitS1 c 5, stWaitS1 c 6, stWaitS1 c 7, stWaitS1 c 8, stWaitS1 c 9, stWaitS1 c 10, stWaitS1 c 11, stWaitS1 c 12, stWaitS1 c 13, stWaitS1 c 14, stWaitS1 c 15, stWaitS1 c 16, stWaitS1 c 17, stWaitS1 c 18, stWaitS1 c 19, stWaitS1 c 20, stWaitS1 c 21, stWaitS1 c 22, stWaitS1 c 23, stWaitS1 c 24, stWaitS1 c 25, stWaitS1 c 26, stWaitS1 c 27, stWaitS1 c 28, stWaitS1 c 29, stWaitS1 c 30]
def lWaitR1 (c : Dev nD) : List (PrK F PUnit) := [stWaitR1 c 0, stWaitR1 c 1, stWaitR1 c 2, stWaitR1 c 3, stWaitR1 c 4, stWaitR1 c 5, stWaitR1 c 6, stWaitR1 c 7, stWaitR1 c 8, stWaitR1 c 9, stWaitR1 c 10, stWaitR1 c 11, stWaitR1 c 12, stWaitR1 c 13, stWaitR1 c 14, stWaitR1 c 15, stWaitR1 c 16, stWaitR1 c 17, stWaitR1 c 18, stWaitR1 c 19, stWaitR1 c 20, stWaitR1 c 21, stWaitR1 c 22, stWaitR1 c 23, stWaitR1 c 24, stWaitR1 c 25, stWaitR1 c 26, stWaitR1 c 27, stWaitR1 c 28, stWaitR1 c 29, stWaitR1 c 30]

/-- The local part: the two heads copied in, the attention, the partial result stored. -/
def bodyLocal (c : Dev nD) : PrK F PUnit := do
  Prog.lift (.enqueueDma (kHs c) (.here kM) (.dma (cpS 0)) ((View.wordExact_bits rfl).reshape _ _) hkM.wordExact ⟨Or.inl rfl, trivial⟩)
  Prog.lift (.enqueueDma (vHs c) (.here vM) (.dma (cpS 1)) ((View.wordExact_bits rfl).reshape _ _) hvM.wordExact ⟨Or.inl rfl, trivial⟩)
  let v416 : Vec F S1x256x1024 .f32 ← Prog.lift (.load xM (Rect.unit (s := S1x256x1024) ![0, 0, 0] S1x256x1024.size inb_S1x256x1024_S1x256x1024_0_0_0).toLoadRect (View.loadsAt_vmem h_S1x256x1024))
  let v418 : Vec F S1024x1024 .f32 ← Prog.lift (.load qM (Rect.unit (s := S1024x1024) ![0, 0] S1024x1024.size inb_S1024x1024_S1024x1024_0_0).toLoadRect (View.loadsAt_vmem h_S1024x1024))
  Prog.lift (.waitDma2 (cpS 0) (kHs c) kM ((View.wordExact_bits rfl).reshape _ _) hkM.wordExact)
  Prog.lift (.waitDma2 (cpS 1) (vHs c) vM ((View.wordExact_bits rfl).reshape _ _) hvM.wordExact)
  let v430 : Vec F S4096x1x128 .f32 ← Prog.lift (.load kM (Rect.unit (s := S4096x2x128) ![0, 0, 0] S4096x1x128.size inb_S4096x2x128_S4096x1x128_0_0_0).toLoadRect (View.loadsAt_vmem h_S4096x1x128))
  let v432 : Vec F S4096x1x128 .f32 ← Prog.lift (.load vM (Rect.unit (s := S4096x2x128) ![0, 0, 0] S4096x1x128.size inb_S4096x2x128_S4096x1x128_0_0_0).toLoadRect (View.loadsAt_vmem h_S4096x1x128))
  let v448 : Vec F S4096x1x128 .f32 ← Prog.lift (.load kM (Rect.unit (s := S4096x2x128) ![0, 0, 0] S4096x1x128.size inb_S4096x2x128_S4096x1x128_0_0_0).toLoadRect (View.loadsAt_vmem h_S4096x1x128))
  let v450 : Vec F S4096x1x128 .f32 ← Prog.lift (.load vM (Rect.unit (s := S4096x2x128) ![0, 0, 0] S4096x1x128.size inb_S4096x2x128_S4096x1x128_0_0_0).toLoadRect (View.loadsAt_vmem h_S4096x1x128))
  let v466 : Vec F S4096x1x128 .f32 ← Prog.lift (.load kM (Rect.unit (s := S4096x2x128) ![0, 0, 0] S4096x1x128.size inb_S4096x2x128_S4096x1x128_0_0_0).toLoadRect (View.loadsAt_vmem h_S4096x1x128))
  let v468 : Vec F S4096x1x128 .f32 ← Prog.lift (.load vM (Rect.unit (s := S4096x2x128) ![0, 0, 0] S4096x1x128.size inb_S4096x2x128_S4096x1x128_0_0_0).toLoadRect (View.loadsAt_vmem h_S4096x1x128))
  let v484 : Vec F S4096x1x128 .f32 ← Prog.lift (.load kM (Rect.unit (s := S4096x2x128) ![0, 0, 0] S4096x1x128.size inb_S4096x2x128_S4096x1x128_0_0_0).toLoadRect (View.loadsAt_vmem h_S4096x1x128))
  let v486 : Vec F S4096x1x128 .f32 ← Prog.lift (.load vM (Rect.unit (s := S4096x2x128) ![0, 0, 0] S4096x1x128.size inb_S4096x2x128_S4096x1x128_0_0_0).toLoadRect (View.loadsAt_vmem h_S4096x1x128))
  let v502 : Vec F S4096x1x128 .f32 ← Prog.lift (.load kM (Rect.unit (s := S4096x2x128) ![0, 1, 0] S4096x1x128.size inb_S4096x2x128_S4096x1x128_0_1_0).toLoadRect (View.loadsAt_vmem h_S4096x1x128))
  let v504 : Vec F S4096x1x128 .f32 ← Prog.lift (.load vM (Rect.unit (s := S4096x2x128) ![0, 1, 0] S4096x1x128.size inb_S4096x2x128_S4096x1x128_0_1_0).toLoadRect (View.loadsAt_vmem h_S4096x1x128))
  let v520 : Vec F S4096x1x128 .f32 ← Prog.lift (.load kM (Rect.unit (s := S4096x2x128) ![0, 1, 0] S4096x1x128.size inb_S4096x2x128_S4096x1x128_0_1_0).toLoadRect (View.loadsAt_vmem h_S4096x1x128))
  let v522 : Vec F S4096x1x128 .f32 ← Prog.lift (.load vM (Rect.unit (s := S4096x2x128) ![0, 1, 0] S4096x1x128.size inb_S4096x2x128_S4096x1x128_0_1_0).toLoadRect (View.loadsAt_vmem h_S4096x1x128))
  let v538 : Vec F S4096x1x128 .f32 ← Prog.lift (.load kM (Rect.unit (s := S4096x2x128) ![0, 1, 0] S4096x1x128.size inb_S4096x2x128_S4096x1x128_0_1_0).toLoadRect (View.loadsAt_vmem h_S4096x1x128))
  let v540 : Vec F S4096x1x128 .f32 ← Prog.lift (.load vM (Rect.unit (s := S4096x2x128) ![0, 1, 0] S4096x1x128.size inb_S4096x2x128_S4096x1x128_0_1_0).toLoadRect (View.loadsAt_vmem h_S4096x1x128))
  let v556 : Vec F S4096x1x128 .f32 ← Prog.lift (.load kM (Rect.unit (s := S4096x2x128) ![0, 1, 0] S4096x1x128.size inb_S4096x2x128_S4096x1x128_0_1_0).toLoadRect (View.loadsAt_vmem h_S4096x1x128))
  let v558 : Vec F S4096x1x128 .f32 ← Prog.lift (.load vM (Rect.unit (s := S4096x2x128) ![0, 1, 0] S4096x1x128.size inb_S4096x2x128_S4096x1x128_0_1_0).toLoadRect (View.loadsAt_vmem h_S4096x1x128))
  let v574 : Vec F S1024x1024 .f32 ← Prog.lift (.load wM (Rect.unit (s := S1024x1024) ![0, 0] S1024x1024.size inb_S1024x1024_S1024x1024_0_0).toLoadRect (View.loadsAt_vmem h_S1024x1024))
  let v577 : Vec F S1x256x1024 .f32 ← Prog.lift (.load oM (Rect.unit (s := S1x256x1024) ![0, 0, 0] S1x256x1024.size inb_S1x256x1024_S1x256x1024_0_0_0).toLoadRect (View.loadsAt_vmem h_S1x256x1024))
  Prog.lift (.store oM (Rect.unit (s := S1x256x1024) ![0, 0, 0] S1x256x1024.size inb_S1x256x1024_S1x256x1024_0_0_0) (partOf8 v416 v418 v430 v432 v448 v450 v466 v468 v484 v486 v502 v504 v520 v522 v538 v540 v556 v558 v574) Finset.univ (View.stores_vmem_bits_univ h_S1x256x1024 rfl) (.inl rfl))
  let v582 : Vec F S1x256x1024 .f32 ← Prog.lift (.load oM (Rect.unit (s := S1x256x1024) ![0, 0, 0] S1x256x1024.size inb_S1x256x1024_S1x256x1024_0_0_0).toLoadRect (View.loadsAt_vmem h_S1x256x1024))
  let v585 : Vec F S256x1024 .bf16 ← Prog.lift (.load sM (Rect.unit (s := S256x1024) ![0, 0] S256x1024.size inb_S256x1024_S256x1024_0_0).toLoadRect (View.loadsAt_vmem h_S256x1024))
  Prog.lift (.store sM (Rect.unit (s := S256x1024) ![0, 0] S256x1024.size inb_S256x1024_S256x1024_0_0) (k0_pay21 v582) Finset.univ (View.stores_vmem h_S256x1024 (hsM.storeExact_slice rfl _ packedbf16_S256x1024_S256x1024_0_0) (fun _ => rfl)) (.inl rfl))

def bodyMid0 (c : Dev nD) : PrK F PUnit := do
  let v1333 : Vec F S8x1024 .bf16 ← Prog.lift (.load sM (Rect.unit (s := S256x1024) (k0_off4 c) S8x1024.size (k0_off4_inb c)).toLoadRect (View.loadsAt_vmem h_S8x1024))
  let v1337 : Vec F S8x1024 .bf16 ← Prog.lift (.load cM (Rect.unit (s := S512x1024) (k0_off5 c 0#32) S8x1024.size (k0_off5_inb c 0)).toLoadRect (View.loadsAt_vmem h_S8x1024))
  Prog.lift (.store cM (Rect.unit (s := S512x1024) (k0_off5 c 0#32) S8x1024.size (k0_off5_inb c 0)) (k0_pay22 v1333) Finset.univ (View.stores_vmem h_S8x1024 (hcM.storeExact_slice rfl _ (k0_off5_packedbf16 c 0)) (fun _ => rfl)) (.inl rfl))

def bodyMid1 (c : Dev nD) : PrK F PUnit := do
  let v1650 : Vec F S256x1024 .bf16 ← Prog.lift (.load cM (Rect.unit (s := S512x1024) ![0, 0] S256x1024.size inb_S512x1024_S256x1024_0_0).toLoadRect (View.loadsAt_vmem h_S256x1024))
  let v1655 : Vec F S1x8x1024 .f32 ← Prog.lift (.load oM (Rect.unit (s := S1x256x1024) (k0_off6 c) S1x8x1024.size (k0_off6_inb c)).toLoadRect (View.loadsAt_vmem h_S1x8x1024))
  Prog.lift (.store oM (Rect.unit (s := S1x256x1024) (k0_off6 c) S1x8x1024.size (k0_off6_inb c)) (k0_pay24 v1650) Finset.univ (View.stores_vmem_bits_univ h_S1x8x1024 rfl) (.inl rfl))
  let v1659 : Vec F S8x1024 .bf16 ← Prog.lift (.load sM (Rect.unit (s := S256x1024) ![0, 0] S8x1024.size inb_S256x1024_S8x1024_0_0).toLoadRect (View.loadsAt_vmem h_S8x1024))
  Prog.lift (.store sM (Rect.unit (s := S256x1024) ![0, 0] S8x1024.size inb_S256x1024_S8x1024_0_0) (k0_pay25 v1650) Finset.univ (View.stores_vmem h_S8x1024 (hsM.storeExact_slice rfl _ packedbf16_S256x1024_S8x1024_0_0) (fun _ => rfl)) (.inl rfl))

def bodyMid2 (c : Dev nD) : PrK F PUnit := do
  let v2344 : Vec F S8x1024 .bf16 ← Prog.lift (.load sM (Rect.unit (s := S256x1024) ![0, 0] S8x1024.size inb_S256x1024_S8x1024_0_0).toLoadRect (View.loadsAt_vmem h_S8x1024))
  let v2348 : Vec F S8x1024 .bf16 ← Prog.lift (.load cM (Rect.unit (s := S512x1024) (k0_off5 c 256#32) S8x1024.size (k0_off5_inb c 1)).toLoadRect (View.loadsAt_vmem h_S8x1024))
  Prog.lift (.store cM (Rect.unit (s := S512x1024) (k0_off5 c 256#32) S8x1024.size (k0_off5_inb c 1)) (k0_pay26 v2344) Finset.univ (View.stores_vmem h_S8x1024 (hcM.storeExact_slice rfl _ (k0_off5_packedbf16 c 1)) (fun _ => rfl)) (.inl rfl))

def bodyEnd : PrK F PUnit := do
  let v2661 : Vec F S256x1024 .bf16 ← Prog.lift (.load cM (Rect.unit (s := S512x1024) ![256, 0] S256x1024.size inb_S512x1024_S256x1024_256_0).toLoadRect (View.loadsAt_vmem h_S256x1024))
  let v2663 : Vec F S1x256x1024 .f32 ← Prog.lift (.load oM (Rect.unit (s := S1x256x1024) ![0, 0, 0] S1x256x1024.size inb_S1x256x1024_S1x256x1024_0_0_0).toLoadRect (View.loadsAt_vmem h_S1x256x1024))
  Prog.lift (.store oM (Rect.unit (s := S1x256x1024) ![0, 0, 0] S1x256x1024.size inb_S1x256x1024_S1x256x1024_0_0_0) (k0_pay1 v2661) Finset.univ (View.stores_vmem_bits_univ h_S1x256x1024 rfl) (.inl rfl))

def bodyL : PrK F PUnit := do
  let c : Dev nD ← Prog.lift .deviceId
  seqL (lSig c)
  semWaitWord barS 31#32
  bodyLocal c
  seqL (lSend0 c)
  bodyMid0 c
  seqL (lWaitS0 c)
  seqL (lWaitR0 c)
  bodyMid1 c
  seqL (lSend1 c)
  bodyMid2 c
  seqL (lWaitS1 c)
  seqL (lWaitR1 c)
  bodyEnd

set_option maxRecDepth 65536 in
set_option maxHeartbeats 0 in
theorem body_eq : cc0__body (F := F) xM (Memref.isWhole_whole _) qM (Memref.isWhole_whole _) wM (Memref.isWhole_whole _) kH (Memref.isWhole_whole _) vH (Memref.isWhole_whole _) oM (Memref.isWhole_whole _)
    kM (Memref.isWhole_whole _) vM (Memref.isWhole_whole _) cc0_scratch2 cM (Memref.isWhole_whole _) sM (Memref.isWhole_whole _) cc0_scratch5 cc0_scratch6 = bodyL := by
  rw [cc0__body_eq_skeleton]
  rfl

end Cert.KernelIdeal.Pf

end
-- ==== Proof.Ki.Cells.lean ====
module

public import proofs.«01_k».proof.Proof.Ki.Body

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # Peers, cells and the step lists

The kernel's devices talk in all pairs. Device `c`'s `k`-th peer is `c + k + 1` modulo 32; counted from that peer,
device `c` is its peer number `30 - k`. -/

set_option backward.proofsInPublic true in
/-- Device `c`'s `k`-th peer. -/
def peer (c : Dev nD) (k : Fin 31) : Dev nD := ⟨(c.val + k.val + 1) % 32, Nat.mod_lt _ (by decide)⟩

theorem peer_val (c : Dev nD) (k : Fin 31) : (peer c k).val = (c.val + k.val + 1) % 32 := rfl
theorem dev_lt (c : Dev nD) : c.val < 32 := c.isLt
theorem peer_rev (c : Dev nD) (k : Fin 31) : peer (peer c k) k.rev = c := by
  have := dev_lt c; have := k.isLt
  apply Fin.ext; rw [peer_val, peer_val, Fin.val_rev]; omega
theorem peer_rev' (c : Dev nD) (k : Fin 31) : peer (peer c k.rev) k = c := by
  have := peer_rev c k.rev; rwa [Fin.rev_rev] at this
theorem peer_ne (c : Dev nD) (k : Fin 31) : peer c k ≠ c := fun h => by
  have h' := congrArg Fin.val h; rw [peer_val] at h'
  have := dev_lt c; have := k.isLt; omega
theorem peer_inj (c : Dev nD) : Function.Injective (peer c) := fun k k' h => by
  have h' := congrArg Fin.val h; rw [peer_val, peer_val] at h'
  have := dev_lt c; have := k.isLt; have := k'.isLt
  apply Fin.ext; omega

/-- The `k`-th peer of every device, as a rearrangement of the devices. -/
def shift (k : Fin 31) : Dev nD ≃ Dev nD := ⟨fun c => peer c k, fun c => peer c k.rev, fun c => peer_rev c k, fun c => peer_rev' c k⟩

/-- Every device is `c` or one of its peers. -/
theorem univ_peers (c : Dev nD) : (Finset.univ : Finset (Dev nD)) = insert c (Finset.univ.map ⟨peer c, peer_inj c⟩) := by
  refine (Finset.eq_univ_of_card _ ?_).symm
  rw [Finset.card_insert_of_notMem, Finset.card_map]
  · rfl
  · rw [Finset.mem_map]; rintro ⟨k, -, hk⟩; exact peer_ne c k hk

/-! ## The lists of the seven loops -/

theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 3 := by revert c; decide +kernel
theorem dev5_eq (c : Dev nD) : (⟨k0_dev5 c, k0_dev5_lt c⟩ : Dev nD) = peer c 4 := by revert c; decide +kernel
theorem dev6_eq (c : Dev nD) : (⟨k0_dev6 c, k0_dev6_lt c⟩ : Dev nD) = peer c 5 := by revert c; decide +kernel
theorem dev7_eq (c : Dev nD) : (⟨k0_dev7 c, k0_dev7_lt c⟩ : Dev nD) = peer c 6 := by revert c; decide +kernel
theorem dev8_eq (c : Dev nD) : (⟨k0_dev8 c, k0_dev8_lt c⟩ : Dev nD) = peer c 7 := by revert c; decide +kernel
theorem dev9_eq (c : Dev nD) : (⟨k0_dev9 c, k0_dev9_lt c⟩ : Dev nD) = peer c 8 := by revert c; decide +kernel
theorem dev10_eq (c : Dev nD) : (⟨k0_dev10 c, k0_dev10_lt c⟩ : Dev nD) = peer c 9 := by revert c; decide +kernel
theorem dev11_eq (c : Dev nD) : (⟨k0_dev11 c, k0_dev11_lt c⟩ : Dev nD) = peer c 10 := by revert c; decide +kernel
theorem dev12_eq (c : Dev nD) : (⟨k0_dev12 c, k0_dev12_lt c⟩ : Dev nD) = peer c 11 := by revert c; decide +kernel
theorem dev13_eq (c : Dev nD) : (⟨k0_dev13 c, k0_dev13_lt c⟩ : Dev nD) = peer c 12 := by revert c; decide +kernel
theorem dev14_eq (c : Dev nD) : (⟨k0_dev14 c, k0_dev14_lt c⟩ : Dev nD) = peer c 13 := by revert c; decide +kernel
theorem dev15_eq (c : Dev nD) : (⟨k0_dev15 c, k0_dev15_lt c⟩ : Dev nD) = peer c 14 := by revert c; decide +kernel
theorem dev16_eq (c : Dev nD) : (⟨k0_dev16 c, k0_dev16_lt c⟩ : Dev nD) = peer c 15 := by revert c; decide +kernel
theorem dev17_eq (c : Dev nD) : (⟨k0_dev17 c, k0_dev17_lt c⟩ : Dev nD) = peer c 16 := by revert c; decide +kernel
theorem dev18_eq (c : Dev nD) : (⟨k0_dev18 c, k0_dev18_lt c⟩ : Dev nD) = peer c 17 := by revert c; decide +kernel
theorem dev19_eq (c : Dev nD) : (⟨k0_dev19 c, k0_dev19_lt c⟩ : Dev nD) = peer c 18 := by revert c; decide +kernel
theorem dev20_eq (c : Dev nD) : (⟨k0_dev20 c, k0_dev20_lt c⟩ : Dev nD) = peer c 19 := by revert c; decide +kernel
theorem dev21_eq (c : Dev nD) : (⟨k0_dev21 c, k0_dev21_lt c⟩ : Dev nD) = peer c 20 := by revert c; decide +kernel
theorem dev22_eq (c : Dev nD) : (⟨k0_dev22 c, k0_dev22_lt c⟩ : Dev nD) = peer c 21 := by revert c; decide +kernel
theorem dev23_eq (c : Dev nD) : (⟨k0_dev23 c, k0_dev23_lt c⟩ : Dev nD) = peer c 22 := by revert c; decide +kernel
theorem dev24_eq (c : Dev nD) : (⟨k0_dev24 c, k0_dev24_lt c⟩ : Dev nD) = peer c 23 := by revert c; decide +kernel
theorem dev25_eq (c : Dev nD) : (⟨k0_dev25 c, k0_dev25_lt c⟩ : Dev nD) = peer c 24 := by revert c; decide +kernel
theorem dev26_eq (c : Dev nD) : (⟨k0_dev26 c, k0_dev26_lt c⟩ : Dev nD) = peer c 25 := by revert c; decide +kernel
theorem dev27_eq (c : Dev nD) : (⟨k0_dev27 c, k0_dev27_lt c⟩ : Dev nD) = peer c 26 := by revert c; decide +kernel
theorem dev28_eq (c : Dev nD) : (⟨k0_dev28 c, k0_dev28_lt c⟩ : Dev nD) = peer c 27 := by revert c; decide +kernel
theorem dev29_eq (c : Dev nD) : (⟨k0_dev29 c, k0_dev29_lt c⟩ : Dev nD) = peer c 28 := by revert c; decide +kernel
theorem dev30_eq (c : Dev nD) : (⟨k0_dev30 c, k0_dev30_lt c⟩ : Dev nD) = peer c 29 := by revert c; decide +kernel
theorem dev31_eq (c : Dev nD) : (⟨k0_dev31 c, k0_dev31_lt c⟩ : Dev nD) = peer c 30 := by revert c; decide +kernel
theorem dev32_eq (c : Dev nD) : (⟨k0_dev32 c, k0_dev32_lt c⟩ : Dev nD) = peer c 0 := by revert c; decide +kernel
theorem dev33_eq (c : Dev nD) : (⟨k0_dev33 c, k0_dev33_lt c⟩ : Dev nD) = peer c 1 := by revert c; decide +kernel
theorem dev34_eq (c : Dev nD) : (⟨k0_dev34 c, k0_dev34_lt c⟩ : Dev nD) = peer c 2 := by revert c; decide +kernel
theorem dev35_eq (c : Dev nD) : (⟨k0_dev35 c, k0_dev35_lt c⟩ : Dev nD) = peer c 3 := by revert c; decide +kernel
theorem dev36_eq (c : Dev nD) : (⟨k0_dev36 c, k0_dev36_lt c⟩ : Dev nD) = peer c 4 := by revert c; decide +kernel
theorem dev37_eq (c : Dev nD) : (⟨k0_dev37 c, k0_dev37_lt c⟩ : Dev nD) = peer c 5 := by revert c; decide +kernel
theorem dev38_eq (c : Dev nD) : (⟨k0_dev38 c, k0_dev38_lt c⟩ : Dev nD) = peer c 6 := by revert c; decide +kernel
theorem dev39_eq (c : Dev nD) : (⟨k0_dev39 c, k0_dev39_lt c⟩ : Dev nD) = peer c 7 := by revert c; decide +kernel
theorem dev40_eq (c : Dev nD) : (⟨k0_dev40 c, k0_dev40_lt c⟩ : Dev nD) = peer c 8 := by revert c; decide +kernel
theorem dev41_eq (c : Dev nD) : (⟨k0_dev41 c, k0_dev41_lt c⟩ : Dev nD) = peer c 9 := by revert c; decide +kernel
theorem dev42_eq (c : Dev nD) : (⟨k0_dev42 c, k0_dev42_lt c⟩ : Dev nD) = peer c 10 := by revert c; decide +kernel
theorem dev43_eq (c : Dev nD) : (⟨k0_dev43 c, k0_dev43_lt c⟩ : Dev nD) = peer c 11 := by revert c; decide +kernel
theorem dev44_eq (c : Dev nD) : (⟨k0_dev44 c, k0_dev44_lt c⟩ : Dev nD) = peer c 12 := by revert c; decide +kernel
theorem dev45_eq (c : Dev nD) : (⟨k0_dev45 c, k0_dev45_lt c⟩ : Dev nD) = peer c 13 := by revert c; decide +kernel
theorem dev46_eq (c : Dev nD) : (⟨k0_dev46 c, k0_dev46_lt c⟩ : Dev nD) = peer c 14 := by revert c; decide +kernel
theorem dev47_eq (c : Dev nD) : (⟨k0_dev47 c, k0_dev47_lt c⟩ : Dev nD) = peer c 15 := by revert c; decide +kernel
theorem dev48_eq (c : Dev nD) : (⟨k0_dev48 c, k0_dev48_lt c⟩ : Dev nD) = peer c 16 := by revert c; decide +kernel
theorem dev49_eq (c : Dev nD) : (⟨k0_dev49 c, k0_dev49_lt c⟩ : Dev nD) = peer c 17 := by revert c; decide +kernel
theorem dev50_eq (c : Dev nD) : (⟨k0_dev50 c, k0_dev50_lt c⟩ : Dev nD) = peer c 18 := by revert c; decide +kernel
theorem dev51_eq (c : Dev nD) : (⟨k0_dev51 c, k0_dev51_lt c⟩ : Dev nD) = peer c 19 := by revert c; decide +kernel
theorem dev52_eq (c : Dev nD) : (⟨k0_dev52 c, k0_dev52_lt c⟩ : Dev nD) = peer c 20 := by revert c; decide +kernel
theorem dev53_eq (c : Dev nD) : (⟨k0_dev53 c, k0_dev53_lt c⟩ : Dev nD) = peer c 21 := by revert c; decide +kernel
theorem dev54_eq (c : Dev nD) : (⟨k0_dev54 c, k0_dev54_lt c⟩ : Dev nD) = peer c 22 := by revert c; decide +kernel
theorem dev55_eq (c : Dev nD) : (⟨k0_dev55 c, k0_dev55_lt c⟩ : Dev nD) = peer c 23 := by revert c; decide +kernel
theorem dev56_eq (c : Dev nD) : (⟨k0_dev56 c, k0_dev56_lt c⟩ : Dev nD) = peer c 24 := by revert c; decide +kernel
theorem dev57_eq (c : Dev nD) : (⟨k0_dev57 c, k0_dev57_lt c⟩ : Dev nD) = peer c 25 := by revert c; decide +kernel
theorem dev58_eq (c : Dev nD) : (⟨k0_dev58 c, k0_dev58_lt c⟩ : Dev nD) = peer c 26 := by revert c; decide +kernel
theorem dev59_eq (c : Dev nD) : (⟨k0_dev59 c, k0_dev59_lt c⟩ : Dev nD) = peer c 27 := by revert c; decide +kernel
theorem dev60_eq (c : Dev nD) : (⟨k0_dev60 c, k0_dev60_lt c⟩ : Dev nD) = peer c 28 := by revert c; decide +kernel
theorem dev61_eq (c : Dev nD) : (⟨k0_dev61 c, k0_dev61_lt c⟩ : Dev nD) = peer c 29 := by revert c; decide +kernel
theorem dev62_eq (c : Dev nD) : (⟨k0_dev62 c, k0_dev62_lt c⟩ : Dev nD) = peer c 30 := by revert c; decide +kernel
theorem dev63_eq (c : Dev nD) : (⟨k0_dev63 c, k0_dev63_lt c⟩ : Dev nD) = peer c 0 := by revert c; decide +kernel
theorem dev64_eq (c : Dev nD) : (⟨k0_dev64 c, k0_dev64_lt c⟩ : Dev nD) = peer c 1 := by revert c; decide +kernel
theorem dev65_eq (c : Dev nD) : (⟨k0_dev65 c, k0_dev65_lt c⟩ : Dev nD) = peer c 2 := by revert c; decide +kernel
theorem dev66_eq (c : Dev nD) : (⟨k0_dev66 c, k0_dev66_lt c⟩ : Dev nD) = peer c 3 := by revert c; decide +kernel
theorem dev67_eq (c : Dev nD) : (⟨k0_dev67 c, k0_dev67_lt c⟩ : Dev nD) = peer c 4 := by revert c; decide +kernel
theorem dev68_eq (c : Dev nD) : (⟨k0_dev68 c, k0_dev68_lt c⟩ : Dev nD) = peer c 5 := by revert c; decide +kernel
theorem dev69_eq (c : Dev nD) : (⟨k0_dev69 c, k0_dev69_lt c⟩ : Dev nD) = peer c 6 := by revert c; decide +kernel
theorem dev70_eq (c : Dev nD) : (⟨k0_dev70 c, k0_dev70_lt c⟩ : Dev nD) = peer c 7 := by revert c; decide +kernel
theorem dev71_eq (c : Dev nD) : (⟨k0_dev71 c, k0_dev71_lt c⟩ : Dev nD) = peer c 8 := by revert c; decide +kernel
theorem dev72_eq (c : Dev nD) : (⟨k0_dev72 c, k0_dev72_lt c⟩ : Dev nD) = peer c 9 := by revert c; decide +kernel
theorem dev73_eq (c : Dev nD) : (⟨k0_dev73 c, k0_dev73_lt c⟩ : Dev nD) = peer c 10 := by revert c; decide +kernel
theorem dev74_eq (c : Dev nD) : (⟨k0_dev74 c, k0_dev74_lt c⟩ : Dev nD) = peer c 11 := by revert c; decide +kernel
theorem dev75_eq (c : Dev nD) : (⟨k0_dev75 c, k0_dev75_lt c⟩ : Dev nD) = peer c 12 := by revert c; decide +kernel
theorem dev76_eq (c : Dev nD) : (⟨k0_dev76 c, k0_dev76_lt c⟩ : Dev nD) = peer c 13 := by revert c; decide +kernel
theorem dev77_eq (c : Dev nD) : (⟨k0_dev77 c, k0_dev77_lt c⟩ : Dev nD) = peer c 14 := by revert c; decide +kernel
theorem dev78_eq (c : Dev nD) : (⟨k0_dev78 c, k0_dev78_lt c⟩ : Dev nD) = peer c 15 := by revert c; decide +kernel
theorem dev79_eq (c : Dev nD) : (⟨k0_dev79 c, k0_dev79_lt c⟩ : Dev nD) = peer c 16 := by revert c; decide +kernel
theorem dev80_eq (c : Dev nD) : (⟨k0_dev80 c, k0_dev80_lt c⟩ : Dev nD) = peer c 17 := by revert c; decide +kernel
theorem dev81_eq (c : Dev nD) : (⟨k0_dev81 c, k0_dev81_lt c⟩ : Dev nD) = peer c 18 := by revert c; decide +kernel
theorem dev82_eq (c : Dev nD) : (⟨k0_dev82 c, k0_dev82_lt c⟩ : Dev nD) = peer c 19 := by revert c; decide +kernel
theorem dev83_eq (c : Dev nD) : (⟨k0_dev83 c, k0_dev83_lt c⟩ : Dev nD) = peer c 20 := by revert c; decide +kernel
theorem dev84_eq (c : Dev nD) : (⟨k0_dev84 c, k0_dev84_lt c⟩ : Dev nD) = peer c 21 := by revert c; decide +kernel
theorem dev85_eq (c : Dev nD) : (⟨k0_dev85 c, k0_dev85_lt c⟩ : Dev nD) = peer c 22 := by revert c; decide +kernel
theorem dev86_eq (c : Dev nD) : (⟨k0_dev86 c, k0_dev86_lt c⟩ : Dev nD) = peer c 23 := by revert c; decide +kernel
theorem dev87_eq (c : Dev nD) : (⟨k0_dev87 c, k0_dev87_lt c⟩ : Dev nD) = peer c 24 := by revert c; decide +kernel
theorem dev88_eq (c : Dev nD) : (⟨k0_dev88 c, k0_dev88_lt c⟩ : Dev nD) = peer c 25 := by revert c; decide +kernel
theorem dev89_eq (c : Dev nD) : (⟨k0_dev89 c, k0_dev89_lt c⟩ : Dev nD) = peer c 26 := by revert c; decide +kernel
theorem dev90_eq (c : Dev nD) : (⟨k0_dev90 c, k0_dev90_lt c⟩ : Dev nD) = peer c 27 := by revert c; decide +kernel
theorem dev91_eq (c : Dev nD) : (⟨k0_dev91 c, k0_dev91_lt c⟩ : Dev nD) = peer c 28 := by revert c; decide +kernel
theorem dev92_eq (c : Dev nD) : (⟨k0_dev92 c, k0_dev92_lt c⟩ : Dev nD) = peer c 29 := by revert c; decide +kernel
theorem dev93_eq (c : Dev nD) : (⟨k0_dev93 c, k0_dev93_lt c⟩ : Dev nD) = peer c 30 := by revert c; decide +kernel

theorem lSig_eq (c : Dev nD) : (lSig c : List (PrK F PUnit)) = List.ofFn fun k => stSig (peer c k) := by
  unfold lSig
  simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq, dev25_eq, dev26_eq, dev27_eq, dev28_eq, dev29_eq, dev30_eq, dev31_eq]
  rfl
theorem lSend0_eq (c : Dev nD) : (lSend0 c : List (PrK F PUnit)) = List.ofFn fun k => stSend0 c (peer c k) k := by
  unfold lSend0
  simp only [dev32_eq, dev33_eq, dev34_eq, dev35_eq, dev36_eq, dev37_eq, dev38_eq, dev39_eq, dev40_eq, dev41_eq, dev42_eq, dev43_eq, dev44_eq, dev45_eq, dev46_eq, dev47_eq, dev48_eq, dev49_eq, dev50_eq, dev51_eq, dev52_eq, dev53_eq, dev54_eq, dev55_eq, dev56_eq, dev57_eq, dev58_eq, dev59_eq, dev60_eq, dev61_eq, dev62_eq]
  rfl
theorem lSend1_eq (c : Dev nD) : (lSend1 c : List (PrK F PUnit)) = List.ofFn fun k => stSend1 c (peer c k) k := by
  unfold lSend1
  simp only [dev63_eq, dev64_eq, dev65_eq, dev66_eq, dev67_eq, dev68_eq, dev69_eq, dev70_eq, dev71_eq, dev72_eq, dev73_eq, dev74_eq, dev75_eq, dev76_eq, dev77_eq, dev78_eq, dev79_eq, dev80_eq, dev81_eq, dev82_eq, dev83_eq, dev84_eq, dev85_eq, dev86_eq, dev87_eq, dev88_eq, dev89_eq, dev90_eq, dev91_eq, dev92_eq, dev93_eq]
  rfl
theorem lWaitS0_eq (c : Dev nD) : (lWaitS0 c : List (PrK F PUnit)) = List.ofFn fun k => stWaitS0 c k := rfl
theorem lWaitR0_eq (c : Dev nD) : (lWaitR0 c : List (PrK F PUnit)) = List.ofFn fun k => stWaitR0 c k := rfl
theorem lWaitS1_eq (c : Dev nD) : (lWaitS1 c : List (PrK F PUnit)) = List.ofFn fun k => stWaitS1 c k := rfl
theorem lWaitR1_eq (c : Dev nD) : (lWaitR1 c : List (PrK F PUnit)) = List.ofFn fun k => stWaitR1 c k := rfl

/-! ## The cells -/

/-- The kernel's own semaphores: the two local copies', and for each exchange and distance a sending and a receiving one. -/
abbrev CI : Type := Fin 2 ⊕ (Fin 2 × Fin 31) ⊕ (Fin 2 × Fin 31)

abbrev osem : CI → SemLoc sig
  | .inl j => .dma (cpS j)
  | .inr (.inl hk) => .dma (sndS (ix hk.1 hk.2))
  | .inr (.inr hk) => .dma (rcvS (ix hk.1 hk.2))
/-- All the protocol's semaphores: the barrier's beside the own ones. -/
abbrev csem : Unit ⊕ CI → SemLoc sig
  | .inl _ => .reg barS
  | .inr i => osem i
abbrev kcell (ci : Dev nD × (Unit ⊕ CI)) : GSem nD τ sig := ((ci.1 : Thread nD τ), csem ci.2)

abbrev barCell (c : Dev nD) : GSem nD τ sig := ((c : Thread nD τ), .reg barS)
abbrev cpCell (c : Dev nD) (j : Fin 2) : GSem nD τ sig := ((c : Thread nD τ), .dma (cpS j))
abbrev sndCell (c : Dev nD) (h : Fin 2) (k : Fin 31) : GSem nD τ sig := ((c : Thread nD τ), .dma (sndS (ix h k)))
abbrev rcvCell (c : Dev nD) (h : Fin 2) (k : Fin 31) : GSem nD τ sig := ((c : Thread nD τ), .dma (rcvS (ix h k)))

theorem cpS_val (j : Fin 2) : (cpS j).val = 4 + j.val := by revert j; decide +kernel
theorem sndS_val (j : Fin 62) : (sndS j).val = 6 + j.val := by revert j; decide +kernel
theorem rcvS_val (j : Fin 62) : (rcvS j).val = 68 + j.val := by revert j; decide +kernel

/-- The number of an own semaphore among the copies' semaphores. -/
def num : CI → ℕ
  | .inl j => 4 + j.val
  | .inr (.inl hk) => 6 + (31 * hk.1.val + hk.2.val)
  | .inr (.inr hk) => 68 + (31 * hk.1.val + hk.2.val)

theorem num_inj : Function.Injective num := by
  rintro (⟨j, hj⟩ | ⟨⟨h, hh⟩, ⟨k, hk⟩⟩ | ⟨⟨h, hh⟩, ⟨k, hk⟩⟩) (⟨j', hj'⟩ | ⟨⟨h', hh'⟩, ⟨k', hk'⟩⟩ | ⟨⟨h', hh'⟩, ⟨k', hk'⟩⟩) e <;>
    simp only [num] at e <;> (try omega)
  · obtain rfl : j = j' := by omega
    rfl
  · obtain rfl : h = h' := by omega
    obtain rfl : k = k' := by omega
    rfl
  · obtain rfl : h = h' := by omega
    obtain rfl : k = k' := by omega
    rfl

def semNum : SemLoc sig → ℕ
  | .reg _ => 0
  | .dma q => q.val
theorem semNum_osem (i : CI) : semNum (osem i) = num i := by
  rcases i with j | hk | hk
  · exact cpS_val j
  · exact sndS_val _
  · exact rcvS_val _
theorem osem_inj : Function.Injective osem := fun i j h => num_inj (by rw [← semNum_osem, ← semNum_osem, h])
theorem osem_ne_bar (i : CI) : osem i ≠ .reg barS := by rcases i with j | hk | hk <;> exact fun h => by cases h
theorem csem_inj : Function.Injective csem := by
  rintro (_ | i) (_ | j) h
  · rfl
  · exact absurd h.symm (osem_ne_bar j)
  · exact absurd h (osem_ne_bar i)
  · exact congrArg Sum.inr (osem_inj h)
theorem kcell_inj : Function.Injective kcell := by
  rintro ⟨c, k⟩ ⟨c', k'⟩ h
  have h1 : c = c' := by have := congrArg (fun g : GSem nD τ sig => g.1.1) h; exact this
  subst h1
  have h2 : csem k = csem k' := congrArg Prod.snd h
  rw [csem_inj h2]

/-- The amount of every remote copy: eight rows of 1024 half-width elements. -/
def N : ℕ := (sTop : Memref sig .tc .vmem S8x1024 .bf16).view.dmaCredit
def Ncp : ℕ := (kM : Memref sig .tc .vmem S4096x2x128 .f32).view.dmaCredit
theorem N_pos : 0 < N := View.dmaCredit_pos _ (by decide)
theorem Ncp_pos : 0 < Ncp := View.dmaCredit_pos _ (by decide)

end Cert.KernelIdeal.Pf

end
-- ==== Proof.Ki.Proto.lean ====
module

public import proofs.«01_k».proof.Proof.Ki.Cells
public import Idealize.ShloMosaic.Lib.ShareLeaves
public import Idealize.ShloMosaic.Lib.SparseCore.ProtocolKit
public import Idealize.ShloMosaic.Lib.Pointwise.Index

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The contents, the schedule, the debts

What every buffer holds at each stage, from the memory the run starts in, and who pays which semaphore with what. -/

/-- The ghost state: the pipeline's library's, and the protocol's, its duties numbered by distance. -/
abbrev UB : Type := URounds (GSem nD τ sig) (Fin 31)
abbrev UU : Type := UR sig nD τ × UB

local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- The device whose block of eight rows row `n` lies in. -/
def blkDev (n : ℕ) : Dev nD := ⟨(n / 8) % 32, Nat.mod_lt _ (by decide)⟩
/-- Row `r` (modulo 8) of device `d`'s block of eight rows. -/
def rowOf (d : Dev nD) (r : ℕ) : Fin 256 := ⟨8 * d.val + r % 8, by have := dev_lt d; omega⟩
/-- Row `r` modulo 8. -/
def mod8 (r : ℕ) : Fin 8 := ⟨r % 8, Nat.mod_lt _ (by decide)⟩

/-- The blocks of `x`, `Wq` and `Wo` on device `c`, as they are staged. -/
def xB (c : Dev nD) : (cc0_stg0_0 : Ref sig .tc).ty.Contents (Elt F) := (win0_0.blk (0 : Fin 1)).view.read (Elt F) (m ((c : Thread nD τ).loc main_arg0))
def qB (c : Dev nD) : (cc0_stg1_0 : Ref sig .tc).ty.Contents (Elt F) := (win0_1.blk (0 : Fin 1)).view.read (Elt F) (m ((c : Thread nD τ).loc main_arg1))
def wB (c : Dev nD) : (cc0_stg2_0 : Ref sig .tc).ty.Contents (Elt F) := (win0_2.blk (0 : Fin 1)).view.read (Elt F) (m ((c : Thread nD τ).loc main_arg4))
/-- Device `c`'s two key heads and two value heads. -/
def kB (c : Dev nD) : (cc0_scratch0 : Ref sig .tc).ty.Contents (Elt F) := (kHs c).view.read (Elt F) (m ((c : Thread nD τ).loc main_arg2))
def vB (c : Dev nD) : (cc0_scratch1 : Ref sig .tc).ty.Contents (Elt F) := (vHs c).view.read (Elt F) (m ((c : Thread nD τ).loc main_arg3))

abbrev rHead0 : Rect S4096x2x128 := Rect.unit (s := S4096x2x128) ![0, 0, 0] S4096x1x128.size inb_S4096x2x128_S4096x1x128_0_0_0
abbrev rHead1 : Rect S4096x2x128 := Rect.unit (s := S4096x2x128) ![0, 1, 0] S4096x1x128.size inb_S4096x2x128_S4096x1x128_0_1_0

/-- The partial result of device `c`: its heads' attention through its rows of `Wo`. -/
def partB (c : Dev nD) : FVec F S1x256x1024 .f32 :=
  partOf (xB m c) (qB m c) (kM.view.readAt (Elt F) rHead0.toLoadRect (kB m c)) (vM.view.readAt (Elt F) rHead0.toLoadRect (vB m c))
    (kM.view.readAt (Elt F) rHead1.toLoadRect (kB m c)) (vM.view.readAt (Elt F) rHead1.toLoadRect (vB m c)) (wB m c)
/-- The partial result as the exchange stages it. -/
def stgB (c : Dev nD) : FVec F S256x1024 .bf16 := k0_pay21 (partB m c)

/-- Block `c` of every device's partial result, one device under another: what lands in the first half of device `c`'s landing buffer, -/
def commRS (c : Dev nD) : (cc0_scratch3 : Ref sig .tc).ty.Contents (Elt F) := fun i => stgB m (blkDev (i (0 : Fin 2)).val) (ix2 (rowOf c (i (0 : Fin 2)).val) (i (1 : Fin 2)))
/-- and as the sum reads it. -/
def rsIn (c : Dev nD) : Vec F S256x1024 .bf16 := fun i => stgB m (blkDev (i (0 : Fin 2)).val) (ix2 (rowOf c (i (0 : Fin 2)).val) (i (1 : Fin 2)))
/-- Block `c` of the sum of the partial results. -/
def redB (c : Dev nD) : FVec F S8x1024 .bf16 := k0_pay25 (rsIn m c)
/-- The first eight rows of the staging buffer from then on. -/
def topB (c : Dev nD) : (cc0_scratch4 : Ref sig .tc).ty.Contents (Elt F) := fun i => redB m c (ix2 (mod8 (i (0 : Fin 2)).val) (i (1 : Fin 2)))
/-- Every device's block of the sum, one under another: what lands in the second half of every landing buffer, -/
def commAG : (cc0_scratch3 : Ref sig .tc).ty.Contents (Elt F) := fun i => redB m (blkDev (i (0 : Fin 2)).val) (ix2 (mod8 (i (0 : Fin 2)).val) (i (1 : Fin 2)))
/-- and as it is read at the end. -/
def agIn : Vec F S256x1024 .bf16 := fun i => redB m (blkDev (i (0 : Fin 2)).val) (ix2 (mod8 (i (0 : Fin 2)).val) (i (1 : Fin 2)))
/-- The kernel's result, the same on every device. -/
def outB : (cc0_stg3_0 : Ref sig .tc).ty.Contents (Elt F) := k0_pay1 (agIn m)

/-! ## Rows -/

/-- Device `d`'s block of rows in half `h` of a landing buffer. -/
def rowsC (h : Fin 2) (d : Dev nD) : Finset (S512x1024.Idx) := Finset.univ.filter fun i => 256 * h.val + 8 * d.val ≤ (i 0).val ∧ (i 0).val < 256 * h.val + 8 * d.val + 8
/-- Device `d`'s block of rows in a staging buffer. -/
def rowsS (d : Dev nD) : Finset (S256x1024.Idx) := Finset.univ.filter fun i => 8 * d.val ≤ (i 0).val ∧ (i 0).val < 8 * d.val + 8

abbrev ptsC (c : Dev nD) (S : Finset S512x1024.Idx) (f : (cc0_scratch3 : Ref sig .tc).ty.Contents (Elt F)) : sProp 𝕄 :=
  ((c : Thread nD τ).loc cc0_scratch3) ↦[S]{fullShare} f
abbrev ptsS (c : Dev nD) (S : Finset S256x1024.Idx) (q : PosShare TreeShare) (f : (cc0_scratch4 : Ref sig .tc).ty.Contents (Elt F)) : sProp 𝕄 :=
  ((c : Thread nD τ).loc cc0_scratch4) ↦[S]{q} f

/-- The share of the reduced rows that the copy to the `k`-th peer reads through; -/
abbrev lf (k : Fin 31) : PosShare TreeShare := ShareLeaves.leaf 5 fullShare k.succ
/-- the share the device keeps. -/
abbrev lfOwn : PosShare TreeShare := ShareLeaves.leaf 5 fullShare (0 : Fin 32)

/-! ## The schedule -/

/-- What the `k`-th peer's signal hands device `c`: the rows of that peer's landing buffer that `c` writes. -/
def barPay (c : Dev nD) (k : Fin 31) : sProp 𝕄 := iprop((∃ f, ptsC (peer c k) (rowsC 0 c) f) ∗ (∃ f, ptsC (peer c k) (rowsC 1 c) f))
/-- A local copy's landing: the buffer filled, and the source back. -/
def cpPay (c : Dev nD) (j : Fin 2) : sProp 𝕄 :=
  if j = 0 then iprop((((c : Thread nD τ).loc cc0_scratch0) ↦{fullShare} kB m c) ∗ (((c : Thread nD τ).loc main_arg2) ↦[(kHs c).view.set]{fullShare} m ((c : Thread nD τ).loc main_arg2)))
  else iprop((((c : Thread nD τ).loc cc0_scratch1) ↦{fullShare} vB m c) ∗ (((c : Thread nD τ).loc main_arg3) ↦[(vHs c).view.set]{fullShare} m ((c : Thread nD τ).loc main_arg3)))
/-- The source rows of a remote copy, back. -/
def sndPay (c : Dev nD) (h : Fin 2) (k : Fin 31) : sProp 𝕄 :=
  if h = 0 then ptsS c (rowsS (peer c k)) fullShare (stgB m c) else ptsS c (rowsS 0) (lf k) (topB m c)
/-- The landing of the copy from the device whose `k`-th peer is `c`. -/
def rcvPay (c : Dev nD) (h : Fin 2) (k : Fin 31) : sProp 𝕄 :=
  if h = 0 then ptsC c (rowsC 0 (peer c k.rev)) (commRS m c) else ptsC c (rowsC 1 (peer c k.rev)) (commAG m)

def payOf (c : Dev nD) (i : Unit ⊕ CI) (d : Fin 31) : sProp 𝕄 := match i with
  | .inl _ => barPay c d
  | .inr (.inl j) => cpPay m c j
  | .inr (.inr (.inl hk)) => sndPay m c hk.1 hk.2
  | .inr (.inr (.inr hk)) => rcvPay m c hk.1 hk.2
def amtOf : Unit ⊕ CI → ℕ
  | .inl _ => 1
  | .inr (.inl _) => Ncp
  | .inr (.inr (.inl _)) => N
  | .inr (.inr (.inr _)) => N
def dutOf : Unit ⊕ CI → Finset (Fin 31)
  | .inl _ => Finset.univ
  | .inr _ => {0}
theorem amtOf_pos (i : Unit ⊕ CI) : 0 < amtOf i := by
  rcases i with _ | j | hk | hk
  · exact Nat.one_pos
  · exact Ncp_pos
  · exact N_pos
  · exact N_pos

/-- Which of the protocol's semaphores `s` is, if any. -/
def dec (s : SemLoc sig) : Option (Unit ⊕ CI) := Function.partialInv csem s
theorem dec_csem (i : Unit ⊕ CI) : dec (csem i) = some i := Function.partialInv_left csem_inj i

/-- One round: the barrier cell has one duty of one unit for each peer; every other cell one duty of its copy's amount. -/
def Rd : Rounds.Schedule (GSem nD τ sig) (Fin 31) 𝕄 where
  duties g r := if r = 0 ∧ g.1.2 = .tc then (dec g.2).elim ∅ dutOf else ∅
  unitless _ := False
  amount g _ _ := (dec g.2).elim 1 amtOf
  payload g _ d := (dec g.2).elim iprop(emp) fun i => payOf m g.1.1 i d
  amount_pos g _ _ _ := by
    cases h : dec g.2 with
    | none => exact Nat.one_pos
    | some i => exact amtOf_pos i

instance Rd_payload_storable (g : GSem nD τ sig) (r : ℕ) (d : Fin 31) : BI.Storable (upEmb : UEmb _ 𝕄) ((Rd (F := F) m).payload g r d) := by
  show BI.Storable upEmb ((dec g.2).elim iprop(emp) fun i => payOf m g.1.1 i d)
  cases dec g.2 with
  | none => simp only [Option.elim]; infer_instance
  | some i =>
    simp only [Option.elim]
    rcases i with _ | j | hk | hk <;> unfold payOf <;> simp only
    · unfold barPay; infer_instance
    · unfold cpPay; split <;> infer_instance
    · unfold sndPay; split <;> infer_instance
    · unfold rcvPay; split <;> infer_instance

section Sched
variable (c : Dev nD) (i : Unit ⊕ CI)

omit [FloatOps F] in
theorem dec_kcell : dec (kcell (c, i)).2 = some i := dec_csem i
theorem duties_k : (Rd (F := F) m).duties (kcell (c, i)) 0 = dutOf i := by
  dsimp only [Rd]; rw [if_pos ⟨rfl, rfl⟩, dec_csem]; rfl
theorem duties_later (g : GSem nD τ sig) : ∀ r, 1 ≤ r → (Rd (F := F) m).duties g r = ∅ :=
  fun r hr => by dsimp only [Rd]; rw [if_neg fun h => by omega]
theorem amount_k (d : Fin 31) : (Rd (F := F) m).amount (kcell (c, i)) 0 d = amtOf i := by
  dsimp only [Rd]; rw [dec_csem]; rfl
theorem payload_k (d : Fin 31) : (Rd (F := F) m).payload (kcell (c, i)) 0 d = payOf m c i d := by
  dsimp only [Rd]; rw [dec_csem]; rfl
theorem expect_k : (Rd (F := F) m).expect (kcell (c, i)) 0 = (dutOf i).card * amtOf i := by
  unfold Schedule.expect Schedule.amountOf
  rw [duties_k, Finset.sum_congr rfl fun d _ => amount_k m c i d, Finset.sum_const, smul_eq_mul]
theorem rest_k : bigSep ((Rd (F := F) m).duties (kcell (c, i)) 0 \ ∅) (fun d => (Rd (F := F) m).payload (kcell (c, i)) 0 d)
    = bigSep (dutOf i) fun d => payOf m c i d := by
  rw [Finset.sdiff_empty, duties_k]; exact bigSep_congr fun d _ => payload_k m c i d
theorem rest_own (j : CI) : bigSep ((Rd (F := F) m).duties (kcell (c, .inr j)) 0 \ ∅) (fun d => (Rd (F := F) m).payload (kcell (c, .inr j)) 0 d)
    = payOf m c (.inr j) 0 := by
  rw [rest_k]; exact bigSep_singleton
end Sched

/-! ## What each device owes at launch; the levels -/

/-- What device `c` owes from its `k`-th remote copy of exchange `h` on; -/
def owX (h : Fin 2) (c : Dev nD) (k : ℕ) : CellTallies nD τ sig Unit := ∑ j ∈ SparseCore.ProtocolKit.finFrom 31 k, tallyAt (rcvCell (peer c j) h j) () N
/-- from its `k`-th signal on; -/
def owB (c : Dev nD) (k : ℕ) : CellTallies nD τ sig Unit := ∑ j ∈ SparseCore.ProtocolKit.finFrom 31 k, tallyAt (barCell (peer c j)) () 1
/-- at launch. -/
def O₀ (c : Dev nD) : CellTallies nD τ sig Unit := owX 1 c 0 + owX 0 c 0 + owB c 0

def L (g : GSem nD τ sig) : Finset Unit := if g.1.2 = .tc then {()} else ∅
def lvOf : Unit ⊕ CI → ℕ
  | .inl _ => 1
  | .inr (.inr (.inr hk)) => 2 + hk.1.val
  | _ => 0
/-- Barrier cells at 1, the first exchange's receive cells at 2, the second's at 3, everything else at 0. -/
def lv (g : GSem nD τ sig) (_ : Unit) : ℕ := (dec g.2).elim 0 lvOf

theorem lv_k (c : Dev nD) (i : Unit ⊕ CI) : lv (kcell (c, i)) () = lvOf i := by unfold lv; rw [dec_csem]; rfl
theorem L_of_ne (g : GSem nD τ sig) (h : g.1.2 ≠ .tc) : L g = ∅ := if_neg h
theorem L_tc (c : Dev nD) (sm : SemLoc sig) : L ((c : Thread nD τ), sm) = {()} := if_pos rfl

theorem owX_pos {h : Fin 2} {c : Dev nD} {k : ℕ} {g : GSem nD τ sig} {u : Unit} (hg : 0 < owX h c k g u) : ∃ j, g = rcvCell (peer c j) h j := by
  obtain ⟨j, -, e, -⟩ := SparseCore.ProtocolKit.sum_tallyAt_apply_pos hg; exact ⟨j, e⟩
theorem owB_pos {c : Dev nD} {k : ℕ} {g : GSem nD τ sig} {u : Unit} (hg : 0 < owB c k g u) : ∃ j, g = barCell (peer c j) := by
  obtain ⟨j, -, e, -⟩ := SparseCore.ProtocolKit.sum_tallyAt_apply_pos hg; exact ⟨j, e⟩

theorem add_pos_or {O O' : CellTallies nD τ sig Unit} {g : GSem nD τ sig} {u : Unit} (h : 0 < (O + O') g u) : 0 < O g u ∨ 0 < O' g u := by
  rw [Pi.add_apply, Finsupp.add_apply] at h; omega

/-- A wait at a level below everything owed. -/
theorem mayWait_below (c : Dev nD) (sm : SemLoc sig) (l : ℕ) (hl : lv ((c : Thread nD τ), sm) () ≤ l) (O : CellTallies nD τ sig Unit)
    (hO : ∀ g u, 0 < O g u → g.1.2 = .tc ∧ l < lv g u) :
    (levAts L lv : sProp 𝕄) ⊢ MayWait (c : Thread nD τ) sm () O :=
  MayOwe.of_cut (L := L) (lev := lv) l (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hl)
    (fun g u hg => (hO g u hg).2)

theorem owX_above {h : Fin 2} {c : Dev nD} {k : ℕ} : ∀ g u, 0 < owX h c k g u → g.1.2 = .tc ∧ 2 + h.val ≤ lv g u := fun g u hg => by
  obtain ⟨j, rfl⟩ := owX_pos hg
  exact ⟨rfl, (lv_k (peer c j) (.inr (.inr (.inr (h, j))))).ge⟩
theorem owB_above {c : Dev nD} {k : ℕ} : ∀ g u, 0 < owB c k g u → g.1.2 = .tc ∧ 1 ≤ lv g u := fun g u hg => by
  obtain ⟨j, rfl⟩ := owB_pos hg
  exact ⟨rfl, (lv_k (peer c j) (.inl ())).ge⟩

end Cert.KernelIdeal.Pf

end
-- ==== Proof.Ki.Rows.lean ====
module

public import proofs.«01_k».proof.Proof.Ki.Proto
public import Idealize.ShloMosaic.Lib.SparseCore.Stream

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The rows

The element sets the copies and the stores touch, and what each of them leaves there. -/

local notation "𝕄" => MT nD τ sig Unit (Elt F) ℕ UU ℕ

/-! ## Offsets -/

theorem off2_eq (h : Fin 2) (c : Dev nD) : k0_off2 c (BitVec.ofNat 32 (256 * h.val)) = ![256 * h.val + 8 * c.val, 0] := k0_off2_eq c h
theorem off5_eq (h : Fin 2) (c : Dev nD) : k0_off5 c (BitVec.ofNat 32 (256 * h.val)) = ![256 * h.val + 8 * c.val, 0] := k0_off5_eq c h
theorem off3_eq (c : Dev nD) (k : Fin 31) : k0_off3 c (BitVec.ofNat 32 (1 + k.val)) = ![8 * (peer c k).val, 0] := by revert c k; decide +kernel

/-! ## Element sets -/

theorem mem_rowsC {h : Fin 2} {d : Dev nD} {i : S512x1024.Idx} : i ∈ rowsC h d ↔ 256 * h.val + 8 * d.val ≤ (i 0).val ∧ (i 0).val < 256 * h.val + 8 * d.val + 8 := by
  unfold rowsC; rw [Finset.mem_filter]; exact and_iff_right (Finset.mem_univ _)
theorem mem_rowsS {d : Dev nD} {i : S256x1024.Idx} : i ∈ rowsS d ↔ 8 * d.val ≤ (i 0).val ∧ (i 0).val < 8 * d.val + 8 := by
  unfold rowsS; rw [Finset.mem_filter]; exact and_iff_right (Finset.mem_univ _)

theorem rect_rowsC (h : Fin 2) (d : Dev nD) (off : Fin 2 → ℕ) (hoff : off = ![256 * h.val + 8 * d.val, 0]) (hb : ∀ a, off a + S8x1024.size a ≤ S512x1024.size a) :
    (Rect.unit (s := S512x1024) off S8x1024.size hb).set = rowsC h d := by
  subst hoff
  ext i
  rw [Rect.mem_set_unit, mem_rowsC]
  have h1 : (i 1).val < 1024 := (i 1).isLt
  constructor
  · intro H; exact H 0
  · intro H a; fin_cases a
    · exact H
    · exact ⟨Nat.zero_le _, by show (i 1).val < 0 + 1024; omega⟩
theorem rect_rowsS (d : Dev nD) (off : Fin 2 → ℕ) (hoff : off = ![8 * d.val, 0]) (hb : ∀ a, off a + S8x1024.size a ≤ S256x1024.size a) :
    (Rect.unit (s := S256x1024) off S8x1024.size hb).set = rowsS d := by
  subst hoff
  ext i
  rw [Rect.mem_set_unit, mem_rowsS]
  have h1 : (i 1).val < 1024 := (i 1).isLt
  constructor
  · intro H; exact H 0
  · intro H a; fin_cases a
    · exact H
    · exact ⟨Nat.zero_le _, by show (i 1).val < 0 + 1024; omega⟩

theorem cRow_set (h : Fin 2) (c : Dev nD) : (cRow h c).view.set = rowsC h c :=
  (View.set_slice_whole cc0_scratch3 _).trans (rect_rowsC h c _ (off2_eq h c) _)
theorem sRow_set (c : Dev nD) (k : Fin 31) : (sRow c k).view.set = rowsS (peer c k) :=
  (View.set_slice_whole cc0_scratch4 _).trans (rect_rowsS (peer c k) _ (off3_eq c k) _)
theorem sTop_set : sTop.view.set = rowsS 0 :=
  (View.set_slice_whole cc0_scratch4 _).trans (rect_rowsS 0 _ rfl _)

/-- The rows of half `h`. -/
def halfC (h : Fin 2) : Finset S512x1024.Idx := Finset.univ.filter fun i => 256 * h.val ≤ (i 0).val ∧ (i 0).val < 256 * h.val + 256

theorem mem_halfC {h : Fin 2} {i : S512x1024.Idx} : i ∈ halfC h ↔ 256 * h.val ≤ (i 0).val ∧ (i 0).val < 256 * h.val + 256 := by
  unfold halfC; rw [Finset.mem_filter]; exact and_iff_right (Finset.mem_univ _)
theorem half_rows (h : Fin 2) (i : S512x1024.Idx) : i ∈ halfC h ↔ ∃ d, i ∈ rowsC h d := by
  constructor
  · intro H
    have H := mem_halfC.mp H
    refine ⟨⟨((i 0).val - 256 * h.val) / 8, show _ < 32 by omega⟩, mem_rowsC.mpr ?_⟩
    show 256 * h.val + 8 * (((i 0).val - 256 * h.val) / 8) ≤ _ ∧ _ < 256 * h.val + 8 * (((i 0).val - 256 * h.val) / 8) + 8
    omega
  · rintro ⟨d, hd⟩
    have := mem_rowsC.mp hd; have := dev_lt d
    exact mem_halfC.mpr (by omega)
theorem halves (i : S512x1024.Idx) : i ∈ halfC 0 ∨ i ∈ halfC 1 := by
  have h0 : (i 0).val < 512 := (i 0).isLt
  rw [mem_halfC, mem_halfC]
  show (256 * 0 ≤ _ ∧ _ < 256 * 0 + 256) ∨ (256 * 1 ≤ _ ∧ _ < 256 * 1 + 256)
  omega
theorem halves_disjoint (i : S512x1024.Idx) (h0 : i ∈ halfC 0) : i ∉ halfC 1 := fun h1 => by
  have h0 := (mem_halfC.mp h0).2; have h1 := (mem_halfC.mp h1).1
  change _ < 256 * 0 + 256 at h0; change 256 * 1 ≤ _ at h1
  omega
theorem rowsC_inj {h : Fin 2} {d d' : Dev nD} {i : S512x1024.Idx} (hi : i ∈ rowsC h d) (hi' : i ∈ rowsC h d') : d = d' :=
  Fin.ext (by have := mem_rowsC.mp hi; have := mem_rowsC.mp hi'; omega)
theorem rowsS_inj {d d' : Dev nD} {i : S256x1024.Idx} (hi : i ∈ rowsS d) (hi' : i ∈ rowsS d') : d = d' :=
  Fin.ext (by have := mem_rowsS.mp hi; have := mem_rowsS.mp hi'; omega)
theorem rowsS_all (i : S256x1024.Idx) : ∃ d, i ∈ rowsS d := by
  have h0 : (i 0).val < 256 := (i 0).isLt
  refine ⟨⟨(i 0).val / 8, show _ < 32 by omega⟩, mem_rowsS.mpr ?_⟩
  show 8 * ((i 0).val / 8) ≤ _ ∧ _ < 8 * ((i 0).val / 8) + 8
  omega

/-! ## Splitting the buffers -/

/-- Elements that lie each in exactly one of a family of sets are held as the family is. -/
theorem pts_family {ℓ : Loc nD τ sig} {T : Type} [Fintype T] (S : Finset (Idx ℓ)) (K : T → Finset (Idx ℓ)) (q : PosShare TreeShare) (f : Buf (Elt F) ℓ)
    (hS : ∀ i, i ∈ S ↔ ∃ t, i ∈ K t) (hK : ∀ t t' i, i ∈ K t → i ∈ K t' → t = t') :
    (ℓ ↦[S]{q} f : sProp 𝕄) = bigSep Finset.univ fun t => ℓ ↦[K t]{q} f := by
  have e : S = Finset.univ.biUnion K := Finset.ext fun i => by rw [hS, Finset.mem_biUnion]; simp
  rw [e]
  exact pointsTo_biUnion Finset.univ K fun t _ t' _ hne => Finset.disjoint_left.mpr fun i hi hi' => hne (hK t t' i hi hi')
theorem pts_two {ℓ : Loc nD τ sig} (S I J : Finset (Idx ℓ)) (q : PosShare TreeShare) (f : Buf (Elt F) ℓ)
    (hS : ∀ i, i ∈ S ↔ i ∈ I ∨ i ∈ J) (hK : ∀ i, i ∈ I → i ∉ J) :
    (ℓ ↦[S]{q} f : sProp 𝕄) ⊣⊢ iprop((ℓ ↦[I]{q} f) ∗ ℓ ↦[J]{q} f) := by
  have e : S = I ∪ J := Finset.ext fun i => by rw [hS, Finset.mem_union]
  rw [e]; exact pointsTo_union (Finset.disjoint_left.mpr hK)
theorem pts_two_join {ℓ : Loc nD τ sig} (S I J : Finset (Idx ℓ)) (q : PosShare TreeShare) (f g : Buf (Elt F) ℓ)
    (hS : ∀ i, i ∈ S ↔ i ∈ I ∨ i ∈ J) (hK : ∀ i, i ∈ I → i ∉ J) :
    iprop((ℓ ↦[I]{q} f) ∗ ℓ ↦[J]{q} g) ⊢ (iprop(∃ f', ℓ ↦[S]{q} f') : sProp 𝕄) := by
  have e : S = I ∪ J := Finset.ext fun i => by rw [hS, Finset.mem_union]
  rw [e]
  refine (pointsTo_join (Finset.disjoint_left.mpr hK)).trans ?_
  iintro H; iexists _; iexact H

section Split
variable (c : Dev nD)

theorem ptsC_half (h : Fin 2) (f : (cc0_scratch3 : Ref sig .tc).ty.Contents (Elt F)) : (ptsC c (halfC h) f : sProp 𝕄) = bigSep Finset.univ fun d => ptsC c (rowsC h d) f :=
  pts_family (ℓ := (c : Thread nD τ).loc cc0_scratch3) (halfC h) (rowsC h) fullShare f (half_rows h) fun _ _ _ => rowsC_inj
theorem ptsC_univ (f : (cc0_scratch3 : Ref sig .tc).ty.Contents (Elt F)) : (ptsC c Finset.univ f : sProp 𝕄) ⊢ iprop(ptsC c (halfC 0) f ∗ ptsC c (halfC 1) f) :=
  (pts_two (ℓ := (c : Thread nD τ).loc cc0_scratch3) _ (halfC 0) (halfC 1) fullShare f (fun i => iff_of_true (Finset.mem_univ _) (halves i)) halves_disjoint).1
theorem ptsC_join (f g : (cc0_scratch3 : Ref sig .tc).ty.Contents (Elt F)) : iprop(ptsC c (halfC 0) f ∗ ptsC c (halfC 1) g) ⊢ (iprop(∃ f', ptsC c Finset.univ f') : sProp 𝕄) :=
  pts_two_join (ℓ := (c : Thread nD τ).loc cc0_scratch3) _ (halfC 0) (halfC 1) fullShare f g (fun i => iff_of_true (Finset.mem_univ _) (halves i)) halves_disjoint
theorem ptsS_univ (f : (cc0_scratch4 : Ref sig .tc).ty.Contents (Elt F)) : (ptsS c Finset.univ fullShare f : sProp 𝕄) = bigSep Finset.univ fun d => ptsS c (rowsS d) fullShare f :=
  pts_family (ℓ := (c : Thread nD τ).loc cc0_scratch4) _ rowsS fullShare f (fun i => iff_of_true (Finset.mem_univ _) (rowsS_all i)) fun _ _ _ => rowsS_inj
/-- The reduced rows and the others. -/
theorem ptsS_top (f : (cc0_scratch4 : Ref sig .tc).ty.Contents (Elt F)) : (ptsS c Finset.univ fullShare f : sProp 𝕄) ⊢ iprop(ptsS c (rowsS 0) fullShare f ∗ ptsS c (rowsS 0)ᶜ fullShare f) :=
  (pts_two (ℓ := (c : Thread nD τ).loc cc0_scratch4) _ (rowsS 0) (rowsS 0)ᶜ fullShare f (fun i => iff_of_true (Finset.mem_univ _) ((em _).imp_right Finset.mem_compl.mpr)) fun i h h' => Finset.mem_compl.mp h' h).1
theorem ptsS_top_join (f g : (cc0_scratch4 : Ref sig .tc).ty.Contents (Elt F)) : iprop(ptsS c (rowsS 0) fullShare f ∗ ptsS c (rowsS 0)ᶜ fullShare g) ⊢ (iprop(∃ f', ptsS c Finset.univ fullShare f') : sProp 𝕄) :=
  pts_two_join (ℓ := (c : Thread nD τ).loc cc0_scratch4) _ (rowsS 0) (rowsS 0)ᶜ fullShare f g (fun i => iff_of_true (Finset.mem_univ _) ((em _).imp_right Finset.mem_compl.mpr)) fun i h h' => Finset.mem_compl.mp h' h

/-- Over all devices: device `c` and its peers. -/
theorem bigSep_peers (Φ : Dev nD → sProp 𝕄) : bigSep Finset.univ Φ = iprop(Φ c ∗ bigSep Finset.univ fun k => Φ (peer c k)) := by
  rw [univ_peers c, bigSep_insert, bigSep_map]
  · rfl
  · rw [Finset.mem_map]; rintro ⟨k, -, hk⟩; exact peer_ne c k hk
theorem bigSep_rev (Φ : Fin 31 → sProp 𝕄) : (bigSep Finset.univ fun k : Fin 31 => Φ k.rev) = bigSep Finset.univ Φ :=
  (bigSep_univ_equiv Fin.revPerm Φ).symm
theorem bigSep_peers_rev (Φ : Dev nD → sProp 𝕄) : bigSep Finset.univ Φ = iprop(Φ c ∗ bigSep Finset.univ fun k : Fin 31 => Φ (peer c k.rev)) := by
  rw [bigSep_peers c Φ, bigSep_rev fun k => Φ (peer c k)]

/-- Elements in 32 shares: the copies' and the device's own. -/
theorem pts_leaves {ℓ : Loc nD τ sig} (S : Finset (Idx ℓ)) (f : Buf (Elt F) ℓ) :
    (ℓ ↦[S]{fullShare} f : sProp 𝕄) = iprop((ℓ ↦[S]{lfOwn} f) ∗ bigSep Finset.univ fun k : Fin 31 => ℓ ↦[S]{lf k} f) :=
  (ShareLeaves.pointsTo_leaves S f 5 fullShare).trans (bigSep_univ_succ (m := 31) fun i => (ℓ ↦[S]{ShareLeaves.leaf 5 fullShare i} f : sProp 𝕄))
theorem ptsS_leaves (f : (cc0_scratch4 : Ref sig .tc).ty.Contents (Elt F)) : (ptsS c (rowsS 0) fullShare f : sProp 𝕄) = iprop(ptsS c (rowsS 0) lfOwn f ∗ bigSep Finset.univ fun k : Fin 31 => ptsS c (rowsS 0) (lf k) f) :=
  pts_leaves (ℓ := (c : Thread nD τ).loc cc0_scratch4) (rowsS 0) f
end Split

end Cert.KernelIdeal.Pf

end
-- ==== Proof.Ki.Contents.lean ====
module

public import proofs.«01_k».proof.Proof.Ki.Rows
public import Idealize.ShloMosaic.Lib.Pipeline.Value

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # What the copies and the stores leave -/

variable (m : (ℓ : Loc nD τ sig) → Buf (Elt F) ℓ)

theorem blkDev_eq (c : Dev nD) (n h x : ℕ) (hx : x < 8) (hn : n = 256 * h + 8 * c.val + x) : blkDev n = c := by
  have := dev_lt c
  apply Fin.ext; show (n / 8) % 32 = c.val; omega
theorem rowOf_val (d : Dev nD) (n : ℕ) : (rowOf d n).val = 8 * d.val + n % 8 := rfl
theorem mod8_val (n : ℕ) : (mod8 n).val = n % 8 := rfl

/-- A write over a rectangle of a whole buffer leaves the contents the written values are those of. -/
theorem slice_write {b : Ref sig .tc} (r : Rect b.ty.shape) (f g : b.ty.Contents (Elt F)) (w : r.shape.Idx → Elt F b.ty.elt)
    (h : ∀ x, w x = g (r.emb x)) : ∀ i ∈ r.set, ((View.whole b : View sig .tc _ _ _).slice r).write (Elt F) f w Finset.univ i = g i := by
  intro i hi
  rw [← Rect.map_emb_univ, Finset.mem_map] at hi
  obtain ⟨x, -, rfl⟩ := hi
  exact (View.write_emb_of_mem (v := (View.whole b : View sig .tc _ _ _).slice r) f w (Finset.mem_univ x)).trans (h x)

theorem unit_emb {s : Shape} (off size : Fin s.rank → ℕ) (hb : ∀ a, off a + size a ≤ s.size a) (x : (Rect.unit (s := s) off size hb).shape.Idx) (a : Fin s.rank) :
    ((Rect.unit (s := s) off size hb).emb x a).val = off a + (x a).val := by
  rw [Rect.emb_apply]; show off a + 1 * (x a).val = _; rw [one_mul]

section Rows
variable (c : Dev nD) (h : Fin 2) (off : Fin 2 → ℕ) (hoff : off = ![256 * h.val + 8 * c.val, 0]) (hb : ∀ a, off a + S8x1024.size a ≤ S512x1024.size a)
  (x : (Rect.unit (s := S512x1024) off S8x1024.size hb).shape.Idx)
include hoff

/-- Where device `c`'s rows of half `h` come from: device `c`, -/
theorem blk_emb : blkDev (((Rect.unit (s := S512x1024) off S8x1024.size hb).emb x) (0 : Fin 2)).val = c := by
  have h0 : (x (0 : Fin 2)).val < 8 := (x (0 : Fin 2)).isLt
  refine blkDev_eq c _ h.val _ h0 ((unit_emb (s := S512x1024) off S8x1024.size hb x 0).trans ?_)
  exact congrArg (fun n : ℕ => n + (x (0 : Fin 2)).val) (congrFun hoff 0)
/-- each from the row of the same place, -/
theorem row_emb : (((Rect.unit (s := S512x1024) off S8x1024.size hb).emb x) (0 : Fin 2)).val % 8 = (x (0 : Fin 2)).val := by
  have h0 : (x (0 : Fin 2)).val < 8 := (x (0 : Fin 2)).isLt
  have e := (unit_emb (s := S512x1024) off S8x1024.size hb x 0)
  have e' : off 0 = 256 * h.val + 8 * c.val := by rw [hoff]; rfl
  change (((Rect.unit (s := S512x1024) off S8x1024.size hb).emb x) (0 : Fin 2)).val = off 0 + (x (0 : Fin 2)).val at e
  rw [e, e']; omega
/-- and the same column. -/
theorem col_emb : (((Rect.unit (s := S512x1024) off S8x1024.size hb).emb x) (1 : Fin 2)).val = (x (1 : Fin 2)).val := by
  have e := (unit_emb (s := S512x1024) off S8x1024.size hb x 1)
  have e' : off 1 = 0 := by rw [hoff]; rfl
  change (((Rect.unit (s := S512x1024) off S8x1024.size hb).emb x) (1 : Fin 2)).val = off 1 + (x (1 : Fin 2)).val at e
  rw [e, e', Nat.zero_add]
end Rows

theorem stgB_congr (c : Dev nD) (i j : S256x1024.Idx) (h0 : (i 0).val = (j 0).val) (h1 : (i 1).val = (j 1).val) : stgB m c i = stgB m c j := by
  have e : i = j := funext fun a => by fin_cases a; exacts [Fin.ext h0, Fin.ext h1]
  rw [e]
theorem redB_congr (c : Dev nD) (i j : S8x1024.Idx) (h0 : (i 0).val = (j 0).val) (h1 : (i 1).val = (j 1).val) : redB m c i = redB m c j := by
  have e : i = j := funext fun a => by fin_cases a; exacts [Fin.ext h0, Fin.ext h1]
  rw [e]

/-- Rows of a staging buffer laid at device `c`'s place on device `d` are `d`'s block of `c`'s partial result. -/
theorem commRS_emb (c d : Dev nD) (off : Fin 2 → ℕ) (hoff : off = ![256 * (0 : Fin 2).val + 8 * c.val, 0]) (hb : ∀ a, off a + S8x1024.size a ≤ S512x1024.size a)
    (off' : Fin 2 → ℕ) (hoff' : off' = ![8 * d.val, 0]) (hb' : ∀ a, off' a + S8x1024.size a ≤ S256x1024.size a) (x : S8x1024.Idx) :
    stgB m c ((Rect.unit (s := S256x1024) off' S8x1024.size hb').emb x) = commRS m d ((Rect.unit (s := S512x1024) off S8x1024.size hb).emb x) := by
  unfold commRS
  rw [blk_emb c 0 off hoff hb x]
  refine stgB_congr m c _ _ ?_ ?_
  · refine (unit_emb (s := S256x1024) off' S8x1024.size hb' x 0).trans ?_
    show _ = (rowOf d _).val
    rw [rowOf_val, row_emb c 0 off hoff hb x]; exact congrArg (fun n : ℕ => n + (x (0 : Fin 2)).val) (congrFun hoff' 0)
  · refine (unit_emb (s := S256x1024) off' S8x1024.size hb' x 1).trans ?_
    show _ = (((Rect.unit (s := S512x1024) off S8x1024.size hb).emb x) (1 : Fin 2)).val
    rw [col_emb c 0 off hoff hb x]; exact (congrArg (fun n : ℕ => n + (x (1 : Fin 2)).val) (congrFun hoff' 1)).trans (Nat.zero_add _)
/-- The first rows of a staging buffer, laid at device `c`'s place, are its block of the sum. -/
theorem commAG_emb (c : Dev nD) (off : Fin 2 → ℕ) (hoff : off = ![256 * (1 : Fin 2).val + 8 * c.val, 0]) (hb : ∀ a, off a + S8x1024.size a ≤ S512x1024.size a)
    (hb' : ∀ a, (![0, 0] : Fin 2 → ℕ) a + S8x1024.size a ≤ S256x1024.size a) (x : S8x1024.Idx) :
    topB m c ((Rect.unit (s := S256x1024) ![0, 0] S8x1024.size hb').emb x) = commAG m ((Rect.unit (s := S512x1024) off S8x1024.size hb).emb x) := by
  unfold commAG topB
  rw [blk_emb c 1 off hoff hb x]
  have h0 : (x (0 : Fin 2)).val < 8 := (x (0 : Fin 2)).isLt
  have e0 : (((Rect.unit (s := S256x1024) ![0, 0] S8x1024.size hb').emb x) (0 : Fin 2)).val = 0 + (x (0 : Fin 2)).val := unit_emb (s := S256x1024) ![0, 0] S8x1024.size hb' x 0
  have e1 : (((Rect.unit (s := S256x1024) ![0, 0] S8x1024.size hb').emb x) (1 : Fin 2)).val = 0 + (x (1 : Fin 2)).val := unit_emb (s := S256x1024) ![0, 0] S8x1024.size hb' x 1
  refine redB_congr m c _ _ ?_ ?_
  · show (mod8 _).val = (mod8 _).val
    rw [mod8_val, mod8_val, row_emb c 1 off hoff hb x, e0]; omega
  · show (((Rect.unit (s := S256x1024) ![0, 0] S8x1024.size hb').emb x) (1 : Fin 2)).val = (((Rect.unit (s := S512x1024) off S8x1024.size hb).emb x) (1 : Fin 2)).val
    rw [col_emb c 1 off hoff hb x, e1]; exact Nat.zero_add _

/-! ## The landings -/

theorem land0 (c : Dev nD) (k : Fin 31) (fd : (cc0_scratch3 : Ref sig .tc).ty.Contents (Elt F)) :
    ∀ i ∈ rowsC 0 c, (cRow 0 c).view.write (Elt F) fd ((sRow c k).view.read (Elt F) (stgB m c)) Finset.univ i = commRS m (peer c k) i := by
  rw [← rect_rowsC 0 c _ (off2_eq 0 c) (k0_off2_inb c 0)]
  exact slice_write (b := cc0_scratch3) _ fd (commRS m (peer c k)) _ fun x =>
    commRS_emb m c (peer c k) _ (off2_eq 0 c) (k0_off2_inb c 0) _ (off3_eq c k) (k0_off3_inb c k) x
theorem land1 (c : Dev nD) (fd : (cc0_scratch3 : Ref sig .tc).ty.Contents (Elt F)) :
    ∀ i ∈ rowsC 1 c, (cRow 1 c).view.write (Elt F) fd (sTop.view.read (Elt F) (topB m c)) Finset.univ i = commAG m i := by
  rw [← rect_rowsC 1 c _ (off2_eq 1 c) (k0_off2_inb c 1)]
  exact slice_write (b := cc0_scratch3) _ fd (commAG m) _ fun x =>
    commAG_emb m c _ (off2_eq 1 c) (k0_off2_inb c 1) inb_S256x1024_S8x1024_0_0 x

/-! ## The device's own stores -/

abbrev rOwn0 (c : Dev nD) : Rect S512x1024 := Rect.unit (s := S512x1024) (k0_off5 c 0#32) S8x1024.size (k0_off5_inb c 0)
abbrev rOwn1 (c : Dev nD) : Rect S512x1024 := Rect.unit (s := S512x1024) (k0_off5 c 256#32) S8x1024.size (k0_off5_inb c 1)
abbrev rSrc (c : Dev nD) : Rect S256x1024 := Rect.unit (s := S256x1024) (k0_off4 c) S8x1024.size (k0_off4_inb c)
abbrev rTop : Rect S256x1024 := Rect.unit (s := S256x1024) ![0, 0] S8x1024.size inb_S256x1024_S8x1024_0_0
abbrev rRS : Rect S512x1024 := Rect.unit (s := S512x1024) ![0, 0] S256x1024.size inb_S512x1024_S256x1024_0_0
abbrev rAG : Rect S512x1024 := Rect.unit (s := S512x1024) ![256, 0] S256x1024.size inb_S512x1024_S256x1024_256_0

theorem rOwn0_set (c : Dev nD) : (rOwn0 c).set = rowsC 0 c := rect_rowsC 0 c _ (off5_eq 0 c) _
theorem rOwn1_set (c : Dev nD) : (rOwn1 c).set = rowsC 1 c := rect_rowsC 1 c _ (off5_eq 1 c) _
theorem rSrc_set (c : Dev nD) : (rSrc c).set = rowsS c := rect_rowsS c _ (k0_off4_eq c) _
theorem rTop_set : rTop.set = rowsS 0 := rect_rowsS 0 _ rfl _

theorem own0 (c : Dev nD) (fd : (cc0_scratch3 : Ref sig .tc).ty.Contents (Elt F)) :
    ∀ i ∈ rowsC 0 c, (cM.access (rOwn0 c)).write (Elt F) fd (k0_pay22 (sM.view.readAt (Elt F) (rSrc c).toLoadRect (stgB m c))) Finset.univ i = commRS m c i := by
  rw [← rOwn0_set c]
  refine slice_write (b := cc0_scratch3) _ fd (commRS m c) _ fun x => ?_
  rw [k0_pay22, shapeCast_self]
  exact commRS_emb m c c _ (off5_eq 0 c) (k0_off5_inb c 0) _ (k0_off4_eq c) (k0_off4_inb c) x
theorem own1 (c : Dev nD) (fd : (cc0_scratch3 : Ref sig .tc).ty.Contents (Elt F)) :
    ∀ i ∈ rowsC 1 c, (cM.access (rOwn1 c)).write (Elt F) fd (k0_pay26 (sM.view.readAt (Elt F) rTop.toLoadRect (topB m c))) Finset.univ i = commAG m i := by
  rw [← rOwn1_set c]
  refine slice_write (b := cc0_scratch3) _ fd (commAG m) _ fun x => ?_
  rw [k0_pay26, shapeCast_self]
  exact commAG_emb m c _ (off5_eq 1 c) (k0_off5_inb c 1) inb_S256x1024_S8x1024_0_0 x
theorem own_top (c : Dev nD) (fd : (cc0_scratch4 : Ref sig .tc).ty.Contents (Elt F)) :
    ∀ i ∈ rowsS 0, (sM.access rTop).write (Elt F) fd (redB m c) Finset.univ i = topB m c i := by
  rw [← rTop_set]
  refine slice_write (b := cc0_scratch4) _ fd (topB m c) _ fun x => ?_
  unfold topB
  have h0 : (x (0 : Fin 2)).val < 8 := (x (0 : Fin 2)).isLt
  have e0 : ((rTop.emb x) (0 : Fin 2)).val = 0 + (x (0 : Fin 2)).val := unit_emb (s := S256x1024) ![0, 0] S8x1024.size inb_S256x1024_S8x1024_0_0 x 0
  have e1 : ((rTop.emb x) (1 : Fin 2)).val = 0 + (x (1 : Fin 2)).val := unit_emb (s := S256x1024) ![0, 0] S8x1024.size inb_S256x1024_S8x1024_0_0 x 1
  refine redB_congr m c _ _ ?_ ?_
  · show (x (0 : Fin 2)).val = (mod8 _).val
    rw [mod8_val, e0]; omega
  · show (x (1 : Fin 2)).val = ((rTop.emb x) (1 : Fin 2)).val
    rw [e1]; exact (Nat.zero_add _).symm

/-! ## The loads of the two halves -/

theorem half_set (h : Fin 2) (off : Fin 2 → ℕ) (hoff : off = ![256 * h.val, 0]) (hb : ∀ a, off a + S256x1024.size a ≤ S512x1024.size a) :
    (Rect.unit (s := S512x1024) off S256x1024.size hb).set = halfC h := by
  subst hoff
  ext i
  rw [Rect.mem_set_unit, mem_halfC]
  have h1 : (i 1).val < 1024 := (i 1).isLt
  constructor
  · intro H; exact H 0
  · intro H a; fin_cases a
    · exact H
    · exact ⟨Nat.zero_le _, by show (i 1).val < 0 + 1024; omega⟩
theorem rRS_set : rRS.set = halfC 0 := half_set 0 _ rfl _
theorem rAG_set : rAG.set = halfC 1 := half_set 1 _ rfl _

theorem read_rs (c : Dev nD) : cM.view.readAt (Elt F) rRS.toLoadRect (commRS m c) = rsIn m c := funext fun x => by
  show commRS m c (rRS.emb x) = rsIn m c x
  have e0 : ((rRS.emb x) (0 : Fin 2)).val = 0 + (x (0 : Fin 2)).val := unit_emb (s := S512x1024) ![0, 0] S256x1024.size inb_S512x1024_S256x1024_0_0 x 0
  have e1 : ((rRS.emb x) (1 : Fin 2)).val = 0 + (x (1 : Fin 2)).val := unit_emb (s := S512x1024) ![0, 0] S256x1024.size inb_S512x1024_S256x1024_0_0 x 1
  unfold commRS rsIn
  rw [e0, Nat.zero_add]
  exact stgB_congr m _ _ _ rfl (e1.trans (Nat.zero_add _))
theorem read_ag : cM.view.readAt (Elt F) rAG.toLoadRect (commAG m) = agIn m := funext fun x => by
  show commAG m (rAG.emb x) = agIn m x
  have e0 : ((rAG.emb x) (0 : Fin 2)).val = 256 + (x (0 : Fin 2)).val := unit_emb (s := S512x1024) ![256, 0] S256x1024.size inb_S512x1024_S256x1024_256_0 x 0
  have e1 : ((rAG.emb x) (1 : Fin 2)).val = 0 + (x (1 : Fin 2)).val := unit_emb (s := S512x1024) ![256, 0] S256x1024.size inb_S512x1024_S256x1024_256_0 x 1
  have eb : blkDev (256 + (x (0 : Fin 2)).val) = blkDev (x (0 : Fin 2)).val := Fin.ext (show (256 + _) / 8 % 32 = _ / 8 % 32 by omega)
  have em : (256 + (x (0 : Fin 2)).val) % 8 = (x (0 : Fin 2)).val % 8 := by omega
  unfold commAG agIn
  rw [e0, eb]
  refine redB_congr m _ _ _ ?_ (e1.trans (Nat.zero_add _))
  exact em

end Cert.KernelIdeal.Pf

end
-- ==== Proof.Ki.Loops.lean ====
module

public import proofs.«01_k».proof.Proof.Ki.Contents

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The loops

One step of each loop at a symbolic distance, and the rule that runs a list of them. -/

local notation "𝕄" => MT nD τ sig Unit (Elt F) ℕ UU ℕ

abbrev 𝒱₀ : Variants := Variants.none

/-- The specification of a program on device `c`. -/
abbrev wpc (c : Dev nD) {α : Type} (p : PrK F α) (Q : α → sProp 𝕄) : sProp 𝕄 :=
  wp frame (wpE (defs₀ (F := F)) 𝒱₀ (c : Thread nD τ) none) Set.univ p Q

/-- What device `c` owes, whatever it has waited for. -/
def ows (c : Dev nD) (O : CellTallies nD τ sig Unit) : sProp 𝕄 := iprop(∃ W, owes (c : Thread nD τ) O W)

/-- A list of steps: each takes its own resources from `Φ` to `Ψ` and the shared one from `R k` to `R (k + 1)`. -/
theorem wp_each (c : Dev nD) {α : Type} (Q : α → sProp 𝕄) (rest : PrK F α) : ∀ (n : ℕ) (f : Fin n → PrK F PUnit) (R : ℕ → sProp 𝕄) (Φ Ψ : Fin n → sProp 𝕄),
    (∀ (k : Fin n) (K : PrK F α), iprop(R k.val ∗ Φ k) ⊢ iprop((iprop(R (k.val + 1) ∗ Ψ k) -∗ wpc c K Q) -∗ wpc c (f k >>= fun _ => K) Q)) →
    iprop(R 0 ∗ bigSep Finset.univ Φ) ⊢ iprop((iprop(R n ∗ bigSep Finset.univ Ψ) -∗ wpc c rest Q) -∗ wpc c (seqL (List.ofFn f) >>= fun _ => rest) Q)
  | 0, f, R, Φ, Ψ, _ => by
    rw [List.ofFn_zero]
    show _ ⊢ iprop(_ -∗ wpc c (pure PUnit.unit >>= fun _ => rest) Q)
    rw [pure_bind, Finset.univ_eq_empty, BI.bigSep_empty, BI.bigSep_empty]
    iintro ⟨HR, -⟩ Hk
    iapply Hk
    isplitl [HR]; · iexact HR
    iempintro
  | n + 1, f, R, Φ, Ψ, h => by
    rw [List.ofFn_succ]
    show _ ⊢ iprop(_ -∗ wpc c ((f 0 >>= fun _ => seqL (List.ofFn fun i => f i.succ)) >>= fun _ => rest) Q)
    rw [bind_assoc, bigSep_univ_succ Φ, bigSep_univ_succ Ψ]
    iintro ⟨HR, H0, Hs⟩ Hk
    have h0 : iprop(R 0 ∗ Φ 0) ⊢ iprop((iprop(R (0 + 1) ∗ Ψ 0) -∗ wpc c (seqL (List.ofFn fun i => f i.succ) >>= fun _ => rest) Q) -∗ wpc c (f 0 >>= fun _ => seqL (List.ofFn fun i => f i.succ) >>= fun _ => rest) Q) := h 0 _
    iapply h0 $$ [HR H0]
    · isplitl [HR]; · iexact HR
      iexact H0
    iintro ⟨HR, H0⟩
    iapply (wp_each c Q rest n (fun i => f i.succ) (fun k => R (k + 1)) (fun i => Φ i.succ) (fun i => Ψ i.succ) fun k K => h k.succ K) $$ [HR Hs]
    · isplitl [HR]; · iexact HR
      iexact Hs
    iintro ⟨HR, Hs⟩
    iapply Hk
    isplitl [HR]; · iexact HR
    isplitl [H0]; · iexact H0
    iexact Hs

/-- The same where the shared resource does not change. -/
theorem wp_each_const (c : Dev nD) {α : Type} (Q : α → sProp 𝕄) (rest : PrK F α) (n : ℕ) (f : Fin n → PrK F PUnit) (R : sProp 𝕄) (Φ Ψ : Fin n → sProp 𝕄)
    (h : ∀ (k : Fin n) (K : PrK F α), iprop(R ∗ Φ k) ⊢ iprop((iprop(R ∗ Ψ k) -∗ wpc c K Q) -∗ wpc c (f k >>= fun _ => K) Q)) :
    iprop(R ∗ bigSep Finset.univ Φ) ⊢ iprop((iprop(R ∗ bigSep Finset.univ Ψ) -∗ wpc c rest Q) -∗ wpc c (seqL (List.ofFn f) >>= fun _ => rest) Q) :=
  wp_each c Q rest n f (fun _ => R) Φ Ψ h

variable (m : (ℓ : Loc nD τ sig) → Buf (Elt F) ℓ)
variable (K : Dev nD × (Unit ⊕ CI) → ℕ)

/-- Every cell's invariant, under the names they were allocated at, and that every cell is at its first round. -/
def recs : sProp 𝕄 := bigSep Finset.univ fun p => iprop(cellInv ER (Rd m) (K p) (kcell p) ∗ reached ER (kcell p) 0)
instance recs_persistent : BI.Persistent (recs m K) := by unfold recs; infer_instance
theorem recs_at (c : Dev nD) (i : Unit ⊕ CI) : recs m K ⊢ iprop(cellInv ER (Rd m) (K (c, i)) (kcell (c, i)) ∗ reached ER (kcell (c, i)) 0) :=
  SparseCore.ProtocolKit.bigSep_univ_elim (fun p => iprop(cellInv ER (Rd m) (K p) (kcell p) ∗ reached ER (kcell p) 0)) (c, i)

section Steps

/-- Device `c`'s signal to its `k`-th peer: the rows of `c`'s landing buffer that the peer writes go with it. -/
theorem step_sig (c : Dev nD) {α : Type} (Q : α → sProp 𝕄) (rest : PrK F α) (k : Fin 31) (X : CellTallies nD τ sig Unit) :
    iprop(iprop(recs m K ∗ ows c (X + owB c k.val)) ∗ iprop(dutyTok ER (barCell (peer c k)) 0 k.rev ∗ barPay (peer c k) k.rev))
      ⊢ iprop((iprop(iprop(recs m K ∗ ows c (X + owB c (k.val + 1))) ∗ iprop(emp)) -∗ wpc c rest Q) -∗ wpc c (stSig (peer c k) >>= fun _ => rest) Q) := by
  unfold stSig ows
  simp only [semSignalWord, Prog.lift, Prog.bind_op, Prog.bind_ret, Prog.pure_eq_ret]
  iintro ⟨⟨#HR, ⟨%W, HO⟩⟩, Ht, Hp⟩ Hk
  ihave Hrec := (recs_at m K (peer c k) (.inl ())) $$ HR
  icases Hrec with ⟨#Hinv, #Hre⟩
  iapply (Rounds.wp_signal 𝒱₀ ER (Rd m) (c : Thread nD τ) none (dst := (peer c k : Thread nD τ)) (κ := K (peer c k, .inl ()))
      (d := k.rev) (by rw [duties_k m (peer c k) (.inl ())]; exact Finset.mem_univ _) ((amount_k m (peer c k) (.inl ()) k.rev).trans (by decide)) () (X + owB c (k.val + 1))
      (by unfold owB; exact SparseCore.ProtocolKit.add_sum_finFrom_succ X k.isLt _)) $$ [HO Ht Hp]
  · isplitr; · iexact Hinv
    isplitl [HO]; · iexact HO
    isplitl [Ht]; · iexact Ht
    isplitl [Hp]
    · iapply (Entails.of_eq (show barPay (peer c k) k.rev = _ from (payload_k m (peer c k) (.inl ()) k.rev).symm)); iexact Hp
    iexact Hre
  iintro HO
  iapply Hk
  isplitl [HO]
  · isplitr; · iexact HR
    iexists W; iexact HO
  iempintro

/-- The first exchange's copy to the `k`-th peer. -/
theorem step_send0 (c : Dev nD) {α : Type} (Q : α → sProp 𝕄) (rest : PrK F α) (k : Fin 31) (X : CellTallies nD τ sig Unit) :
    iprop(iprop(recs m K ∗ ows c (X + owX 0 c k.val)) ∗ iprop(ptsS c (rowsS (peer c k)) fullShare (stgB m c) ∗ (∃ f, ptsC (peer c k) (rowsC 0 c) f)
        ∗ dutyTok ER (sndCell c 0 k) 0 0 ∗ dutyTok ER (rcvCell (peer c k) 0 k) 0 0))
      ⊢ iprop((iprop(iprop(recs m K ∗ ows c (X + owX 0 c (k.val + 1))) ∗ cred (tallyAt (sndCell c 0 k) () N)) -∗ wpc c rest Q)
          -∗ wpc c (stSend0 c (peer c k) k >>= fun _ => rest) Q) := by
  unfold stSend0 ows
  simp only [Prog.lift, Prog.bind_op, Prog.bind_ret, Prog.pure_eq_ret]
  iintro ⟨⟨#HR, ⟨%W, HO⟩⟩, Hs, ⟨%fd, Hd⟩, Ht, Ht'⟩ Hk
  ihave Hrec := (recs_at m K c (.inr (.inr (.inl (0, k))))) $$ HR
  icases Hrec with ⟨#Hinv, #Hre⟩
  ihave Hrec' := (recs_at m K (peer c k) (.inr (.inr (.inr (0, k))))) $$ HR
  icases Hrec' with ⟨#Hinv', #Hre'⟩
  iapply (Rounds.wp_send_pointsTo 𝒱₀ ER (Rd m) (c : Thread nD τ) none (κ₁ := K (c, .inr (.inr (.inl (0, k))))) (κ₂ := K (peer c k, .inr (.inr (.inr (0, k)))))
      (c' := (peer c k : Thread nD τ)) (src := sRow c k) (dst := cRow 0 c) (q := fullShare) (fs := stgB m c)
      (r₁ := 0) (r₂ := 0) (d₁ := 0) (d₂ := 0) (fd := fd)
      (by rw [duties_k m c (.inr (.inr (.inl (0, k))))]; exact Finset.mem_singleton_self _) (by rw [duties_k m (peer c k) (.inr (.inr (.inr (0, k))))]; exact Finset.mem_singleton_self _)
      () () N rfl (amount_k m c (.inr (.inr (.inl (0, k)))) 0) (amount_k m (peer c k) (.inr (.inr (.inr (0, k)))) 0) (X + owX 0 c (k.val + 1))
      (by unfold owX; exact SparseCore.ProtocolKit.add_sum_finFrom_succ X k.isLt _) (W := W)
      (by rw [payload_k m c (.inr (.inr (.inl (0, k)))), sRow_set]; exact BI.Entails.refl _)
      (by
        rw [payload_k m (peer c k) (.inr (.inr (.inr (0, k)))), cRow_set]
        show _ ⊢ ptsC (peer c k) (rowsC 0 (peer (peer c k) k.rev)) (commRS m (peer c k))
        rw [peer_rev]
        exact Entails.of_eq (pointsTo_congr (land0 m c k fd)))) $$ [Hs Hd HO Ht Ht']
  · isplitr; · iexact Hinv
    isplitr; · iexact Hinv'
    isplitl [Hs]; · rw [sRow_set]; iexact Hs
    isplitl [Hd]; · rw [cRow_set]; iexact Hd
    isplitl [HO]; · iexact HO
    isplitl [Ht]; · iexact Ht
    isplitr; · iexact Hre
    isplitl [Ht']; · iexact Ht'
    iexact Hre'
  iintro ⟨Hc, HO⟩
  iapply Hk
  isplitl [HO]
  · isplitr; · iexact HR
    iexists W; iexact HO
  iexact Hc

/-- The second exchange's copy to the `k`-th peer, through its share of the reduced rows. -/
theorem step_send1 (c : Dev nD) {α : Type} (Q : α → sProp 𝕄) (rest : PrK F α) (k : Fin 31) (X : CellTallies nD τ sig Unit) :
    iprop(iprop(recs m K ∗ ows c (X + owX 1 c k.val)) ∗ iprop(ptsS c (rowsS 0) (lf k) (topB m c) ∗ (∃ f, ptsC (peer c k) (rowsC 1 c) f)
        ∗ dutyTok ER (sndCell c 1 k) 0 0 ∗ dutyTok ER (rcvCell (peer c k) 1 k) 0 0))
      ⊢ iprop((iprop(iprop(recs m K ∗ ows c (X + owX 1 c (k.val + 1))) ∗ cred (tallyAt (sndCell c 1 k) () N)) -∗ wpc c rest Q)
          -∗ wpc c (stSend1 c (peer c k) k >>= fun _ => rest) Q) := by
  unfold stSend1 ows
  simp only [Prog.lift, Prog.bind_op, Prog.bind_ret, Prog.pure_eq_ret]
  iintro ⟨⟨#HR, ⟨%W, HO⟩⟩, Hs, ⟨%fd, Hd⟩, Ht, Ht'⟩ Hk
  ihave Hrec := (recs_at m K c (.inr (.inr (.inl (1, k))))) $$ HR
  icases Hrec with ⟨#Hinv, #Hre⟩
  ihave Hrec' := (recs_at m K (peer c k) (.inr (.inr (.inr (1, k))))) $$ HR
  icases Hrec' with ⟨#Hinv', #Hre'⟩
  iapply (Rounds.wp_send_pointsTo 𝒱₀ ER (Rd m) (c : Thread nD τ) none (κ₁ := K (c, .inr (.inr (.inl (1, k))))) (κ₂ := K (peer c k, .inr (.inr (.inr (1, k)))))
      (c' := (peer c k : Thread nD τ)) (src := sTop) (dst := cRow 1 c) (q := lf k) (fs := topB m c)
      (r₁ := 0) (r₂ := 0) (d₁ := 0) (d₂ := 0) (fd := fd)
      (by rw [duties_k m c (.inr (.inr (.inl (1, k))))]; exact Finset.mem_singleton_self _) (by rw [duties_k m (peer c k) (.inr (.inr (.inr (1, k))))]; exact Finset.mem_singleton_self _)
      () () N rfl (amount_k m c (.inr (.inr (.inl (1, k)))) 0) (amount_k m (peer c k) (.inr (.inr (.inr (1, k)))) 0) (X + owX 1 c (k.val + 1))
      (by unfold owX; exact SparseCore.ProtocolKit.add_sum_finFrom_succ X k.isLt _) (W := W)
      (by rw [payload_k m c (.inr (.inr (.inl (1, k)))), sTop_set]; exact BI.Entails.refl _)
      (by
        rw [payload_k m (peer c k) (.inr (.inr (.inr (1, k)))), cRow_set]
        show _ ⊢ ptsC (peer c k) (rowsC 1 (peer (peer c k) k.rev)) (commAG m)
        rw [peer_rev]
        exact Entails.of_eq (pointsTo_congr (land1 m c fd)))) $$ [Hs Hd HO Ht Ht']
  · isplitr; · iexact Hinv
    isplitr; · iexact Hinv'
    isplitl [Hs]; · rw [sTop_set]; iexact Hs
    isplitl [Hd]; · rw [cRow_set]; iexact Hd
    isplitl [HO]; · iexact HO
    isplitl [Ht]; · iexact Ht
    isplitr; · iexact Hre
    isplitl [Ht']; · iexact Ht'
    iexact Hre'
  iintro ⟨Hc, HO⟩
  iapply Hk
  isplitl [HO]
  · isplitr; · iexact HR
    iexists W; iexact HO
  iexact Hc

/-- A wait for one of the device's own semaphores' only copy: its payload, and the semaphore back at zero. -/
theorem wp_wait_own (c : Dev nD) {α : Type} (Q : α → sProp 𝕄) (i : CI) (w : TpuEff nD τ sig (Elt F) Λ₀ .tc PUnit)
    (hw : ∀ Kt : PUnit → sProp 𝕄, wpE (defs₀ (F := F)) 𝒱₀ (c : Thread nD τ) none Set.univ w Kt = waitSpec (c : Thread nD τ) Set.univ (csem (.inr i)) (amtOf (.inr i)) Kt)
    (O : CellTallies nD τ sig Unit) (hM : (levAts L lv : sProp 𝕄) ⊢ MayWait (c : Thread nD τ) (csem (.inr i)) () O) (k : PUnit → PrK F α) :
    iprop(iprop(recs m K ∗ levAts L lv ∗ ows c O) ∗ iprop(cred (tallyAt (kcell (c, .inr i)) () (amtOf (.inr i))) ∗ atPos ER (kcell (c, .inr i)) 0 ∅ 0))
      ⊢ iprop((iprop(iprop(recs m K ∗ levAts L lv ∗ ows c O) ∗ iprop(payOf m c (.inr i) 0 ∗ semVal (kcell (c, .inr i)) 0)) -∗ wpc c (k ⟨⟩) Q)
          -∗ wpc c (.op w k) Q) := by
  unfold ows
  iintro ⟨⟨#HR, #Hlev, ⟨%W, HO⟩⟩, Hc, Hat⟩ Hk
  ihave Hrec := (recs_at m K c (.inr i)) $$ HR
  icases Hrec with ⟨#Hinv, #Hre⟩
  iapply (Rounds.wp_wait_rest_token 𝒱₀ ER (Rd m) (c : Thread nD τ) none (κ := K (c, .inr i))
      hw (Set.mem_univ _) () (O := O) (W := W) (R := 0) (m := 0) (T := ∅)
      (by rw [Nat.zero_add]; exact ((expect_k m c (.inr i)).trans ((congrArg (fun n => n * amtOf (.inr i)) (Finset.card_singleton (0 : Fin 31))).trans (one_mul _))).symm)) $$ [Hc HO Hat]
  · isplitr; · iexact Hinv
    isplitl [Hc]; · iexact Hc
    isplitl [HO]; · iexact HO
    isplitr; · iapply hM; iexact Hlev
    iexact Hat
  iintro ⟨HO, Hat, -, Hpay⟩
  ihave Hp := (Entails.of_eq (rest_own m c i)) $$ Hpay
  imod (Rounds.cell_close ER (Rd m) (Set.mem_univ (K (c, .inr i))) (fun h => h) (R := 0 + 1) (duties_later m (kcell (c, .inr i)))) $$ [Hat] with Hz
  · isplitr; · iexact Hinv
    iexact Hat
  iapply Hk
  isplitl [HO]
  · isplitr; · iexact HR
    isplitr; · iexact Hlev
    iexists _; iexact HO
  isplitl [Hp]; · iexact Hp
  iexact Hz

theorem sRow_credit (c : Dev nD) (k : Fin 31) : (sRow c k).view.dmaCredit = N := rfl
theorem cRow_credit (h : Fin 2) (c : Dev nD) : (cRow h c).view.dmaCredit = N := rfl
theorem sTop_credit : (sTop : Memref sig .tc .vmem S8x1024 .bf16).view.dmaCredit = N := rfl

/-- A wait naming a destination of amount `n` waits for `n`. -/
theorem wait_amt (c : Dev nD) {sp sp' : Space} {s : Shape} {e : EltTy} (q : DmaSem sig) (src : Memref sig .tc sp s e) (dst : Memref sig .tc sp' s e) (hs : src.view.WordExact) (hd : dst.view.WordExact)
    (n : ℕ) (hn : dst.view.dmaCredit = n) (Kt : PUnit → sProp 𝕄) :
    wpE (defs₀ (F := F)) 𝒱₀ (c : Thread nD τ) none Set.univ (.waitDma2 q src dst hs hd) Kt = waitSpec (c : Thread nD τ) Set.univ (.dma q) n Kt := by
  subst hn; exact wpE_waitDma2_eq 𝒱₀ (c : Thread nD τ) none Set.univ Kt

theorem step_waitS0 (c : Dev nD) {α : Type} (Q : α → sProp 𝕄) (rest : PrK F α) (k : Fin 31) (O : CellTallies nD τ sig Unit) (hM : (levAts L lv : sProp 𝕄) ⊢ MayWait (c : Thread nD τ) (.dma (sndS (ix 0 k))) () O) :
    iprop(iprop(recs m K ∗ levAts L lv ∗ ows c O) ∗ iprop(cred (tallyAt (sndCell c 0 k) () N) ∗ atPos ER (sndCell c 0 k) 0 ∅ 0))
      ⊢ iprop((iprop(iprop(recs m K ∗ levAts L lv ∗ ows c O) ∗ iprop(sndPay m c 0 k ∗ semVal (sndCell c 0 k) 0)) -∗ wpc c rest Q)
          -∗ wpc c (stWaitS0 c k >>= fun _ => rest) Q) := by
  unfold stWaitS0
  simp only [Prog.lift, Prog.bind_op, Prog.bind_ret, Prog.pure_eq_ret]
  exact wp_wait_own m K c Q (.inr (.inl (0, k))) _ (wait_amt c _ _ _ _ _ N (sRow_credit c k)) O hM fun _ => rest
theorem step_waitR0 (c : Dev nD) {α : Type} (Q : α → sProp 𝕄) (rest : PrK F α) (k : Fin 31) (O : CellTallies nD τ sig Unit) (hM : (levAts L lv : sProp 𝕄) ⊢ MayWait (c : Thread nD τ) (.dma (rcvS (ix 0 k))) () O) :
    iprop(iprop(recs m K ∗ levAts L lv ∗ ows c O) ∗ iprop(cred (tallyAt (rcvCell c 0 k) () N) ∗ atPos ER (rcvCell c 0 k) 0 ∅ 0))
      ⊢ iprop((iprop(iprop(recs m K ∗ levAts L lv ∗ ows c O) ∗ iprop(rcvPay m c 0 k ∗ semVal (rcvCell c 0 k) 0)) -∗ wpc c rest Q)
          -∗ wpc c (stWaitR0 c k >>= fun _ => rest) Q) := by
  unfold stWaitR0
  simp only [Prog.lift, Prog.bind_op, Prog.bind_ret, Prog.pure_eq_ret]
  exact wp_wait_own m K c Q (.inr (.inr (0, k))) _ (wait_amt c _ _ _ _ _ N (cRow_credit 0 c)) O hM fun _ => rest
theorem step_waitS1 (c : Dev nD) {α : Type} (Q : α → sProp 𝕄) (rest : PrK F α) (k : Fin 31) (O : CellTallies nD τ sig Unit) (hM : (levAts L lv : sProp 𝕄) ⊢ MayWait (c : Thread nD τ) (.dma (sndS (ix 1 k))) () O) :
    iprop(iprop(recs m K ∗ levAts L lv ∗ ows c O) ∗ iprop(cred (tallyAt (sndCell c 1 k) () N) ∗ atPos ER (sndCell c 1 k) 0 ∅ 0))
      ⊢ iprop((iprop(iprop(recs m K ∗ levAts L lv ∗ ows c O) ∗ iprop(sndPay m c 1 k ∗ semVal (sndCell c 1 k) 0)) -∗ wpc c rest Q)
          -∗ wpc c (stWaitS1 c k >>= fun _ => rest) Q) := by
  unfold stWaitS1
  simp only [Prog.lift, Prog.bind_op, Prog.bind_ret, Prog.pure_eq_ret]
  exact wp_wait_own m K c Q (.inr (.inl (1, k))) _ (wait_amt c _ _ _ _ _ N sTop_credit) O hM fun _ => rest
theorem step_waitR1 (c : Dev nD) {α : Type} (Q : α → sProp 𝕄) (rest : PrK F α) (k : Fin 31) (O : CellTallies nD τ sig Unit) (hM : (levAts L lv : sProp 𝕄) ⊢ MayWait (c : Thread nD τ) (.dma (rcvS (ix 1 k))) () O) :
    iprop(iprop(recs m K ∗ levAts L lv ∗ ows c O) ∗ iprop(cred (tallyAt (rcvCell c 1 k) () N) ∗ atPos ER (rcvCell c 1 k) 0 ∅ 0))
      ⊢ iprop((iprop(iprop(recs m K ∗ levAts L lv ∗ ows c O) ∗ iprop(rcvPay m c 1 k ∗ semVal (rcvCell c 1 k) 0)) -∗ wpc c rest Q)
          -∗ wpc c (stWaitR1 c k >>= fun _ => rest) Q) := by
  unfold stWaitR1
  simp only [Prog.lift, Prog.bind_op, Prog.bind_ret, Prog.pure_eq_ret]
  exact wp_wait_own m K c Q (.inr (.inr (1, k))) _ (wait_amt c _ _ _ _ _ N (cRow_credit 1 c)) O hM fun _ => rest

end Steps

end Cert.KernelIdeal.Pf

end
-- ==== Proof.Ki.Parts.lean ====
module

public import proofs.«01_k».proof.Proof.Ki.Loops

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The parts between the loops -/

local notation "𝕄" => MT nD τ sig Unit (Elt F) ℕ UU ℕ

/-- A whole buffer of device `c`. -/
abbrev pts (c : Dev nD) (b : Ref sig .tc) (f : b.ty.Contents (Elt F)) : sProp 𝕄 := ((c : Thread nD τ).loc b) ↦{fullShare} f

variable (m : (ℓ : Loc nD τ sig) → Buf (Elt F) ℓ)
variable (K : Dev nD × (Unit ⊕ CI) → ℕ)

theorem hz2 : (![0, 0] : Fin 2 → Nat) = fun _ => 0 := funext fun a => by fin_cases a <;> rfl
theorem hz3 : (![0, 0, 0] : Fin 3 → Nat) = fun _ => 0 := funext fun a => by fin_cases a <;> rfl

abbrev rX : Rect S1x256x1024 := Rect.unit (s := S1x256x1024) ![0, 0, 0] S1x256x1024.size inb_S1x256x1024_S1x256x1024_0_0_0
abbrev rM : Rect S1024x1024 := Rect.unit (s := S1024x1024) ![0, 0] S1024x1024.size inb_S1024x1024_S1024x1024_0_0
abbrev rS : Rect S256x1024 := Rect.unit (s := S256x1024) ![0, 0] S256x1024.size inb_S256x1024_S256x1024_0_0

theorem read_x (f) : xM.view.readAt (Elt F) rX.toLoadRect f = f := Memref.readAt_unit_zero (Elt F) cc0_stg0_0 hz3 _ f
theorem read_q (f) : qM.view.readAt (Elt F) rM.toLoadRect f = f := Memref.readAt_unit_zero (Elt F) cc0_stg1_0 hz2 _ f
theorem read_w (f) : wM.view.readAt (Elt F) rM.toLoadRect f = f := Memref.readAt_unit_zero (Elt F) cc0_stg2_0 hz2 _ f
theorem read_o (f) : oM.view.readAt (Elt F) rX.toLoadRect f = f := Memref.readAt_unit_zero (Elt F) cc0_stg3_0 hz3 _ f
theorem write_o (f w : (cc0_stg3_0 : Ref sig .tc).ty.Contents (Elt F)) : (oM.access rX : View sig .tc _ _ _).write (Elt F) f w Finset.univ = w :=
  Memref.write_access_unit_zero_univ (Elt F) cc0_stg3_0 hz3 _ f w
theorem write_s (f w : (cc0_scratch4 : Ref sig .tc).ty.Contents (Elt F)) : (sM.access rS : View sig .tc _ _ _).write (Elt F) f w Finset.univ = w :=
  Memref.write_access_unit_zero_univ (Elt F) cc0_scratch4 hz2 _ f w

/-- What the local part stores, from the buffers it reads. -/
theorem part_val (c : Dev nD) : partOf8 (xM.view.readAt (Elt F) rX.toLoadRect (xB m c)) (qM.view.readAt (Elt F) rM.toLoadRect (qB m c))
    (kM.view.readAt (Elt F) rHead0.toLoadRect (kB m c)) (vM.view.readAt (Elt F) rHead0.toLoadRect (vB m c)) (kM.view.readAt (Elt F) rHead0.toLoadRect (kB m c)) (vM.view.readAt (Elt F) rHead0.toLoadRect (vB m c))
    (kM.view.readAt (Elt F) rHead0.toLoadRect (kB m c)) (vM.view.readAt (Elt F) rHead0.toLoadRect (vB m c)) (kM.view.readAt (Elt F) rHead0.toLoadRect (kB m c)) (vM.view.readAt (Elt F) rHead0.toLoadRect (vB m c))
    (kM.view.readAt (Elt F) rHead1.toLoadRect (kB m c)) (vM.view.readAt (Elt F) rHead1.toLoadRect (vB m c)) (kM.view.readAt (Elt F) rHead1.toLoadRect (kB m c)) (vM.view.readAt (Elt F) rHead1.toLoadRect (vB m c))
    (kM.view.readAt (Elt F) rHead1.toLoadRect (kB m c)) (vM.view.readAt (Elt F) rHead1.toLoadRect (vB m c)) (kM.view.readAt (Elt F) rHead1.toLoadRect (kB m c)) (vM.view.readAt (Elt F) rHead1.toLoadRect (vB m c))
    (wM.view.readAt (Elt F) rM.toLoadRect (wB m c)) = partB m c := by
  rw [read_x, read_q, read_w]; rfl

/-- One of the two local copies. -/
theorem step_cpK (c : Dev nD) {α : Type} (Q : α → sProp 𝕄) {hs hd ht} (k : PUnit → PrK F α) :
    iprop(recs m K ∗ pts c main_arg2 (m ((c : Thread nD τ).loc main_arg2)) ∗ (∃ f, pts c cc0_scratch0 f) ∗ dutyTok ER (cpCell c 0) 0 0)
      ⊢ iprop((iprop(cred (tallyAt (cpCell c 0) () Ncp) ∗ (((c : Thread nD τ).loc main_arg2) ↦[Finset.univ \ (kHs c).view.set]{fullShare} m ((c : Thread nD τ).loc main_arg2))) -∗ wpc c (k ⟨⟩) Q)
          -∗ wpc c (.op (.enqueueDma (kHs c) (.here kM) (.dma (cpS 0)) hs hd ht) k) Q) := by
  iintro ⟨#HR, Ha, ⟨%fd, Hd⟩, Ht⟩ Hk
  ihave Hrec := (recs_at m K c (.inr (.inl 0))) $$ HR
  icases Hrec with ⟨#Hinv, #Hre⟩
  ihave Hs := (pointsTo_split_subset (Finset.subset_univ (kHs c).view.set)).1 $$ Ha
  icases Hs with ⟨Hs, Hrest⟩
  iapply (Rounds.wp_copy_pointsTo 𝒱₀ ER (Rd m) (c : Thread nD τ) none (κ := K (c, .inr (.inl 0))) (src := kHs c) (dst := kM) (q := fullShare) (fs := m ((c : Thread nD τ).loc main_arg2)) (fd := fd) (r := 0) (d := 0)
      (by rw [duties_k m c (.inr (.inl 0))]; exact Finset.mem_singleton_self _) () Ncp rfl (amount_k m c (.inr (.inl 0)) 0)
      (by
        rw [payload_k m c (.inr (.inl 0))]
        show _ ⊢ cpPay m c 0
        unfold cpPay
        rw [if_pos rfl, View.set_whole, View.write_whole_univ]; exact BI.Entails.refl _)) $$ [Hs Hd Ht]
  · isplitr; · iexact Hinv
    isplitl [Hs]; · iexact Hs
    isplitl [Hd]; · rw [View.set_whole]; iexact Hd
    isplitl [Ht]; · iexact Ht
    iexact Hre
  iintro Hc
  iapply Hk
  isplitl [Hc]; · iexact Hc
  iexact Hrest
theorem step_cpV (c : Dev nD) {α : Type} (Q : α → sProp 𝕄) {hs hd ht} (k : PUnit → PrK F α) :
    iprop(recs m K ∗ pts c main_arg3 (m ((c : Thread nD τ).loc main_arg3)) ∗ (∃ f, pts c cc0_scratch1 f) ∗ dutyTok ER (cpCell c 1) 0 0)
      ⊢ iprop((iprop(cred (tallyAt (cpCell c 1) () Ncp) ∗ (((c : Thread nD τ).loc main_arg3) ↦[Finset.univ \ (vHs c).view.set]{fullShare} m ((c : Thread nD τ).loc main_arg3))) -∗ wpc c (k ⟨⟩) Q)
          -∗ wpc c (.op (.enqueueDma (vHs c) (.here vM) (.dma (cpS 1)) hs hd ht) k) Q) := by
  iintro ⟨#HR, Ha, ⟨%fd, Hd⟩, Ht⟩ Hk
  ihave Hrec := (recs_at m K c (.inr (.inl 1))) $$ HR
  icases Hrec with ⟨#Hinv, #Hre⟩
  ihave Hs := (pointsTo_split_subset (Finset.subset_univ (vHs c).view.set)).1 $$ Ha
  icases Hs with ⟨Hs, Hrest⟩
  iapply (Rounds.wp_copy_pointsTo 𝒱₀ ER (Rd m) (c : Thread nD τ) none (κ := K (c, .inr (.inl 1))) (src := vHs c) (dst := vM) (q := fullShare) (fs := m ((c : Thread nD τ).loc main_arg3)) (fd := fd) (r := 0) (d := 0)
      (by rw [duties_k m c (.inr (.inl 1))]; exact Finset.mem_singleton_self _) () Ncp rfl (amount_k m c (.inr (.inl 1)) 0)
      (by
        rw [payload_k m c (.inr (.inl 1))]
        show _ ⊢ cpPay m c 1
        unfold cpPay
        rw [if_neg (by decide), View.set_whole, View.write_whole_univ]; exact BI.Entails.refl _)) $$ [Hs Hd Ht]
  · isplitr; · iexact Hinv
    isplitl [Hs]; · iexact Hs
    isplitl [Hd]; · rw [View.set_whole]; iexact Hd
    isplitl [Ht]; · iexact Ht
    iexact Hre
  iintro Hc
  iapply Hk
  isplitl [Hc]; · iexact Hc
  iexact Hrest

theorem owX_pos2 (c : Dev nD) : ∀ g u, 0 < (owX 1 c 0 + owX 0 c 0) g u → g.1.2 = .tc ∧ 1 < lv g u := fun g u hg => by
  rcases add_pos_or hg with h | h
  · exact ⟨(owX_above g u h).1, by have := (owX_above g u h).2; change 2 + 1 ≤ _ at this; omega⟩
  · exact ⟨(owX_above g u h).1, by have := (owX_above g u h).2; change 2 + 0 ≤ _ at this; omega⟩

theorem kM_credit : kM.view.dmaCredit = Ncp := rfl
theorem vM_credit : vM.view.dmaCredit = Ncp := rfl

/-! The waits for the two local copies. -/

theorem step_wcpK (c : Dev nD) {α : Type} (Q : α → sProp 𝕄) {hs hd} (k : PUnit → PrK F α) :
    iprop(iprop(recs m K ∗ levAts L lv ∗ ows c (owX 1 c 0 + owX 0 c 0)) ∗ iprop(cred (tallyAt (cpCell c 0) () Ncp) ∗ atPos ER (cpCell c 0) 0 ∅ 0))
      ⊢ iprop((iprop(iprop(recs m K ∗ levAts L lv ∗ ows c (owX 1 c 0 + owX 0 c 0)) ∗ iprop(iprop((((c : Thread nD τ).loc cc0_scratch0) ↦{fullShare} kB m c) ∗ (((c : Thread nD τ).loc main_arg2) ↦[(kHs c).view.set]{fullShare} m ((c : Thread nD τ).loc main_arg2))) ∗ semVal (cpCell c 0) 0)) -∗ wpc c (k ⟨⟩) Q)
          -∗ wpc c (.op (.waitDma2 (cpS 0) (kHs c) kM hs hd) k) Q) := by
  have e : payOf m c (.inr (.inl 0)) 0 = iprop((((c : Thread nD τ).loc cc0_scratch0) ↦{fullShare} kB m c) ∗ (((c : Thread nD τ).loc main_arg2) ↦[(kHs c).view.set]{fullShare} m ((c : Thread nD τ).loc main_arg2))) := by
    show cpPay m c 0 = _
    unfold cpPay; exact if_pos rfl
  rw [← e]
  exact wp_wait_own m K c Q (.inl 0) _ (wait_amt c _ _ _ _ _ Ncp kM_credit) _
    (mayWait_below c _ 0 (lv_k c (.inr (.inl 0))).le _ fun g u h => ⟨(owX_pos2 c g u h).1, (Nat.zero_lt_one.trans (owX_pos2 c g u h).2)⟩) k
theorem step_wcpV (c : Dev nD) {α : Type} (Q : α → sProp 𝕄) {hs hd} (k : PUnit → PrK F α) :
    iprop(iprop(recs m K ∗ levAts L lv ∗ ows c (owX 1 c 0 + owX 0 c 0)) ∗ iprop(cred (tallyAt (cpCell c 1) () Ncp) ∗ atPos ER (cpCell c 1) 0 ∅ 0))
      ⊢ iprop((iprop(iprop(recs m K ∗ levAts L lv ∗ ows c (owX 1 c 0 + owX 0 c 0)) ∗ iprop(iprop((((c : Thread nD τ).loc cc0_scratch1) ↦{fullShare} vB m c) ∗ (((c : Thread nD τ).loc main_arg3) ↦[(vHs c).view.set]{fullShare} m ((c : Thread nD τ).loc main_arg3))) ∗ semVal (cpCell c 1) 0)) -∗ wpc c (k ⟨⟩) Q)
          -∗ wpc c (.op (.waitDma2 (cpS 1) (vHs c) vM hs hd) k) Q) := by
  have e : payOf m c (.inr (.inl 1)) 0 = iprop((((c : Thread nD τ).loc cc0_scratch1) ↦{fullShare} vB m c) ∗ (((c : Thread nD τ).loc main_arg3) ↦[(vHs c).view.set]{fullShare} m ((c : Thread nD τ).loc main_arg3))) := by
    show cpPay m c 1 = _
    unfold cpPay; exact if_neg (by decide)
  rw [← e]
  exact wp_wait_own m K c Q (.inl 1) _ (wait_amt c _ _ _ _ _ Ncp vM_credit) _
    (mayWait_below c _ 0 (lv_k c (.inr (.inl 1))).le _ fun g u h => ⟨(owX_pos2 c g u h).1, (Nat.zero_lt_one.trans (owX_pos2 c g u h).2)⟩) k

set_option maxHeartbeats 1600000 in
/-- The local part: device `c`'s two heads copied in, its partial result computed and staged. -/
theorem seg_local (c : Dev nD) {α : Type} (Q : α → sProp 𝕄) (rest : PrK F α) :
    iprop(iprop(recs m K ∗ levAts L lv ∗ ows c (owX 1 c 0 + owX 0 c 0))
        ∗ iprop(pts c cc0_stg0_0 (xB m c) ∗ pts c cc0_stg1_0 (qB m c) ∗ pts c cc0_stg2_0 (wB m c) ∗ (∃ f, pts c cc0_stg3_0 f)
          ∗ (∃ f, pts c cc0_scratch0 f) ∗ (∃ f, pts c cc0_scratch1 f) ∗ (∃ f, pts c cc0_scratch4 f)
          ∗ pts c main_arg2 (m ((c : Thread nD τ).loc main_arg2)) ∗ pts c main_arg3 (m ((c : Thread nD τ).loc main_arg3))
          ∗ dutyTok ER (cpCell c 0) 0 0 ∗ dutyTok ER (cpCell c 1) 0 0 ∗ atPos ER (cpCell c 0) 0 ∅ 0 ∗ atPos ER (cpCell c 1) 0 ∅ 0))
      ⊢ iprop((iprop(iprop(recs m K ∗ levAts L lv ∗ ows c (owX 1 c 0 + owX 0 c 0))
        ∗ iprop(pts c cc0_stg0_0 (xB m c) ∗ pts c cc0_stg1_0 (qB m c) ∗ pts c cc0_stg2_0 (wB m c) ∗ (∃ f, pts c cc0_stg3_0 f)
          ∗ (∃ f, pts c cc0_scratch0 f) ∗ (∃ f, pts c cc0_scratch1 f) ∗ pts c cc0_scratch4 (stgB m c)
          ∗ pts c main_arg2 (m ((c : Thread nD τ).loc main_arg2)) ∗ pts c main_arg3 (m ((c : Thread nD τ).loc main_arg3))
          ∗ semVal (cpCell c 0) 0 ∗ semVal (cpCell c 1) 0)) -∗ wpc c rest Q)
        -∗ wpc c (bodyLocal c >>= fun _ => rest) Q) := by
  unfold bodyLocal
  simp only [Prog.lift, Prog.bind_op, Prog.bind_ret, Prog.pure_eq_ret]
  iintro ⟨⟨#HR, #Hlev, HO⟩, Hx, Hq, Hw, ⟨%fo, Ho⟩, Hk, Hv, ⟨%fs, Hs⟩, Ha, Hb, Htk, Htv, Hpk, Hpv⟩ Hcont
  iapply (step_cpK m K c Q) $$ [Ha Hk Htk]
  · isplitr; · iexact HR
    isplitl [Ha]; · iexact Ha
    isplitl [Hk]; · iexact Hk
    iexact Htk
  iintro ⟨Hck, Har⟩
  iapply (step_cpV m K c Q) $$ [Hb Hv Htv]
  · isplitr; · iexact HR
    isplitl [Hb]; · iexact Hb
    isplitl [Hv]; · iexact Hv
    iexact Htv
  iintro ⟨Hcv, Hbr⟩
  iapply (wp_load 𝒱₀ (c : Thread nD τ) none Set.univ (m := xM) (Finset.subset_univ _)) $$ Hx; iintro Hx
  iapply (wp_load 𝒱₀ (c : Thread nD τ) none Set.univ (m := qM) (Finset.subset_univ _)) $$ Hq; iintro Hq
  iapply (step_wcpK m K c Q) $$ [HO Hck Hpk]
  · isplitl [HO]
    · isplitr; · iexact HR
      isplitr; · iexact Hlev
      iexact HO
    isplitl [Hck]; · iexact Hck
    iexact Hpk
  iintro ⟨⟨-, -, HO⟩, ⟨Hk, Ha⟩, Hzk⟩
  iapply (step_wcpV m K c Q) $$ [HO Hcv Hpv]
  · isplitl [HO]
    · isplitr; · iexact HR
      isplitr; · iexact Hlev
      iexact HO
    isplitl [Hcv]; · iexact Hcv
    iexact Hpv
  iintro ⟨⟨-, -, HO⟩, ⟨Hv, Hb⟩, Hzv⟩
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := kM) (Finset.subset_univ _)) $$ Hk; iintro Hk
  iapply (wp_load 𝒱₀ (c : Thread nD τ) none Set.univ (m := vM) (Finset.subset_univ _)) $$ Hv; iintro Hv
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := rX) (Mk := Finset.univ) (Finset.subset_univ _)) $$ Ho; iintro Ho
  iapply (wp_load 𝒱₀ (c : Thread nD τ) none Set.univ (m := oM) (Finset.subset_univ _)) $$ Ho; iintro Ho
  iapply (wp_load 𝒱₀ (c : Thread nD τ) none Set.univ (m := sM) (Finset.subset_univ _)) $$ Hs; iintro Hs
  iapply (wp_store 𝒱₀ (c : Thread nD τ) none Set.univ (m := sM) (r := rS) (Mk := Finset.univ) (Finset.subset_univ _)) $$ Hs; iintro Hs
  rw [write_s, write_o, read_o, part_val]
  iapply Hcont
  isplitl [HO]
  · isplitr; · iexact HR
    isplitr; · iexact Hlev
    iexact HO
  isplitl [Hx]; · iexact Hx
  isplitl [Hq]; · iexact Hq
  isplitl [Hw]; · iexact Hw
  isplitl [Ho]; · iexists _; iexact Ho
  isplitl [Hk]; · iexists _; iexact Hk
  isplitl [Hv]; · iexists _; iexact Hv
  isplitl [Hs]; · iexact Hs
  isplitl [Ha Har]
  · iapply (pointsTo_split_subset (Finset.subset_univ (kHs c).view.set)).2
    isplitl [Ha]; · iexact Ha
    iexact Har
  isplitl [Hb Hbr]
  · iapply (pointsTo_split_subset (Finset.subset_univ (vHs c).view.set)).2
    isplitl [Hb]; · iexact Hb
    iexact Hbr
  isplitl [Hzk]; · iexact Hzk
  iexact Hzv

/-! ## The parts around the exchanges -/

abbrev rOut (c : Dev nD) : Rect S1x256x1024 := Rect.unit (s := S1x256x1024) (k0_off6 c) S1x8x1024.size (k0_off6_inb c)
theorem setOn_C (r : Rect S512x1024) : cM.view.setOn r.toLoadRect.set = r.set := Finset.map_refl
theorem setOn_S (r : Rect S256x1024) : sM.view.setOn r.toLoadRect.set = r.set := Finset.map_refl

/-- The device's own block laid into its own landing buffer. -/
theorem seg_mid0 (c : Dev nD) {α : Type} (Q : α → sProp 𝕄) (rest : PrK F α) :
    iprop(ptsS c (rowsS c) fullShare (stgB m c) ∗ (∃ f, ptsC c (rowsC 0 c) f))
      ⊢ iprop((iprop(ptsS c (rowsS c) fullShare (stgB m c) ∗ ptsC c (rowsC 0 c) (commRS m c)) -∗ wpc c rest Q) -∗ wpc c (bodyMid0 c >>= fun _ => rest) Q) := by
  unfold bodyMid0
  simp only [Prog.lift, Prog.bind_op, Prog.bind_ret, Prog.pure_eq_ret]
  iintro ⟨Hs, ⟨%f, Hc⟩⟩ Hk
  iapply (wp_load 𝒱₀ (c : Thread nD τ) none Set.univ (m := sM) (by rw [setOn_S, ← rSrc_set])) $$ Hs; iintro Hs
  iapply (wp_load 𝒱₀ (c : Thread nD τ) none Set.univ (m := cM) (by rw [setOn_C, ← rOwn0_set])) $$ Hc; iintro Hc
  iapply (wp_store 𝒱₀ (c : Thread nD τ) none Set.univ (m := cM) (r := rOwn0 c) (Mk := Finset.univ) (by rw [← rOwn0_set]; exact (View.set_slice_whole cc0_scratch3 (rOwn0 c)).subset)) $$ Hc; iintro Hc
  iapply Hk
  isplitl [Hs]; · iexact Hs
  iapply (Entails.of_eq (pointsTo_congr (own0 m c f))); iexact Hc

/-- The device's own reduced block laid into its own landing buffer. -/
theorem seg_mid2 (c : Dev nD) {α : Type} (Q : α → sProp 𝕄) (rest : PrK F α) :
    iprop(ptsS c (rowsS 0) lfOwn (topB m c) ∗ (∃ f, ptsC c (rowsC 1 c) f))
      ⊢ iprop((iprop(ptsS c (rowsS 0) lfOwn (topB m c) ∗ ptsC c (rowsC 1 c) (commAG m)) -∗ wpc c rest Q) -∗ wpc c (bodyMid2 c >>= fun _ => rest) Q) := by
  unfold bodyMid2
  simp only [Prog.lift, Prog.bind_op, Prog.bind_ret, Prog.pure_eq_ret]
  iintro ⟨Hs, ⟨%f, Hc⟩⟩ Hk
  iapply (wp_load 𝒱₀ (c : Thread nD τ) none Set.univ (m := sM) (by rw [setOn_S, ← rTop_set])) $$ Hs; iintro Hs
  iapply (wp_load 𝒱₀ (c : Thread nD τ) none Set.univ (m := cM) (by rw [setOn_C, ← rOwn1_set])) $$ Hc; iintro Hc
  iapply (wp_store 𝒱₀ (c : Thread nD τ) none Set.univ (m := cM) (r := rOwn1 c) (Mk := Finset.univ) (by rw [← rOwn1_set]; exact (View.set_slice_whole cc0_scratch3 (rOwn1 c)).subset)) $$ Hc; iintro Hc
  iapply Hk
  isplitl [Hs]; · iexact Hs
  iapply (Entails.of_eq (pointsTo_congr (own1 m c f))); iexact Hc

/-- The sum over the devices: into the output window, and rounded into the staging buffer's first rows. -/
theorem seg_mid1 (c : Dev nD) {α : Type} (Q : α → sProp 𝕄) (rest : PrK F α) :
    iprop(ptsC c (halfC 0) (commRS m c) ∗ (∃ f, pts c cc0_stg3_0 f) ∗ (∃ f, ptsS c (rowsS 0) fullShare f))
      ⊢ iprop((iprop(ptsC c (halfC 0) (commRS m c) ∗ (∃ f, pts c cc0_stg3_0 f) ∗ ptsS c (rowsS 0) fullShare (topB m c)) -∗ wpc c rest Q) -∗ wpc c (bodyMid1 c >>= fun _ => rest) Q) := by
  unfold bodyMid1
  simp only [Prog.lift, Prog.bind_op, Prog.bind_ret, Prog.pure_eq_ret]
  iintro ⟨Hc, ⟨%fo, Ho⟩, ⟨%f, Hs⟩⟩ Hk
  iapply (wp_load 𝒱₀ (c : Thread nD τ) none Set.univ (m := cM) (by rw [setOn_C, ← rRS_set])) $$ Hc; iintro Hc
  rw [read_rs]
  iapply (wp_load 𝒱₀ (c : Thread nD τ) none Set.univ (m := oM) (Finset.subset_univ _)) $$ Ho; iintro Ho
  iapply (wp_store 𝒱₀ (c : Thread nD τ) none Set.univ (m := oM) (r := rOut c) (Mk := Finset.univ) (Finset.subset_univ _)) $$ Ho; iintro Ho
  iapply (wp_load 𝒱₀ (c : Thread nD τ) none Set.univ (m := sM) (by rw [setOn_S, ← rTop_set])) $$ Hs; iintro Hs
  iapply (wp_store 𝒱₀ (c : Thread nD τ) none Set.univ (m := sM) (r := rTop) (Mk := Finset.univ) (by rw [← rTop_set]; exact (View.set_slice_whole cc0_scratch4 rTop).subset)) $$ Hs; iintro Hs
  iapply Hk
  isplitl [Hc]; · iexact Hc
  isplitl [Ho]; · iexists _; iexact Ho
  iapply (Entails.of_eq (pointsTo_congr (own_top m c f))); iexact Hs

/-- The end: the gathered sum stored. -/
theorem seg_end (c : Dev nD) (Q : PUnit → sProp 𝕄) :
    iprop(ptsC c (halfC 1) (commAG m) ∗ (∃ f, pts c cc0_stg3_0 f))
      ⊢ iprop((iprop(ptsC c (halfC 1) (commAG m) ∗ pts c cc0_stg3_0 (outB m)) -∗ Q ⟨⟩) -∗ wpc c bodyEnd Q) := by
  unfold bodyEnd
  simp only [Prog.lift, Prog.bind_op, Prog.bind_ret, Prog.pure_eq_ret]
  iintro ⟨Hc, ⟨%fo, Ho⟩⟩ Hk
  iapply (wp_load 𝒱₀ (c : Thread nD τ) none Set.univ (m := cM) (by rw [setOn_C, ← rAG_set])) $$ Hc; iintro Hc
  rw [read_ag]
  iapply (wp_load 𝒱₀ (c : Thread nD τ) none Set.univ (m := oM) (Finset.subset_univ _)) $$ Ho; iintro Ho
  iapply (wp_store 𝒱₀ (c : Thread nD τ) none Set.univ (m := oM) (r := rX) (Mk := Finset.univ) (Finset.subset_univ _)) $$ Ho; iintro Ho
  rw [write_o, wp_ret]; imodintro
  iapply Hk
  isplitl [Hc]; · iexact Hc
  iexact Ho

end Cert.KernelIdeal.Pf

end
-- ==== Proof.Ki.Sound.lean ====
module

public import proofs.«01_k».proof.Proof.Ki.Parts

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # A device's whole body

The seven loops and the straight parts between them, put together. -/

local notation "𝕄" => MT nD τ sig Unit (Elt F) ℕ UU ℕ

variable (m : (ℓ : Loc nD τ sig) → Buf (Elt F) ℓ)
variable (K : Dev nD × (Unit ⊕ CI) → ℕ)

theorem owX_end (h : Fin 2) (c : Dev nD) : owX h c 31 = 0 := SparseCore.ProtocolKit.sum_finFrom_self _
theorem owB_end (c : Dev nD) : owB c 31 = 0 := SparseCore.ProtocolKit.sum_finFrom_self _

/-- The rows of device `c`'s landing buffer that its peers write, as its signals hand them over. -/
theorem barPay_out (c : Dev nD) (k : Fin 31) : iprop((∃ f, ptsC c (rowsC 0 (peer c k)) f) ∗ (∃ f, ptsC c (rowsC 1 (peer c k)) f)) ⊢ (barPay (peer c k) k.rev : sProp 𝕄) := by
  unfold barPay; rw [peer_rev]

theorem run_sig (c : Dev nD) {α : Type} (Q : α → sProp 𝕄) (rest : PrK F α) :
    iprop(iprop(recs m K ∗ ows c (O₀ c)) ∗ (bigSep Finset.univ fun k => dutyTok ER (barCell (peer c k)) 0 k.rev)
        ∗ (bigSep Finset.univ fun k => iprop(∃ f, ptsC c (rowsC 0 (peer c k)) f)) ∗ (bigSep Finset.univ fun k => iprop(∃ f, ptsC c (rowsC 1 (peer c k)) f)))
      ⊢ iprop((iprop(recs m K ∗ ows c (owX 1 c 0 + owX 0 c 0)) -∗ wpc c rest Q) -∗ wpc c (seqL (lSig c) >>= fun _ => rest) Q) := by
  rw [lSig_eq]
  have hw := wp_each c Q rest 31 (fun k => stSig (peer c k)) (fun k => iprop(recs m K ∗ ows c ((owX 1 c 0 + owX 0 c 0) + owB c k)))
    (fun k => iprop(dutyTok ER (barCell (peer c k)) 0 k.rev ∗ barPay (peer c k) k.rev)) (fun _ => iprop(emp))
    (fun k K' => step_sig m K c Q K' k _)
  rw [owB_end, add_zero] at hw
  iintro ⟨HR, Ht, H0, H1⟩ Hk
  iapply hw $$ [HR Ht H0 H1]
  · isplitl [HR]; · iexact HR
    rw [bigSep_sep']
    isplitl [Ht]; · iexact Ht
    iapply (show iprop((bigSep Finset.univ fun k => iprop(∃ f, ptsC c (rowsC 0 (peer c k)) f)) ∗ (bigSep Finset.univ fun k => iprop(∃ f, ptsC c (rowsC 1 (peer c k)) f)))
        ⊢ (bigSep Finset.univ fun k : Fin 31 => (barPay (peer c k) k.rev : sProp 𝕄)) from
      (Entails.of_eq (bigSep_sep' _ _ _).symm).trans (bigSep_mono fun k _ => barPay_out (F := F) c k))
    isplitl [H0]; · iexact H0
    iexact H1
  iintro ⟨HR, -⟩
  iapply Hk; iexact HR

theorem mayWait_bar (c : Dev nD) : (levAts L lv : sProp 𝕄) ⊢ MayWait (c : Thread nD τ) (.reg barS) () (owX 1 c 0 + owX 0 c 0) :=
  mayWait_below c (.reg barS) 1 (lv_k c (.inl ())).le _ (owX_pos2 c)

theorem run_bar (c : Dev nD) {α : Type} (Q : α → sProp 𝕄) (rest : PrK F α) :
    iprop(iprop(recs m K ∗ levAts L lv ∗ ows c (owX 1 c 0 + owX 0 c 0)) ∗ cred (tallyAt (barCell c) () 31) ∗ atPos ER (barCell c) 0 ∅ 0)
      ⊢ iprop((iprop(iprop(recs m K ∗ levAts L lv ∗ ows c (owX 1 c 0 + owX 0 c 0))
          ∗ (bigSep Finset.univ fun k => iprop(∃ f, ptsC (peer c k) (rowsC 0 c) f)) ∗ (bigSep Finset.univ fun k => iprop(∃ f, ptsC (peer c k) (rowsC 1 c) f))
          ∗ semVal (barCell c) 0) -∗ wpc c rest Q) -∗ wpc c (semWaitWord barS 31#32 >>= fun _ => rest) Q) := by
  unfold ows
  simp only [semWaitWord, Prog.bind_op, Prog.bind_ret]
  iintro ⟨⟨#HR, #Hlev, ⟨%W, HO⟩⟩, Hc, Hat⟩ Hk
  ihave Hrec := (recs_at m K c (.inl ())) $$ HR
  icases Hrec with ⟨#Hinv, #Hre⟩
  iapply (Rounds.wp_wait_rest_token 𝒱₀ ER (Rd m) (c : Thread nD τ) none (κ := K (c, .inl ()))
      (wpE_semWait_eq 𝒱₀ (c : Thread nD τ) none Set.univ) (Set.mem_univ _) () (O := owX 1 c 0 + owX 0 c 0) (W := W) (R := 0) (m := 0) (T := ∅)
      ((expect_k m c (.inl ())).trans (by decide) |>.symm)) $$ [Hc HO Hat]
  · isplitr; · iexact Hinv
    isplitl [Hc]; · iexact Hc
    isplitl [HO]; · iexact HO
    isplitr; · iapply (mayWait_bar (F := F) c); iexact Hlev
    iexact Hat
  iintro ⟨HO, Hat, -, Hpay⟩
  ihave Hp := (Entails.of_eq ((rest_k m c (.inl ())).trans (show _ = iprop((bigSep Finset.univ fun k => iprop(∃ f, ptsC (peer c k) (rowsC 0 c) f)) ∗ (bigSep Finset.univ fun k => iprop(∃ f, ptsC (peer c k) (rowsC 1 c) f))) from bigSep_sep' _ _ _))) $$ Hpay
  icases Hp with ⟨H0, H1⟩
  imod (Rounds.cell_close ER (Rd m) (Set.mem_univ (K (c, .inl ()))) (fun h => h) (R := 0 + 1) (duties_later m (kcell (c, .inl ())))) $$ [Hat] with Hz
  · isplitr; · iexact Hinv
    iexact Hat
  iapply Hk
  isplitl [HO]
  · isplitr; · iexact HR
    isplitr; · iexact Hlev
    iexists _; iexact HO
  isplitl [H0]; · iexact H0
  isplitl [H1]; · iexact H1
  iexact Hz

theorem run_send0 (c : Dev nD) {α : Type} (Q : α → sProp 𝕄) (rest : PrK F α) :
    iprop(iprop(recs m K ∗ ows c (owX 1 c 0 + owX 0 c 0)) ∗ (bigSep Finset.univ fun k => ptsS c (rowsS (peer c k)) fullShare (stgB m c))
        ∗ (bigSep Finset.univ fun k => iprop(∃ f, ptsC (peer c k) (rowsC 0 c) f)) ∗ (bigSep Finset.univ fun k => dutyTok ER (sndCell c 0 k) 0 0)
        ∗ (bigSep Finset.univ fun k => dutyTok ER (rcvCell (peer c k) 0 k) 0 0))
      ⊢ iprop((iprop(iprop(recs m K ∗ ows c (owX 1 c 0)) ∗ bigSep Finset.univ fun k => cred (tallyAt (sndCell c 0 k) () N)) -∗ wpc c rest Q)
          -∗ wpc c (seqL (lSend0 c) >>= fun _ => rest) Q) := by
  rw [lSend0_eq]
  have hw := wp_each c Q rest 31 (fun k => stSend0 c (peer c k) k) (fun k => iprop(recs m K ∗ ows c (owX 1 c 0 + owX 0 c k)))
    (fun k => iprop(ptsS c (rowsS (peer c k)) fullShare (stgB m c) ∗ (∃ f, ptsC (peer c k) (rowsC 0 c) f)
        ∗ dutyTok ER (sndCell c 0 k) 0 0 ∗ dutyTok ER (rcvCell (peer c k) 0 k) 0 0)) (fun k => cred (tallyAt (sndCell c 0 k) () N))
    (fun k K' => step_send0 m K c Q K' k _)
  rw [owX_end, add_zero, bigSep_sep', bigSep_sep', bigSep_sep'] at hw
  exact hw

theorem run_send1 (c : Dev nD) {α : Type} (Q : α → sProp 𝕄) (rest : PrK F α) :
    iprop(iprop(recs m K ∗ ows c (owX 1 c 0)) ∗ (bigSep Finset.univ fun k => ptsS c (rowsS 0) (lf k) (topB m c))
        ∗ (bigSep Finset.univ fun k => iprop(∃ f, ptsC (peer c k) (rowsC 1 c) f)) ∗ (bigSep Finset.univ fun k => dutyTok ER (sndCell c 1 k) 0 0)
        ∗ (bigSep Finset.univ fun k => dutyTok ER (rcvCell (peer c k) 1 k) 0 0))
      ⊢ iprop((iprop(iprop(recs m K ∗ ows c 0) ∗ bigSep Finset.univ fun k => cred (tallyAt (sndCell c 1 k) () N)) -∗ wpc c rest Q)
          -∗ wpc c (seqL (lSend1 c) >>= fun _ => rest) Q) := by
  rw [lSend1_eq]
  have hw := wp_each c Q rest 31 (fun k => stSend1 c (peer c k) k) (fun k => iprop(recs m K ∗ ows c (0 + owX 1 c k)))
    (fun k => iprop(ptsS c (rowsS 0) (lf k) (topB m c) ∗ (∃ f, ptsC (peer c k) (rowsC 1 c) f)
        ∗ dutyTok ER (sndCell c 1 k) 0 0 ∗ dutyTok ER (rcvCell (peer c k) 1 k) 0 0)) (fun k => cred (tallyAt (sndCell c 1 k) () N))
    (fun k K' => step_send1 m K c Q K' k _)
  rw [owX_end, zero_add, zero_add, bigSep_sep', bigSep_sep', bigSep_sep'] at hw
  exact hw

theorem mayWait_S0 (c : Dev nD) (k : Fin 31) : (levAts L lv : sProp 𝕄) ⊢ MayWait (c : Thread nD τ) (.dma (sndS (ix 0 k))) () (owX 1 c 0) :=
  mayWait_below c _ 0 (lv_k c (.inr (.inr (.inl (0, k))))).le _ fun g u hg => ⟨(owX_above g u hg).1, by have := (owX_above g u hg).2; change 2 + 1 ≤ _ at this; omega⟩
theorem mayWait_R0 (c : Dev nD) (k : Fin 31) : (levAts L lv : sProp 𝕄) ⊢ MayWait (c : Thread nD τ) (.dma (rcvS (ix 0 k))) () (owX 1 c 0) :=
  mayWait_below c _ 2 (lv_k c (.inr (.inr (.inr (0, k))))).le _ fun g u hg => ⟨(owX_above g u hg).1, by have := (owX_above g u hg).2; change 2 + 1 ≤ _ at this; omega⟩
theorem mayWait_S1 (c : Dev nD) (k : Fin 31) : (levAts L lv : sProp 𝕄) ⊢ MayWait (c : Thread nD τ) (.dma (sndS (ix 1 k))) () 0 :=
  mayWait_below c _ 0 (lv_k c (.inr (.inr (.inl (1, k))))).le _ fun g u hg => absurd hg (lt_irrefl 0)
theorem mayWait_R1 (c : Dev nD) (k : Fin 31) : (levAts L lv : sProp 𝕄) ⊢ MayWait (c : Thread nD τ) (.dma (rcvS (ix 1 k))) () 0 :=
  mayWait_below c _ 3 (lv_k c (.inr (.inr (.inr (1, k))))).le _ fun g u hg => absurd hg (lt_irrefl 0)

theorem run_waitS0 (c : Dev nD) {α : Type} (Q : α → sProp 𝕄) (rest : PrK F α) :
    iprop(iprop(recs m K ∗ levAts L lv ∗ ows c (owX 1 c 0)) ∗ (bigSep Finset.univ fun k => cred (tallyAt (sndCell c 0 k) () N))
        ∗ (bigSep Finset.univ fun k => atPos ER (sndCell c 0 k) 0 ∅ 0))
      ⊢ iprop((iprop(iprop(recs m K ∗ levAts L lv ∗ ows c (owX 1 c 0)) ∗ (bigSep Finset.univ fun k : Fin 31 => ptsS c (rowsS (peer c k)) fullShare (stgB m c))
            ∗ (bigSep Finset.univ fun k => semVal (sndCell c 0 k) 0)) -∗ wpc c rest Q)
          -∗ wpc c (seqL (lWaitS0 c) >>= fun _ => rest) Q) := by
  rw [lWaitS0_eq]
  have hw := wp_each_const c Q rest 31 (fun k => stWaitS0 c k) iprop(recs m K ∗ levAts L lv ∗ ows c (owX 1 c 0))
    (fun k => iprop(cred (tallyAt (sndCell c 0 k) () N) ∗ atPos ER (sndCell c 0 k) 0 ∅ 0))
    (fun k => iprop(sndPay m c 0 k ∗ semVal (sndCell c 0 k) 0)) (fun k K' => step_waitS0 m K c Q K' k _ (mayWait_S0 (F := F) c k))
  rw [bigSep_sep', bigSep_sep', bigSep_congr (s := Finset.univ) fun k _ => show sndPay m c 0 k = ptsS c (rowsS (peer c k)) fullShare (stgB m c) from if_pos rfl] at hw
  exact hw

theorem run_waitR0 (c : Dev nD) {α : Type} (Q : α → sProp 𝕄) (rest : PrK F α) :
    iprop(iprop(recs m K ∗ levAts L lv ∗ ows c (owX 1 c 0)) ∗ (bigSep Finset.univ fun k => cred (tallyAt (rcvCell c 0 k) () N))
        ∗ (bigSep Finset.univ fun k => atPos ER (rcvCell c 0 k) 0 ∅ 0))
      ⊢ iprop((iprop(iprop(recs m K ∗ levAts L lv ∗ ows c (owX 1 c 0)) ∗ (bigSep Finset.univ fun k : Fin 31 => ptsC c (rowsC 0 (peer c k.rev)) (commRS m c))
            ∗ (bigSep Finset.univ fun k => semVal (rcvCell c 0 k) 0)) -∗ wpc c rest Q)
          -∗ wpc c (seqL (lWaitR0 c) >>= fun _ => rest) Q) := by
  rw [lWaitR0_eq]
  have hw := wp_each_const c Q rest 31 (fun k => stWaitR0 c k) iprop(recs m K ∗ levAts L lv ∗ ows c (owX 1 c 0))
    (fun k => iprop(cred (tallyAt (rcvCell c 0 k) () N) ∗ atPos ER (rcvCell c 0 k) 0 ∅ 0))
    (fun k => iprop(rcvPay m c 0 k ∗ semVal (rcvCell c 0 k) 0)) (fun k K' => step_waitR0 m K c Q K' k _ (mayWait_R0 (F := F) c k))
  rw [bigSep_sep', bigSep_sep', bigSep_congr (s := Finset.univ) fun k _ => show rcvPay m c 0 k = ptsC c (rowsC 0 (peer c k.rev)) (commRS m c) from if_pos rfl] at hw
  exact hw

theorem run_waitS1 (c : Dev nD) {α : Type} (Q : α → sProp 𝕄) (rest : PrK F α) :
    iprop(iprop(recs m K ∗ levAts L lv ∗ ows c 0) ∗ (bigSep Finset.univ fun k => cred (tallyAt (sndCell c 1 k) () N))
        ∗ (bigSep Finset.univ fun k => atPos ER (sndCell c 1 k) 0 ∅ 0))
      ⊢ iprop((iprop(iprop(recs m K ∗ levAts L lv ∗ ows c 0) ∗ (bigSep Finset.univ fun k : Fin 31 => ptsS c (rowsS 0) (lf k) (topB m c))
            ∗ (bigSep Finset.univ fun k => semVal (sndCell c 1 k) 0)) -∗ wpc c rest Q)
          -∗ wpc c (seqL (lWaitS1 c) >>= fun _ => rest) Q) := by
  rw [lWaitS1_eq]
  have hw := wp_each_const c Q rest 31 (fun k => stWaitS1 c k) iprop(recs m K ∗ levAts L lv ∗ ows c 0)
    (fun k => iprop(cred (tallyAt (sndCell c 1 k) () N) ∗ atPos ER (sndCell c 1 k) 0 ∅ 0))
    (fun k => iprop(sndPay m c 1 k ∗ semVal (sndCell c 1 k) 0)) (fun k K' => step_waitS1 m K c Q K' k _ (mayWait_S1 (F := F) c k))
  rw [bigSep_sep', bigSep_sep', bigSep_congr (s := Finset.univ) fun k _ => show sndPay m c 1 k = ptsS c (rowsS 0) (lf k) (topB m c) from if_neg (by decide)] at hw
  exact hw

theorem run_waitR1 (c : Dev nD) {α : Type} (Q : α → sProp 𝕄) (rest : PrK F α) :
    iprop(iprop(recs m K ∗ levAts L lv ∗ ows c 0) ∗ (bigSep Finset.univ fun k => cred (tallyAt (rcvCell c 1 k) () N))
        ∗ (bigSep Finset.univ fun k => atPos ER (rcvCell c 1 k) 0 ∅ 0))
      ⊢ iprop((iprop(iprop(recs m K ∗ levAts L lv ∗ ows c 0) ∗ (bigSep Finset.univ fun k : Fin 31 => ptsC c (rowsC 1 (peer c k.rev)) (commAG m))
            ∗ (bigSep Finset.univ fun k => semVal (rcvCell c 1 k) 0)) -∗ wpc c rest Q)
          -∗ wpc c (seqL (lWaitR1 c) >>= fun _ => rest) Q) := by
  rw [lWaitR1_eq]
  have hw := wp_each_const c Q rest 31 (fun k => stWaitR1 c k) iprop(recs m K ∗ levAts L lv ∗ ows c 0)
    (fun k => iprop(cred (tallyAt (rcvCell c 1 k) () N) ∗ atPos ER (rcvCell c 1 k) 0 ∅ 0))
    (fun k => iprop(rcvPay m c 1 k ∗ semVal (rcvCell c 1 k) 0)) (fun k K' => step_waitR1 m K c Q K' k _ (mayWait_R1 (F := F) c k))
  rw [bigSep_sep', bigSep_sep', bigSep_congr (s := Finset.univ) fun k _ => show rcvPay m c 1 k = ptsC c (rowsC 1 (peer c k.rev)) (commAG m) from if_neg (by decide)] at hw
  exact hw

/-! ## The whole body -/

/-- The body from where the device knows its own number. -/
def bodyRest (c : Dev nD) : PrK F PUnit :=
  seqL (lSig c) >>= fun _ => semWaitWord barS 31#32 >>= fun _ => bodyLocal c >>= fun _ => seqL (lSend0 c) >>= fun _ => bodyMid0 c >>= fun _ =>
  seqL (lWaitS0 c) >>= fun _ => seqL (lWaitR0 c) >>= fun _ => bodyMid1 c >>= fun _ => seqL (lSend1 c) >>= fun _ => bodyMid2 c >>= fun _ =>
  seqL (lWaitS1 c) >>= fun _ => seqL (lWaitR1 c) >>= fun _ => bodyEnd

theorem bodyL_eq : (bodyL : PrK F PUnit) = Prog.lift .deviceId >>= bodyRest := rfl
set_option maxRecDepth 8000 in
theorem wp_body (c : Dev nD) (Q : PUnit → sProp 𝕄) : wpc c bodyL Q = wpc c (bodyRest c) Q := by
  rw [bodyL_eq]
  generalize (bodyRest : Dev nD → PrK F PUnit) = g
  simp only [Prog.lift, Prog.bind_op, Prog.bind_ret]
  exact wp_deviceId 𝒱₀ (c : Thread nD τ) none Set.univ

/-- What device `c` starts its body with, from the launch and the other devices: its places in its own cells, the rights to
    signal, and the promises made to it; -/
def ghost (c : Dev nD) : sProp 𝕄 :=
  iprop(iprop(atPos ER (barCell c) 0 ∅ 0 ∗ atPos ER (cpCell c 0) 0 ∅ 0 ∗ atPos ER (cpCell c 1) 0 ∅ 0
      ∗ (bigSep Finset.univ fun k => atPos ER (sndCell c 0 k) 0 ∅ 0) ∗ (bigSep Finset.univ fun k => atPos ER (sndCell c 1 k) 0 ∅ 0)
      ∗ (bigSep Finset.univ fun k => atPos ER (rcvCell c 0 k) 0 ∅ 0) ∗ (bigSep Finset.univ fun k => atPos ER (rcvCell c 1 k) 0 ∅ 0))
    ∗ iprop((bigSep Finset.univ fun k => dutyTok ER (barCell (peer c k)) 0 k.rev) ∗ dutyTok ER (cpCell c 0) 0 0 ∗ dutyTok ER (cpCell c 1) 0 0
      ∗ (bigSep Finset.univ fun k => dutyTok ER (sndCell c 0 k) 0 0) ∗ (bigSep Finset.univ fun k => dutyTok ER (sndCell c 1 k) 0 0)
      ∗ (bigSep Finset.univ fun k => dutyTok ER (rcvCell (peer c k) 0 k) 0 0) ∗ (bigSep Finset.univ fun k => dutyTok ER (rcvCell (peer c k) 1 k) 0 0)))
/-- the promises; -/
def promised (c : Dev nD) : sProp 𝕄 :=
  iprop(cred (tallyAt (barCell c) () 31) ∗ (bigSep Finset.univ fun k => cred (tallyAt (rcvCell c 0 k) () N)) ∗ (bigSep Finset.univ fun k => cred (tallyAt (rcvCell c 1 k) () N)))
/-- the buffers outside the window: the two caches, and the four scratch buffers holding anything. -/
def memIn (c : Dev nD) : sProp 𝕄 :=
  iprop(pts c main_arg2 (m ((c : Thread nD τ).loc main_arg2)) ∗ pts c main_arg3 (m ((c : Thread nD τ).loc main_arg3)))
def scr (c : Dev nD) : sProp 𝕄 :=
  iprop((∃ f, pts c cc0_scratch0 f) ∗ (∃ f, pts c cc0_scratch1 f) ∗ (∃ f, pts c cc0_scratch3 f) ∗ (∃ f, pts c cc0_scratch4 f))
/-- Every own semaphore at zero. -/
def zeros (c : Dev nD) : sProp 𝕄 :=
  iprop(semVal (cpCell c 0) 0 ∗ semVal (cpCell c 1) 0
      ∗ (bigSep Finset.univ fun k => semVal (sndCell c 0 k) 0) ∗ (bigSep Finset.univ fun k => semVal (sndCell c 1 k) 0)
      ∗ (bigSep Finset.univ fun k => semVal (rcvCell c 0 k) 0) ∗ (bigSep Finset.univ fun k => semVal (rcvCell c 1 k) 0))
def bodyIn (c : Dev nD) : sProp 𝕄 :=
  iprop(ghost c ∗ promised c ∗ memIn m c ∗ scr c ∗ ows c (O₀ c)
    ∗ pts c cc0_stg0_0 (xB m c) ∗ pts c cc0_stg1_0 (qB m c) ∗ pts c cc0_stg2_0 (wB m c) ∗ ∃ f, pts c cc0_stg3_0 f)
def bodyOut (c : Dev nD) : sProp 𝕄 :=
  iprop(semVal (barCell c) 0 ∗ zeros c ∗ memIn m c ∗ scr c ∗ ows c 0
    ∗ pts c cc0_stg0_0 (xB m c) ∗ pts c cc0_stg1_0 (qB m c) ∗ pts c cc0_stg2_0 (wB m c) ∗ pts c cc0_stg3_0 (outB m))

/-- Splitting off the landing buffer: the own rows of each half, and the peers'. -/
theorem comm_split (c : Dev nD) : iprop(∃ f, pts c cc0_scratch3 f) ⊢
    (iprop((∃ f, ptsC c (rowsC 0 c) f) ∗ (bigSep Finset.univ fun k => iprop(∃ f, ptsC c (rowsC 0 (peer c k)) f))
      ∗ (∃ f, ptsC c (rowsC 1 c) f) ∗ (bigSep Finset.univ fun k => iprop(∃ f, ptsC c (rowsC 1 (peer c k)) f))) : sProp 𝕄) := by
  have hex (h : Fin 2) (f) : (bigSep Finset.univ fun k => ptsC c (rowsC h (peer c k)) f) ⊢ (bigSep Finset.univ fun k : Fin 31 => iprop(∃ f, ptsC c (rowsC h (peer c k)) f) : sProp 𝕄) :=
    bigSep_mono fun k _ => show ptsC c (rowsC h (peer c k)) f ⊢ (iprop(∃ f, ptsC c (rowsC h (peer c k)) f) : sProp 𝕄) from by iintro H; iexists f; iexact H
  iintro ⟨%f, H⟩
  ihave Hh := (ptsC_univ (F := F) c f) $$ H
  icases Hh with ⟨H0, H1⟩
  ihave H0 := (Entails.of_eq ((ptsC_half (F := F) c 0 f).trans (bigSep_peers c _))) $$ H0
  ihave H1 := (Entails.of_eq ((ptsC_half (F := F) c 1 f).trans (bigSep_peers c _))) $$ H1
  icases H0 with ⟨H0, H0s⟩
  icases H1 with ⟨H1, H1s⟩
  isplitl [H0]; · iexists f; iexact H0
  isplitl [H0s]; · iapply (hex 0 f); iexact H0s
  isplitl [H1]; · iexists f; iexact H1
  iapply (hex 1 f); iexact H1s

theorem sound (c : Dev nD) (Q : PUnit → sProp 𝕄) :
    iprop(recs m K ∗ levAts L lv ∗ bodyIn m c) ⊢ iprop((bodyOut m c -∗ Q ⟨⟩) -∗ wpc c bodyL Q) := by
  rw [wp_body]
  unfold bodyRest bodyIn ghost promised memIn scr
  iintro ⟨#HR, #Hlev, ⟨⟨HaB, Ha0, Ha1, HaS0, HaS1, HaR0, HaR1⟩, HtB, Ht0, Ht1, HtS0, HtS1, HtR0, HtR1⟩, ⟨HcB, HcR0, HcR1⟩, ⟨HK, HV⟩, ⟨Hs0, Hs1, HC, HS⟩, HO, Hx, Hq, Hw, Ho⟩ Hk
  ihave HC' := (comm_split (F := F) c) $$ HC
  icases HC' with ⟨Hc0, Hc0s, Hc1, Hc1s⟩
  -- the signals
  iapply (run_sig m K c Q _) $$ [HO HtB Hc0s Hc1s]
  · isplitl [HO]
    · isplitr; · iexact HR
      iexact HO
    isplitl [HtB]; · iexact HtB
    isplitl [Hc0s]; · iexact Hc0s
    iexact Hc1s
  iintro ⟨-, HO⟩
  -- the wait for the peers' signals
  iapply (run_bar m K c Q _) $$ [HO HcB HaB]
  · isplitl [HO]
    · isplitr; · iexact HR
      isplitr; · iexact Hlev
      iexact HO
    isplitl [HcB]; · iexact HcB
    iexact HaB
  iintro ⟨⟨-, -, HO⟩, Hd0, Hd1, HzB⟩
  -- the device's own part
  iapply (seg_local m K c Q _) $$ [HO Hx Hq Hw Ho Hs0 Hs1 HS HK HV Ht0 Ht1 Ha0 Ha1]
  · isplitl [HO]
    · isplitr; · iexact HR
      isplitr; · iexact Hlev
      iexact HO
    isplitl [Hx]; · iexact Hx
    isplitl [Hq]; · iexact Hq
    isplitl [Hw]; · iexact Hw
    isplitl [Ho]; · iexact Ho
    isplitl [Hs0]; · iexact Hs0
    isplitl [Hs1]; · iexact Hs1
    isplitl [HS]; · iexact HS
    isplitl [HK]; · iexact HK
    isplitl [HV]; · iexact HV
    isplitl [Ht0]; · iexact Ht0
    isplitl [Ht1]; · iexact Ht1
    isplitl [Ha0]; · iexact Ha0
    iexact Ha1
  iintro ⟨⟨-, -, HO⟩, Hx, Hq, Hw, Ho, Hs0, Hs1, HS, HK, HV, Hz0, Hz1⟩
  ihave HS' := (Entails.of_eq ((ptsS_univ (F := F) c (stgB m c)).trans (bigSep_peers c _))) $$ HS
  icases HS' with ⟨HSo, HSs⟩
  -- the first exchange
  iapply (run_send0 m K c Q _) $$ [HO HSs Hd0 HtS0 HtR0]
  · isplitl [HO]
    · isplitr; · iexact HR
      iexact HO
    isplitl [HSs]; · iexact HSs
    isplitl [Hd0]; · iexact Hd0
    isplitl [HtS0]; · iexact HtS0
    iexact HtR0
  iintro ⟨⟨-, HO⟩, HcS0⟩
  iapply (seg_mid0 m c Q _) $$ [HSo Hc0]
  · isplitl [HSo]; · iexact HSo
    iexact Hc0
  iintro ⟨HSo, Hc0⟩
  iapply (run_waitS0 m K c Q _) $$ [HO HcS0 HaS0]
  · isplitl [HO]
    · isplitr; · iexact HR
      isplitr; · iexact Hlev
      iexact HO
    isplitl [HcS0]; · iexact HcS0
    iexact HaS0
  iintro ⟨⟨-, -, HO⟩, HSs, HzS0⟩
  iapply (run_waitR0 m K c Q _) $$ [HO HcR0 HaR0]
  · isplitl [HO]
    · isplitr; · iexact HR
      isplitr; · iexact Hlev
      iexact HO
    isplitl [HcR0]; · iexact HcR0
    iexact HaR0
  iintro ⟨⟨-, -, HO⟩, Hc0s, HzR0⟩
  ihave HS := (Entails.of_eq ((ptsS_univ (F := F) c (stgB m c)).trans (bigSep_peers c _)).symm) $$ [HSo HSs]
  · isplitl [HSo]; · iexact HSo
    iexact HSs
  ihave HC0 := (Entails.of_eq ((ptsC_half (F := F) c 0 (commRS m c)).trans (bigSep_peers_rev c _)).symm) $$ [Hc0 Hc0s]
  · isplitl [Hc0]; · iexact Hc0
    iexact Hc0s
  -- the sum of the device's block
  ihave HS' := (ptsS_top (F := F) c (stgB m c)) $$ HS
  icases HS' with ⟨HSt, HSb⟩
  iapply (seg_mid1 m c Q _) $$ [HC0 Ho HSt]
  · isplitl [HC0]; · iexact HC0
    isplitl [Ho]; · iexact Ho
    iexists _; iexact HSt
  iintro ⟨HC0, Ho, HSt⟩
  ihave HS' := (Entails.of_eq (ptsS_leaves (F := F) c (topB m c))) $$ HSt
  icases HS' with ⟨HSo, HSs⟩
  -- the second exchange
  iapply (run_send1 m K c Q _) $$ [HO HSs Hd1 HtS1 HtR1]
  · isplitl [HO]
    · isplitr; · iexact HR
      iexact HO
    isplitl [HSs]; · iexact HSs
    isplitl [Hd1]; · iexact Hd1
    isplitl [HtS1]; · iexact HtS1
    iexact HtR1
  iintro ⟨⟨-, HO⟩, HcS1⟩
  iapply (seg_mid2 m c Q _) $$ [HSo Hc1]
  · isplitl [HSo]; · iexact HSo
    iexact Hc1
  iintro ⟨HSo, Hc1⟩
  iapply (run_waitS1 m K c Q _) $$ [HO HcS1 HaS1]
  · isplitl [HO]
    · isplitr; · iexact HR
      isplitr; · iexact Hlev
      iexact HO
    isplitl [HcS1]; · iexact HcS1
    iexact HaS1
  iintro ⟨⟨-, -, HO⟩, HSs, HzS1⟩
  iapply (run_waitR1 m K c Q _) $$ [HO HcR1 HaR1]
  · isplitl [HO]
    · isplitr; · iexact HR
      isplitr; · iexact Hlev
      iexact HO
    isplitl [HcR1]; · iexact HcR1
    iexact HaR1
  iintro ⟨⟨-, -, HO⟩, Hc1s, HzR1⟩
  ihave HSt := (Entails.of_eq (ptsS_leaves (F := F) c (topB m c)).symm) $$ [HSo HSs]
  · isplitl [HSo]; · iexact HSo
    iexact HSs
  ihave HS := (ptsS_top_join (F := F) c (topB m c) (stgB m c)) $$ [HSt HSb]
  · isplitl [HSt]; · iexact HSt
    iexact HSb
  ihave HC1 := (Entails.of_eq ((ptsC_half (F := F) c 1 (commAG m)).trans (bigSep_peers_rev c _)).symm) $$ [Hc1 Hc1s]
  · isplitl [Hc1]; · iexact Hc1
    iexact Hc1s
  -- the result
  iapply (seg_end m c Q) $$ [HC1 Ho]
  · isplitl [HC1]; · iexact HC1
    iexact Ho
  iintro ⟨HC1, Ho⟩
  ihave HC := (ptsC_join (F := F) c (commRS m c) (commAG m)) $$ [HC0 HC1]
  · isplitl [HC0]; · iexact HC0
    iexact HC1
  iapply Hk
  unfold bodyOut zeros memIn scr
  isplitl [HzB]; · iexact HzB
  isplitl [Hz0 Hz1 HzS0 HzS1 HzR0 HzR1]
  · isplitl [Hz0]; · iexact Hz0
    isplitl [Hz1]; · iexact Hz1
    isplitl [HzS0]; · iexact HzS0
    isplitl [HzS1]; · iexact HzS1
    isplitl [HzR0]; · iexact HzR0
    iexact HzR1
  isplitl [HK HV]
  · isplitl [HK]; · iexact HK
    iexact HV
  isplitl [Hs0 Hs1 HC HS]
  · isplitl [Hs0]; · iexact Hs0
    isplitl [Hs1]; · iexact Hs1
    isplitl [HC]; · iexact HC
    iexact HS
  isplitl [HO]; · iexact HO
  isplitl [Hx]; · iexact Hx
  isplitl [Hq]; · iexact Hq
  isplitl [Hw]; · iexact Hw
  iexact Ho

end Cert.KernelIdeal.Pf

end
-- ==== Proof.Ki.Tokens.lean ====
module

public import proofs.«01_k».proof.Proof.Ki.Sound
public import Idealize.ShloMosaic.Lib.Pipeline.CollectiveSegs
public import Idealize.ShloMosaic.Lib.SparseCore.Stream

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The ghost state at launch

The cells, their tokens and their credits as the launch makes them, and how they are dealt to the devices. -/

local notation "𝕄" => MT nD τ sig Unit (Elt F) ℕ UU ℕ

variable (m : (ℓ : Loc nD τ sig) → Buf (Elt F) ℓ) (ρ : Dev nD → PrngReg)

theorem assoc_eq (P Q R : sProp 𝕄) : iprop((P ∗ Q) ∗ R) = iprop(P ∗ Q ∗ R) := by
  refine BI.Entails.antisymm (show iprop((P ∗ Q) ∗ R) ⊢ iprop(P ∗ Q ∗ R) from ?_) (show iprop(P ∗ Q ∗ R) ⊢ iprop((P ∗ Q) ∗ R) from ?_)
  · iintro ⟨⟨H0, H1⟩, H2⟩
    isplitl [H0]; · iexact H0
    isplitl [H1]; · iexact H1
    iexact H2
  · iintro ⟨H0, H1, H2⟩
    isplitl [H0 H1]
    · isplitl [H0]; · iexact H0
      iexact H1
    iexact H2

/-- A family over the kernel's own semaphores, exchange by exchange. -/
theorem bigSep_CI (Φ : CI → sProp 𝕄) : bigSep Finset.univ Φ
    = iprop(Φ (.inl 0) ∗ Φ (.inl 1) ∗ (bigSep Finset.univ fun k => Φ (.inr (.inl (0, k)))) ∗ (bigSep Finset.univ fun k => Φ (.inr (.inl (1, k))))
        ∗ (bigSep Finset.univ fun k => Φ (.inr (.inr (0, k)))) ∗ (bigSep Finset.univ fun k => Φ (.inr (.inr (1, k))))) := by
  rw [BI.bigSep_univ_sum Φ, BI.bigSep_fin_two, BI.bigSep_univ_sum (fun b => Φ (.inr b)), BI.bigSep_univ_prod, BI.bigSep_univ_prod, BI.bigSep_fin_two, BI.bigSep_fin_two]
  exact (assoc_eq _ _ _).trans (congrArg (fun X => iprop(Φ (.inl 0) ∗ Φ (.inl 1) ∗ X)) (assoc_eq _ _ _))

/-- A family over all the protocol's semaphores: the barrier's, then the own ones. -/
theorem bigSep_all (Φ : Unit ⊕ CI → sProp 𝕄) : bigSep Finset.univ Φ = iprop(Φ (.inl ()) ∗ bigSep Finset.univ fun i => Φ (.inr i)) := by
  rw [BI.bigSep_univ_sum Φ, Finset.univ_unique, BI.bigSep_singleton]; rfl

def ringCells : Finset (GSem nD τ sig) := Finset.univ.map ⟨kcell, kcell_inj⟩

/-- A device's own cells' duty tokens as minted: its barrier's, one for each peer, and one for each own semaphore. -/
def tokOf (p : Dev nD × (Fin 31 ⊕ CI)) : GSem nD τ sig × ℕ × Fin 31 := match p.2 with
  | .inl d => (barCell p.1, 0, d)
  | .inr i => (kcell (p.1, .inr i), 0, 0)
theorem tokOf_inj : Function.Injective tokOf := by
  rintro ⟨c, d | i⟩ ⟨c', d' | i'⟩ h
  · have h1 : kcell (c, .inl ()) = kcell (c', .inl ()) := congrArg Prod.fst h
    have h2 : d = d' := congrArg (fun x : GSem nD τ sig × ℕ × Fin 31 => x.2.2) h
    have := kcell_inj h1
    rw [h2, (Prod.mk.inj this).1]
  · have h1 : kcell (c, .inl ()) = kcell (c', .inr i') := congrArg Prod.fst h
    exact absurd (Prod.mk.inj (kcell_inj h1)).2 (by simp)
  · have h1 : kcell (c, .inr i) = kcell (c', .inl ()) := congrArg Prod.fst h
    exact absurd (Prod.mk.inj (kcell_inj h1)).2 (by simp)
  · have h1 : kcell (c, .inr i) = kcell (c', .inr i') := congrArg Prod.fst h
    have h2 := Prod.mk.inj (kcell_inj h1)
    rw [h2.1, Sum.inr.inj h2.2]
def ringToks : Finset (GSem nD τ sig × ℕ × Fin 31) := Finset.univ.map ⟨tokOf, tokOf_inj⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun d : Fin 31 => dutyTok ER (barCell c) 0 d) ∗ bigSep Finset.univ fun i : CI => dutyTok ER (kcell (c, .inr i)) 0 0)

/-- What the launch deals device `c`. -/
def G (c : Dev nD) : sProp 𝕄 :=
  iprop((bigSep Finset.univ fun i : Unit ⊕ CI => roundState ER (Rd m) (kcell (c, i)) 0)
    ∗ (bigSep Finset.univ fun i : Unit ⊕ CI => iprop(atPos ER (kcell (c, i)) 0 ∅ 0 ∗ reached ER (kcell (c, i)) 0)) ∗ toks c)
/-- What is made of it for all devices at once. -/
def G' (c : Dev nD) : sProp 𝕄 := iprop(∃ K, recs m K ∗ ghost c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun i : Unit ⊕ CI => Φ (kcell (c, i)) := by
    unfold ringCells; rw [BI.bigSep_map, BI.bigSep_univ_prod]; rfl
  have hT : bigSep ringToks (fun x => (dutyTok ER x.1 x.2.1 x.2.2 : sProp 𝕄)) = bigSep Finset.univ fun c : Dev nD => toks c := by
    unfold ringToks; rw [BI.bigSep_map, BI.bigSep_univ_prod]
    exact bigSep_congr fun c _ => by rw [BI.bigSep_univ_sum]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The barrier semaphore is the one that outlives the kernel. -/
theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Unit ⊕ CI => semVal (kcell (c, i)) 0 : sProp 𝕄) := by
  rw [unscopedSems0_eq, bigSep_all]
  unfold Pipeline.ownSems0
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Unit ⊕ CI => iprop(∃ κ : ℕ, cellInv ER (Rd m) κ (kcell (c, i))))
          ∗ (bigSep Finset.univ fun i : Unit ⊕ CI => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : Unit ⊕ CI => semVal (kcell (c, i)) 0) ∗ bigSep Finset.univ fun i : Unit ⊕ CI => roundState ER (Rd m) (kcell (c, i)) 0)
      ⊢ (|={Set.univ}=> bigSep Finset.univ fun i : Unit ⊕ CI => iprop(∃ κ : ℕ, cellInv ER (Rd m) κ (kcell (c, i))) : sProp 𝕄) from by
        rw [← bigSep_sep']
        exact (bigSep_mono fun i _ => (Rounds.body_intro ER (Rd m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` pays. -/
def payToks (c : Dev nD) : sProp 𝕄 :=
  iprop((bigSep Finset.univ fun k => dutyTok ER (barCell (peer c k)) 0 k.rev) ∗ dutyTok ER (cpCell c 0) 0 0 ∗ dutyTok ER (cpCell c 1) 0 0
      ∗ (bigSep Finset.univ fun k => dutyTok ER (sndCell c 0 k) 0 0) ∗ (bigSep Finset.univ fun k => dutyTok ER (sndCell c 1 k) 0 0)
      ∗ (bigSep Finset.univ fun k => dutyTok ER (rcvCell (peer c k) 0 k) 0 0) ∗ (bigSep Finset.univ fun k => dutyTok ER (rcvCell (peer c k) 1 k) 0 0))

/-- Device and distance, seen from the peer at that distance. -/
def flip : Dev nD × Fin 31 ≃ Dev nD × Fin 31 where
  toFun p := (peer p.1 p.2, p.2.rev)
  invFun p := (peer p.1 p.2, p.2.rev)
  left_inv p := by rcases p with ⟨c, k⟩; exact Prod.ext (peer_rev c k) (Fin.rev_rev k)
  right_inv p := by rcases p with ⟨c, k⟩; exact Prod.ext (peer_rev c k) (Fin.rev_rev k)
/-- The peer at each distance. -/
def along : Dev nD × Fin 31 ≃ Dev nD × Fin 31 where
  toFun p := (peer p.1 p.2, p.2)
  invFun p := (peer p.1 p.2.rev, p.2)
  left_inv p := by rcases p with ⟨c, k⟩; exact Prod.ext (peer_rev c k) rfl
  right_inv p := by rcases p with ⟨c, k⟩; exact Prod.ext (peer_rev' c k) rfl

theorem around (e : Dev nD × Fin 31 ≃ Dev nD × Fin 31) (Φ : Dev nD × Fin 31 → sProp 𝕄) :
    (bigSep Finset.univ fun c : Dev nD => bigSep Finset.univ fun k : Fin 31 => Φ (c, k)) = bigSep Finset.univ fun c : Dev nD => bigSep Finset.univ fun k : Fin 31 => Φ (e (c, k)) := by
  rw [← BI.bigSep_univ_prod Φ, BI.bigSep_univ_equiv e Φ, BI.bigSep_univ_prod]

theorem toks_around : (bigSep Finset.univ fun c : Dev nD => (toks c : sProp 𝕄)) ⊢ bigSep Finset.univ fun c : Dev nD => payToks c := by
  unfold toks payToks
  have hCI (c : Dev nD) : (bigSep Finset.univ fun i : CI => dutyTok ER (kcell (c, .inr i)) 0 (0 : Fin 31) : sProp 𝕄)
      = iprop(dutyTok ER (cpCell c 0) 0 0 ∗ dutyTok ER (cpCell c 1) 0 0
        ∗ (bigSep Finset.univ fun k => dutyTok ER (sndCell c 0 k) 0 0) ∗ (bigSep Finset.univ fun k => dutyTok ER (sndCell c 1 k) 0 0)
        ∗ (bigSep Finset.univ fun k => dutyTok ER (rcvCell c 0 k) 0 0) ∗ (bigSep Finset.univ fun k => dutyTok ER (rcvCell c 1 k) 0 0)) := bigSep_CI _
  simp only [hCI]
  simp only [bigSep_sep']
  rw [around flip (fun p => (dutyTok ER (barCell p.1) 0 p.2 : sProp 𝕄)), around along (fun p => (dutyTok ER (rcvCell p.1 0 p.2) 0 0 : sProp 𝕄)),
    around along (fun p => (dutyTok ER (rcvCell p.1 1 p.2) 0 0 : sProp 𝕄))]
  exact BI.Entails.refl _

theorem ghost_intro (c : Dev nD) : iprop((bigSep Finset.univ fun i : Unit ⊕ CI => atPos ER (kcell (c, i)) 0 ∅ 0) ∗ payToks c) ⊢ (ghost c : sProp 𝕄) := by
  unfold ghost
  have hCI : (bigSep Finset.univ fun i : Unit ⊕ CI => atPos ER (kcell (c, i)) 0 (∅ : Finset (Fin 31)) 0 : sProp 𝕄)
      = iprop(atPos ER (barCell c) 0 ∅ 0 ∗ atPos ER (cpCell c 0) 0 ∅ 0 ∗ atPos ER (cpCell c 1) 0 ∅ 0
      ∗ (bigSep Finset.univ fun k => atPos ER (sndCell c 0 k) 0 ∅ 0) ∗ (bigSep Finset.univ fun k => atPos ER (sndCell c 1 k) 0 ∅ 0)
      ∗ (bigSep Finset.univ fun k => atPos ER (rcvCell c 0 k) 0 ∅ 0) ∗ (bigSep Finset.univ fun k => atPos ER (rcvCell c 1 k) 0 ∅ 0)) := by
    rw [bigSep_all, bigSep_CI]
  rw [hCI]
  unfold payToks
  exact BI.Entails.refl _

theorem regroup :
    (bigSep Finset.univ fun c : Dev nD => iprop((bigSep Finset.univ fun i : Unit ⊕ CI => iprop(∃ κ : ℕ, cellInv ER (Rd m) κ (kcell (c, i))))
          ∗ (bigSep Finset.univ fun i : Unit ⊕ CI => iprop(atPos ER (kcell (c, i)) 0 ∅ 0 ∗ reached ER (kcell (c, i)) 0)) ∗ toks c) : sProp 𝕄)
      ⊢ bigSep Finset.univ (G' m) := by
  rw [bigSep_sep', bigSep_sep', ← BI.bigSep_univ_prod (fun ci : Dev nD × (Unit ⊕ CI) => iprop(∃ κ : ℕ, cellInv ER (Rd m) κ (kcell ci))),
    bigSep_congr (s := Finset.univ) (fun (c : Dev nD) _ => bigSep_sep' Finset.univ (fun i : Unit ⊕ CI => (atPos ER (kcell (c, i)) 0 ∅ 0 : sProp 𝕄)) (fun i => reached ER (kcell (c, i)) 0)),
    bigSep_sep', ← BI.bigSep_univ_prod (fun ci : Dev nD × (Unit ⊕ CI) => (reached ER (kcell ci) 0 : sProp 𝕄))]
  iintro ⟨HI, ⟨Hat, #HR⟩, Htok⟩
  ihave HK := (BI.bigSep_exists_pi Finset.univ (fun (ci : Dev nD × (Unit ⊕ CI)) (κ : ℕ) => (cellInv ER (Rd m) κ (kcell ci) : sProp 𝕄))) $$ HI
  icases HK with ⟨%K, #HI⟩
  ihave Htk := (toks_around (F := F)) $$ Htok
  have hg : iprop(recs m K ∗ bigSep Finset.univ fun c : Dev nD => iprop((bigSep Finset.univ fun i : Unit ⊕ CI => atPos ER (kcell (c, i)) 0 ∅ 0) ∗ payToks c)) ⊢ bigSep Finset.univ (G' m) :=
    Transfers.bigSep_mono_pers Finset.univ (recs m K) _ _ fun c _ => show iprop(recs m K ∗ iprop((bigSep Finset.univ fun i : Unit ⊕ CI => atPos ER (kcell (c, i)) 0 ∅ 0) ∗ payToks c)) ⊢ G' m c from by
      unfold G'
      iintro ⟨#HR, H⟩
      iexists K
      isplitr; · iexact HR
      iapply (ghost_intro (F := F) c); iexact H
  iapply hg
  isplitr
  · unfold recs; rw [bigSep_sep']
    isplitl; · iexact HI
    iexact HR
  · rw [bigSep_sep']
    isplitl [Hat]; · iexact Hat
    iexact Htk

/-- Every device's semaphores and launch state at once, made into what each device starts with. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credits -/

theorem tally_own {J : Type} [Fintype J] (d : Dev nD) (s : J → SemLoc sig) (a : J → ℕ) (g : GSem nD τ sig)
    (h : (∑ j, tallyAt ((d : Thread nD τ), s j) () (a j) : CellTallies nD τ sig Unit) g ≠ 0) : g.1 = (d.tc : Thread nD τ) := by
  obtain ⟨u, hu⟩ := Finsupp.ne_iff.mp h
  obtain ⟨j, -, e, -⟩ := SparseCore.ProtocolKit.sum_tallyAt_apply_pos (Nat.pos_of_ne_zero hu)
  rw [e]

theorem cred_X (h : Fin 2) (c : Dev nD) :
    (Pipeline.launchCred (fun d => owX h d 0) c : sProp 𝕄) = bigSep Finset.univ fun k => cred (tallyAt (rcvCell c h k) () N) := by
  rw [← Pipeline.cred_finsetSum]
  refine Pipeline.launchCred_of_sum _ (fun d => ∑ k : Fin 31, tallyAt (rcvCell d h k) () N) ?_ (fun d g hg => tally_own d (fun k => .dma (rcvS (ix h k))) (fun _ => N) g hg) c
  unfold owX
  simp only [SparseCore.ProtocolKit.sum_finFrom_zero]
  rw [Finset.sum_comm, Finset.sum_comm (f := fun d k => tallyAt (rcvCell d h k) () N)]
  exact Finset.sum_congr rfl fun k _ => Equiv.sum_comp (shift k) fun d => tallyAt (rcvCell d h k) () N

theorem cred_B (c : Dev nD) : (Pipeline.launchCred (fun d => owB d 0) c : sProp 𝕄) = cred (tallyAt (barCell c) () 31) := by
  have hs (d : Dev nD) : (∑ _k : Fin 31, tallyAt (barCell d) () 1 : CellTallies nD τ sig Unit) = tallyAt (barCell d) () 31 := by
    rw [SparseCore.ProtocolKit.sum_tallyAt_const]; rfl
  rw [← hs]
  refine Pipeline.launchCred_of_sum _ (fun d => ∑ k : Fin 31, tallyAt (barCell d) () 1) ?_ (fun d g hg => tally_own d (fun _ : Fin 31 => .reg barS) (fun _ => 1) g hg) c
  unfold owB
  simp only [SparseCore.ProtocolKit.sum_finFrom_zero]
  rw [Finset.sum_comm, Finset.sum_comm (f := fun d (_ : Fin 31) => tallyAt (barCell d) () 1)]
  exact Finset.sum_congr rfl fun k _ => Equiv.sum_comp (shift k) fun d => tallyAt (barCell d) () 1

theorem creds (c : Dev nD) : (Pipeline.launchCred O₀ c : sProp 𝕄) ⊢ promised c := by
  have h : (Pipeline.launchCred O₀ c : sProp 𝕄) = iprop((Pipeline.launchCred (fun d => owX 1 d 0) c ∗ Pipeline.launchCred (fun d => owX 0 d 0) c) ∗ Pipeline.launchCred (fun d => owB d 0) c) := by
    rw [← Pipeline.launchCred_add, ← Pipeline.launchCred_add]; rfl
  rw [h, cred_X, cred_X, cred_B]
  unfold promised
  iintro ⟨⟨H1, H0⟩, HB⟩
  isplitl [HB]; · iexact HB
  isplitl [H0]; · iexact H0
  iexact H1

end Cert.KernelIdeal.Pf

end
-- ==== Proof.Ki.Launch.lean ====
module

public import proofs.«01_k».proof.Proof.Ki.Tokens
public import proofs.«01_k».proof.Proof.Gen.KernelIdeal.Points
public import proofs.«01_k».proof.Proof.Gen.KernelIdeal.Launch

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The launch and the run

The kernel's one grid point on every device, the launch, and what every run ends with. -/

local notation "𝕄" => MT nD τ sig Unit (Elt F) ℕ UU ℕ

variable (m : (ℓ : Loc nD τ sig) → Buf (Elt F) ℓ) (ρ : Dev nD → PrngReg)

/-! ## The grid's one point -/

abbrev t₀ : Fin cfg0.N := t0_0
theorem fin_N (t : Fin cfg0.N) : t = t₀ := fin_N0 t

def start (c : Dev nD) : sProp 𝕄 := iprop(G' m c ∗ promised c ∗ levAts L lv ∗ memIn m c)
def Φ₀ (c : Dev nD) : sProp 𝕄 := iprop(start m c ∗ scr c)
def Φ₁ (c : Dev nD) : sProp 𝕄 := iprop(semVal (barCell c) 0 ∗ zeros c ∗ memIn m c ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xB m c
    | ⟨1, _⟩ => qB m c
    | ⟨2, _⟩ => wB m c
    | ⟨3, _⟩ => outB m
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ m c ∗ (dats m ρ 0 c).owesAt () t₀.succ ∗ stg c cc0_stg0_0 (xB m c) ∗ stg c cc0_stg1_0 (qB m c) ∗ stg c cc0_stg2_0 (wB m c) ∗ stg c cc0_stg3_0 (outB m))

theorem before_x (c : Dev nD) (d) : (dats m ρ 0 c).before (0 : Fin 4) t₀ d = xB m c := by
  unfold Dat.before; rw [if_pos (fetch0_0 t₀)]; rfl
theorem before_q (c : Dev nD) (d) : (dats m ρ 0 c).before (1 : Fin 4) t₀ d = qB m c := by
  unfold Dat.before; rw [if_pos (fetch0_1 t₀)]; rfl
theorem before_w (c : Dev nD) (d) : (dats m ρ 0 c).before (2 : Fin 4) t₀ d = wB m c := by
  unfold Dat.before; rw [if_pos (fetch0_2 t₀)]; rfl

theorem body_done (c : Dev nD) : bodyOut m c ⊢ bodyPost m ρ c := by
  unfold bodyOut bodyPost Φ₁ ows
  iintro ⟨HB, Hz, HM, Hs, ⟨%W, HO⟩, Hx, Hq, Hw, Ho⟩
  isplitl [HB Hz HM Hs]
  · isplitl [HB]; · iexact HB
    isplitl [Hz]; · iexact Hz
    isplitl [HM]; · iexact HM
    iexact Hs
  isplitl [HO]
  · unfold Dat.owesAt Pipeline.owesWithin
    rw [show (dats m ρ 0 c).owed t₀.succ = 0 from rfl]
    iexists W
    isplitr; · (ipureintro; exact fun _ _ => Or.inl trivial)
    iexact HO
  isplitl [Hx]
  · iexists _; isplitr; · (ipureintro; rfl)
    iexact Hx
  isplitl [Hq]
  · iexists _; isplitr; · (ipureintro; rfl)
    iexact Hq
  isplitl [Hw]
  · iexists _; isplitr; · (ipureintro; rfl)
    iexact Hw
  iexists _; isplitr; · (ipureintro; rfl)
  iexact Ho

theorem sound_body (c : Dev nD) : bodyPre m ρ c ⊢ wpc c bodyL fun _ => bodyPost m ρ c := by
  unfold bodyPre Φ₀ start G'
  simp only [before_x, before_q, before_w]
  iintro ⟨⟨⟨⟨%K, #HR, Hg⟩, Hp, #Hlev, HM⟩, Hs⟩, Ho, ⟨%d0, %g0, %hg0, Hx⟩, ⟨%d1, %g1, %hg1, Hq⟩, ⟨%d2, %g2, %hg2, Hw⟩, ⟨%d3, %g3, %hg3, Hout⟩⟩
  subst hg0; subst hg1; subst hg2
  unfold Dat.owesAt Pipeline.owesWithin
  icases Ho with ⟨%W, %hW, HO⟩
  rw [show (dats m ρ 0 c).owed t₀.castSucc = O₀ c from rfl]
  iapply (sound m K c fun _ => bodyPost m ρ c) $$ [Hg Hp HM Hs HO Hx Hq Hw Hout]
  · isplitr; · iexact HR
    isplitr; · iexact Hlev
    unfold bodyIn ows
    isplitl [Hg]; · iexact Hg
    isplitl [Hp]; · iexact Hp
    isplitl [HM]; · iexact HM
    isplitl [Hs]; · iexact Hs
    isplitl [HO]; · iexists W; iexact HO
    isplitl [Hx]; · iexact Hx
    isplitl [Hq]; · iexact Hq
    isplitl [Hw]; · iexact Hw
    iexists g3; iexact Hout
  iintro H
  iapply (body_done m ρ c); iexact H

set_option maxRecDepth 100000 in
/-- The body's obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre m ρ c ⊢ wpc c
    (cc0__body (F := F) xM (Memref.isWhole_whole _) qM (Memref.isWhole_whole _) wM (Memref.isWhole_whole _) kH (Memref.isWhole_whole _) vH (Memref.isWhole_whole _) oM (Memref.isWhole_whole _)
      kM (Memref.isWhole_whole _) vM (Memref.isWhole_whole _) cc0_scratch2 cM (Memref.isWhole_whole _) sM (Memref.isWhole_whole _) cc0_scratch5 cc0_scratch6) (fun _ => bodyPost m ρ c)
  rw [body_eq]
  exact sound_body m ρ c

/-! ## The launch's side conditions -/

theorem semNum_stage (w : Fin cfg0.W) (s : Fin (cfg0.spec w).nbuf) : semNum (.dma ((cfg0.spec w).sem s)) < 4 := by revert w s; decide +kernel

theorem ownSemFacts : Pipeline.OwnSemFacts cfg0.spec osem where
  isScoped i := by revert i; decide +kernel
  inj := osem_inj
  disj i w s h := by
    have h1 := congrArg semNum h
    rw [semNum_osem] at h1
    have h2 : semNum (.dma ((cfg0.spec w).sem s)) < 4 := semNum_stage w s
    have h3 : 4 ≤ num i := by rcases i with j | hk | hk <;> (simp only [num]; omega)
    omega

theorem share_eq (c : Dev nD) (w : Fin cfg0.W) : (dats m ρ 0 c).share w = fullShare := by unfold Dat.share; split <;> rfl

theorem lv_stage (c : Dev nD) (q : DmaSem sig) (hq : q.val < 4) : lv ((c : Thread nD τ), .dma q) () = 0 := by
  have hd : dec (.dma q) = none := by
    unfold dec Function.partialInv
    rw [dif_neg]
    rintro ⟨i, hi⟩
    rcases i with _ | i
    · cases hi
    · have h1 : num i = q.val := (semNum_osem i).symm.trans (congrArg semNum hi)
      have h3 : 4 ≤ num i := by rcases i with j | hk | hk <;> (simp only [num]; omega)
      omega
  unfold lv; rw [hd]; rfl

theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  refine mayWait_below c (.dma q) 0 (lv_stage c q hq).le O fun g u hg => ?_
  rcases hO with rfl | rfl
  · rcases add_pos_or hg with h | h
    · exact ⟨(owX_pos2 c g u h).1, by have := (owX_pos2 c g u h).2; omega⟩
    · exact ⟨(owB_above g u h).1, (owB_above g u h).2⟩
  · exact absurd hg (lt_irrefl 0)

theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert w s; decide +kernel) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨HM, Hlev, Hcr, -, HG⟩
  ihave Hc := (creds (F := F) c) $$ Hcr
  imodintro
  unfold start memIn
  isplitl
  · isplitl [HG]; · iexact HG
    isplitl [Hc]; · iexact Hc
    isplitl [Hlev]; · iexact Hlev
    iexact HM
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(iprop(memIn m c ∗ unscopedSems0 c) ∗ Pipeline.ownSems0 osem c ∗ Pipeline.scopedRest cfg0.spec c) := by
  have hz : (Pipeline.ownSems0 (Ix := Unit) (Name := ℕ) (U := UU) (Lvl := ℕ) (Val := Elt F) (τ := τ) osem c : sProp 𝕄) = zeros c := by
    unfold Pipeline.ownSems0; exact bigSep_CI _
  rw [show (dats m ρ 0 c).Φ (Fin.last cfg0.N) = Φ₁ m c from rfl, scopedRest0_eq, hz, unscopedSems0_eq]
  unfold Φ₁ scr
  iintro ⟨HB, Hz, HM, Hr⟩
  isplitl [HB HM]
  · isplitl [HM]; · iexact HM
    iexact HB
  isplitl [Hz]; · iexact Hz
  iexact Hr

/-! ## The run -/

def finalA (c : Dev nD) (w : Fin cfg0.W) : Buf (Elt F) ((cfg0.win w).arr.view.loc (c : Thread nD τ)) := (dats m ρ 0 c).arrAt w cfg0.N

/-- Every window's array as the library computes it, and the two caches as they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg2) = m ((c : Thread nD τ).loc main_arg2) ∧ r.2.mem ((c : Thread nD τ).loc main_arg3) = m ((c : Thread nD τ).loc main_arg3)

theorem read_end (c : Dev nD) (s' : Phys nD τ sig (Elt F)) :
    iprop(iprop(memIn m c ∗ unscopedSems0 c) ∗ emp ∗ SI s')
      ⊢ (|={Set.univ}=> iprop(⌜(∀ sm : SemLoc sig, sm.isScoped .tc = false → s'.mem.sem ((c.tc : Thread nD τ), sm) = 0)
        ∧ s'.mem.mem ((c : Thread nD τ).loc main_arg2) = m ((c : Thread nD τ).loc main_arg2) ∧ s'.mem.mem ((c : Thread nD τ).loc main_arg3) = m ((c : Thread nD τ).loc main_arg3)⌝ ∗ SI s') : sProp 𝕄) := by
  unfold memIn
  iintro ⟨⟨⟨HK, HV⟩, Hu⟩, -, HSI⟩
  icombine HSI HK gives %hK
  icombine HSI HV gives %hV
  imod (Pipeline.unscopedSems0_read (X := unscopedSems0 c) (c := c) fupd_intro s') $$ [Hu HSI] with ⟨%hu, HSI⟩
  · isplitl [Hu] <;> iassumption
  imodintro
  isplitr
  · ipureintro; exact ⟨hu, Buf.eq_of_forall_mem_univ hK, Buf.eq_of_forall_mem_univ hV⟩
  iexact HSI

set_option maxRecDepth 100000 in
/-- From any memory with zero counters, every fair run of the kernel on the 32 devices ends, with every window's array at the
    computed contents, the caches unchanged and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => iprop(memIn m c ∗ unscopedSems0 c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg2) = m ((c : Thread nD τ).loc main_arg2) ∧ s.mem ((c : Thread nD τ).loc main_arg3) = m ((c : Thread nD τ).loc main_arg3))
    (hY := fun c s' => read_end m c s')
    (hQ := fun _ h hs => ⟨fun c => ⟨fun w => (h c).1 w, (h c).2.2.2⟩, sem_eq_zero hs fun c => (h c).2.2.1⟩)

/-! ## What the arrays hold -/

theorem finalA_x (c : Dev nD) : finalA m ρ c (0 : Fin 4) = m ((c : Thread nD τ).loc main_arg0) := (dats (F := F) m ρ 0 c).arrAt_in (0 : Fin 4) rfl _
theorem finalA_q (c : Dev nD) : finalA m ρ c (1 : Fin 4) = m ((c : Thread nD τ).loc main_arg1) := (dats (F := F) m ρ 0 c).arrAt_in (1 : Fin 4) rfl _
theorem finalA_w (c : Dev nD) : finalA m ρ c (2 : Fin 4) = m ((c : Thread nD τ).loc main_arg4) := (dats (F := F) m ρ 0 c).arrAt_in (2 : Fin 4) rfl _

/-- The frame: every run ends with the arguments as they were and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 0).trans (finalA_x m ρ c), ((h.1 c).1 1).trans (finalA_q m ρ c), (h.1 c).2.1, (h.1 c).2.2,
    ((h.1 c).1 2).trans (finalA_w m ρ c)⟩, h.2⟩) (run_main m ρ)

end Cert.KernelIdeal.Pf

end
-- ==== Proof.Val.Soft.lean ====
module

public import Idealize.ShloMosaic.Lib.Pointwise

@[expose] public section

noncomputable section

namespace Cert.Val

open Idealize.ShloMosaic

/-! # Attention at one row, one head, over the extended reals

The scaled scores of one query row against the keys of one head, and the weighted mean of one column of the values. -/

/-- The scale of the scores, as both programs write it. -/
abbrev scale : EReal := Ideal.ofBits FTy.f32 0x3DB504F3#32
/-- The start of a running maximum, as both programs write it. -/
abbrev low : EReal := Ideal.ofBits FTy.f32 0xFF800000#32

/-- The scaled scores of a query row against the keys. -/
def score {n : ℕ} (q : Fin 128 → EReal) (k : Fin n → Fin 128 → EReal) (x : Fin n) : EReal := (∑ y, q y * k x y) * scale
/-- The greatest score. -/
def top {n : ℕ} (s : Fin n → EReal) : EReal := Finset.fold max low s Finset.univ
/-- The weights' sum at the maximum `M`, -/
def den {n : ℕ} (M : EReal) (s : Fin n → EReal) : EReal := ∑ x, Ideal.exp (s x - M)
/-- and the weighted sum of the values. -/
def num {n : ℕ} (M : EReal) (s v : Fin n → EReal) : EReal := ∑ x, Ideal.exp (s x - M) * v x
/-- The weighted mean of the values. -/
def soft {n : ℕ} (s v : Fin n → EReal) : EReal := Ideal.div (num (top s) s v) (den (top s) s)

theorem soft_eq {n : ℕ} (q : Fin 128 → EReal) (k : Fin n → Fin 128 → EReal) (v : Fin n → EReal) :
    soft (score q k) v = Ideal.div
      (∑ x, Ideal.exp ((∑ y, q y * k x y) * scale - Finset.fold max low (fun x => (∑ y, q y * k x y) * scale) Finset.univ) * v x)
      (∑ x, Ideal.exp ((∑ y, q y * k x y) * scale - Finset.fold max low (fun x => (∑ y, q y * k x y) * scale) Finset.univ)) := rfl

/-- A sum over `a * b` numbers, block by block. -/
theorem sum_blocks {n : ℕ} (a b : ℕ) (hn : n = a * b) (F : Fin n → EReal)
    (hl : ∀ (i : Fin a) (j : Fin b), b * i.val + j.val < n) :
    ∑ x, F x = ∑ i : Fin a, ∑ j : Fin b, F ⟨b * i.val + j.val, hl i j⟩ := by
  subst hn
  rw [← Equiv.sum_comp (finProdFinEquiv (m := a) (n := b)), Fintype.sum_prod_type]
  refine Finset.sum_congr rfl fun i _ => Finset.sum_congr rfl fun j _ => congrArg F (Fin.ext ?_)
  simp [finProdFinEquiv, add_comm]

end Cert.Val
end
-- ==== Proof.Val.Heads.lean ====
module

public import proofs.«01_k».proof.Proof.Val.Soft
public import proofs.«01_k».proof.Proof.Ki.Body

@[expose] public section

noncomputable section

namespace Cert.Val

open Cert.KernelIdeal Cert.KernelIdeal.Gen Cert.KernelIdeal.Pf Idealize.ShloMosaic

/-! # The kernel's local part, read at an index -/

/-- Eight blocks of 128 columns. -/
theorem at_lt (h : Fin 8) (x : Fin 128) : 128 * h.val + x.val < 1024 := by omega

/-- Head `h`'s attention at row `r`, column `d`, from the projected queries, its keys and its values. -/
def head (q : FVec Ideal S256x1024 .f32) (k v : Vec Ideal S4096x1x128 .f32) (h : Fin 8) (r : Fin 256) (d : Fin 128) : EReal :=
  soft (score (fun y => q (ix2 r ⟨128 * h.val + y.val, at_lt h y⟩)) fun x y => k (ix3 x 0 y)) fun x => v (ix3 x 0 d)

variable (x : Vec Ideal S1x256x1024 .f32) (w : Vec Ideal S1024x1024 .f32) (q : FVec Ideal S256x1024 .f32)
  (k v : Vec Ideal S4096x1x128 .f32) (r : Fin 256) (d : Fin 128)

set_option maxRecDepth 16384

theorem head0 (xx : FVec Ideal S256x1024 .f32) : k0_pay4 (F := Ideal) xx w k v (ix2 r d) = head (k0_pay3 xx w) k v 0 r d := by
  pointwise [k0_pay4]; rw [head, soft_eq]; simp
theorem head1 (xx : FVec Ideal S256x1024 .f32) : k0_pay7 (F := Ideal) (k0_pay5 xx w) (k0_pay6 k) v (ix2 r d) = head (k0_pay3 xx w) k v 1 r d := by
  pointwise [k0_pay7, k0_pay5, k0_pay6]; rw [head, soft_eq]; simp
theorem head2 : k0_pay8 (F := Ideal) q k v (ix2 r d) = head q k v 2 r d := by
  pointwise [k0_pay8]; rw [head, soft_eq]; simp
theorem head3 : k0_pay11 (F := Ideal) (k0_pay9 q) (k0_pay10 k) v (ix2 r d) = head q k v 3 r d := by
  pointwise [k0_pay11, k0_pay9, k0_pay10]; rw [head, soft_eq]; simp
theorem head4 : k0_pay12 (F := Ideal) q k v (ix2 r d) = head q k v 4 r d := by
  pointwise [k0_pay12]; rw [head, soft_eq]; simp
theorem head5 : k0_pay16 (F := Ideal) (k0_pay13 q) (k0_pay14 k) (k0_pay15 v) (constant S256x4096 .f32 0x00000000#32) (ix2 r d) = head q k v 5 r d := by
  pointwise [k0_pay16, k0_pay13, k0_pay14, k0_pay15]; rw [head, soft_eq]; simp
theorem head6 : k0_pay17 (F := Ideal) q k v (ix2 r d) = head q k v 6 r d := by
  pointwise [k0_pay17]; rw [head, soft_eq]; simp

/-- A choice among eight blocks of 128 columns, at a column of block `h`. -/
theorem ladder (f0 f1 f2 f3 f4 f5 f6 f7 : Fin 128 → EReal) (n : ℕ) (h : Fin 8) (d : Fin 128) (hn : n = 128 * h.val + d.val) (hl : n < 1024) :
    (if c0 : n < 128 then f0 ⟨n, c0⟩ else if c1 : n - 128 < 128 then f1 ⟨n - 128, c1⟩ else if c2 : n - 128 - 128 < 128 then f2 ⟨n - 128 - 128, c2⟩ else if c3 : n - 128 - 128 - 128 < 128 then f3 ⟨n - 128 - 128 - 128, c3⟩ else if c4 : n - 128 - 128 - 128 - 128 < 128 then f4 ⟨n - 128 - 128 - 128 - 128, c4⟩ else if c5 : n - 128 - 128 - 128 - 128 - 128 < 128 then f5 ⟨n - 128 - 128 - 128 - 128 - 128, c5⟩ else if c6 : n - 128 - 128 - 128 - 128 - 128 - 128 < 128 then f6 ⟨n - 128 - 128 - 128 - 128 - 128 - 128, c6⟩ else f7 ⟨n - 128 - 128 - 128 - 128 - 128 - 128 - 128, by omega⟩)
      = (![f0, f1, f2, f3, f4, f5, f6, f7] : Fin 8 → Fin 128 → EReal) h d := by
  have hd := d.isLt
  fin_cases h <;> simp only [Fin.reduceFinMk, Fin.isValue, Fin.val_zero, Nat.mul_zero, Nat.zero_add] at hn <;> (try norm_num at hn)
  · rw [dif_pos (by omega)]; exact congrArg f0 (Fin.ext (by simp; omega))
  · rw [dif_neg (by omega), dif_pos (by omega)]; exact congrArg f1 (Fin.ext (by simp; omega))
  · rw [dif_neg (by omega), dif_neg (by omega), dif_pos (by omega)]; exact congrArg f2 (Fin.ext (by simp; omega))
  · rw [dif_neg (by omega), dif_neg (by omega), dif_neg (by omega), dif_pos (by omega)]; exact congrArg f3 (Fin.ext (by simp; omega))
  · rw [dif_neg (by omega), dif_neg (by omega), dif_neg (by omega), dif_neg (by omega), dif_pos (by omega)]; exact congrArg f4 (Fin.ext (by simp; omega))
  · rw [dif_neg (by omega), dif_neg (by omega), dif_neg (by omega), dif_neg (by omega), dif_neg (by omega), dif_pos (by omega)]; exact congrArg f5 (Fin.ext (by simp; omega))
  · rw [dif_neg (by omega), dif_neg (by omega), dif_neg (by omega), dif_neg (by omega), dif_neg (by omega), dif_neg (by omega), dif_pos (by omega)]; exact congrArg f6 (Fin.ext (by simp; omega))
  · rw [dif_neg (by omega), dif_neg (by omega), dif_neg (by omega), dif_neg (by omega), dif_neg (by omega), dif_neg (by omega), dif_neg (by omega)]; exact congrArg f7 (Fin.ext (by simp; omega))

/-- The eight heads' attentions, in order. -/
def heads (h0 h1 h2 h3 h4 h5 h6 : FVec Ideal S256x128 .f32) (h7 : Fin 128 → EReal) (r : Fin 256) (h : Fin 8) (d : Fin 128) : EReal :=
  (![fun d => h0 (ix2 r d), fun d => h1 (ix2 r d), fun d => h2 (ix2 r d), fun d => h3 (ix2 r d), fun d => h4 (ix2 r d), fun d => h5 (ix2 r d),
    fun d => h6 (ix2 r d), h7] : Fin 8 → Fin 128 → EReal) h d

/-- The local part from its eight heads: the sum over the heads and their columns. -/
theorem pay20_at (h0 h1 h2 h3 h4 h5 h6 : FVec Ideal S256x128 .f32) (wo : Vec Ideal S1024x1024 .f32) (e : Fin 1024) :
    k0_pay20 (F := Ideal) h0 h1 h2 h3 h4 h5 h6 (k0_pay18 v) (k0_pay19 q k) (Scalar.ofBits .f32 0x3DB504F3#32) wo (ix3 0 r e)
      = ∑ h : Fin 8, ∑ d : Fin 128, heads h0 h1 h2 h3 h4 h5 h6 (head q k v 7 r) r h d * wo (ix2 ⟨128 * h.val + d.val, at_lt h d⟩ e) := by
  pointwise [k0_pay20, k0_pay18, k0_pay19]
  rw [sum_blocks 8 128 (by norm_num) _ at_lt]
  refine Finset.sum_congr rfl fun h _ => Finset.sum_congr rfl fun d _ => ?_
  congr 1
  refine Eq.trans ?_ (ladder (fun d => h0 (ix2 r d)) (fun d => h1 (ix2 r d)) (fun d => h2 (ix2 r d)) (fun d => h3 (ix2 r d)) (fun d => h4 (ix2 r d))
    (fun d => h5 (ix2 r d)) (fun d => h6 (ix2 r d)) (head q k v 7 r) _ h d rfl (at_lt h d))
  simp only [head, soft_eq]
  rfl

/-- The projected queries. -/
theorem pay3_at (c : Fin 1024) : k0_pay3 (F := Ideal) (k0_pay2 x) w (ix2 r c) = ∑ z, x (ix3 0 r z) * w (ix2 z c) := by
  pointwise [k0_pay3, k0_pay2]

/-- The local part at row `r`, column `e`: over the heads and their columns. -/
theorem partOf_at (K0 V0 K1 V1 : Vec Ideal S4096x1x128 .f32) (wo : Vec Ideal S1024x1024 .f32) (e : Fin 1024) :
    partOf (F := Ideal) x w K0 V0 K1 V1 wo (ix3 0 r e) = ∑ h : Fin 8, ∑ d : Fin 128,
      head (k0_pay3 (k0_pay2 x) w) (if h.val < 4 then K0 else K1) (if h.val < 4 then V0 else V1) h r d * wo (ix2 ⟨128 * h.val + d.val, at_lt h d⟩ e) := by
  rw [partOf, partOf8, pay20_at]
  refine Finset.sum_congr rfl fun h _ => Finset.sum_congr rfl fun d _ => ?_
  congr 1
  fin_cases h
  · exact head0 w K0 V0 r d (k0_pay2 x)
  · exact head1 w K0 V0 r d (k0_pay2 x)
  · exact head2 _ K0 V0 r d
  · exact head3 _ K0 V0 r d
  · exact head4 _ K1 V1 r d
  · exact head5 _ K1 V1 r d
  · exact head6 _ K1 V1 r d
  · rfl

/-! ## The exchange's casts and sum -/

theorem pay21_at (p : Vec Ideal S1x256x1024 .f32) (e : Fin 1024) : k0_pay21 (F := Ideal) p (ix2 r e) = p (ix3 0 r e) := by
  pointwise [k0_pay21]
theorem row_lt (a : Fin 32) (b : Fin 8) : 8 * a.val + b.val < 256 := by omega
theorem pay25_at (y : Vec Ideal S256x1024 .bf16) (b : Fin 8) (e : Fin 1024) :
    k0_pay25 (F := Ideal) y (ix2 b e) = ∑ a : Fin 32, y (ix2 ⟨8 * a.val + b.val, row_lt a b⟩ e) := by
  pointwise [k0_pay25, k0_pay23]
  simp only [mul_comm]
theorem pay1_at (y : Vec Ideal S256x1024 .bf16) (e : Fin 1024) : k0_pay1 (F := Ideal) y (ix3 0 r e) = y (ix2 r e) := by
  pointwise [k0_pay1]

end Cert.Val
end
-- ==== Proof.Val.Out.lean ====
module

public import proofs.«01_k».proof.Proof.Val.Heads
public import proofs.«01_k».proof.Proof.Ki.Launch

@[expose] public section

noncomputable section

namespace Cert.Val

open Cert.KernelIdeal Cert.KernelIdeal.Gen Cert.KernelIdeal.Pf Idealize.ShloMosaic Idealize.ShloMosaic.TcCoe

/-! # The kernel's result over its arguments, read at an index -/

section Blocks

variable {F : FTy → Type} [FloatOps F] (m : (ℓ : Loc nD τ sig) → Buf (Elt F) ℓ) (ρ : Dev nD → PrngReg) (c : Dev nD)

theorem xB_eq : xB m c = m ((c : Thread nD τ).loc main_arg0) :=
  Memref.read_access_unit_zero (Elt F) main_arg0 (funext fun a => Nat.zero_mul _) _ _
theorem qB_eq : qB m c = m ((c : Thread nD τ).loc main_arg1) :=
  Memref.read_access_unit_zero (Elt F) main_arg1 (funext fun a => Nat.zero_mul _) _ _
theorem wB_eq : wB m c = m ((c : Thread nD τ).loc main_arg4) :=
  Memref.read_access_unit_zero (Elt F) main_arg4 (funext fun a => Nat.zero_mul _) _ _

set_option maxRecDepth 16384 in
theorem blk3_read (X : Buf (Elt F) ((c : Thread nD τ).loc main_v1)) : (win0_3.blk (0 : Fin 1)).view.read (Elt F) X = X := by
  exact Memref.read_access_unit_zero (Elt F) main_v1 (funext fun a => Nat.zero_mul _) _ _

theorem blk3_set (i : S1x256x1024.Idx) : i ∈ (win0_3.blk (0 : Fin 1)).view.set := by
  show i ∈ ((View.whole main_v1).slice (win0_3.rect (0 : Fin 1))).set
  rw [View.set_slice_whole, Rect.mem_set_unit]
  intro a
  have h : (i a).val < 0 * S1x256x1024.size a + S1x256x1024.size a := by rw [Nat.zero_mul, Nat.zero_add]; exact (i a).isLt
  exact ⟨(Nat.zero_mul _).trans_le (Nat.zero_le _), h⟩

theorem finalA_out : finalA m ρ c (3 : Fin 4) = outB m :=
  (dats m ρ 0 c).arrAt_eq_of_cover (3 : Fin 4) (outB m)
    (fun t _ => by obtain rfl := fin_N t; exact (blk3_read c (outB m)).symm) (fun i => ⟨t₀, by decide +kernel, blk3_set i⟩)

/-- Device `c`'s key/value head `j`. -/
def kvh (c : Dev nD) (j : Fin 2) : Fin 64 := ⟨2 * c.val + j.val, by have := dev_lt c; omega⟩

theorem kHs_emb (x : Fin 4096) (j : Fin 2) (y : Fin 128) : (kHs c).view.emb (ix3 x j y) = (ix4 0 x (kvh c j) y : S1x4096x64x128.Idx) := by
  have e : Shape.reshapeEquiv squeezes_S1x4096x2x128_S4096x2x128.numel_eq (ix3 x j y : S4096x2x128.Idx) = (ix4 0 x j y : S1x4096x2x128.Idx) := by pointwise
  show (Rect.unit (s := S1x4096x64x128) (k0_off1 c) S1x4096x2x128.size (k0_off1_inb c)).emb (Shape.reshapeEquiv _ (ix3 x j y)) = _
  refine (congrArg _ e).trans (funext fun a => Fin.ext ?_)
  show k0_off1 c a + 1 * ((ix4 0 x j y : S1x4096x2x128.Idx) a : Nat) = _
  rw [k0_off1_eq, Nat.one_mul]
  fin_cases a
  · exact Nat.zero_add _
  · exact Nat.zero_add _
  · rfl
  · exact Nat.zero_add _

theorem kHead_at (x : Fin 4096) (j : Fin 2) (y : Fin 128) : kB m c (ix3 x j y) = m ((c : Thread nD τ).loc main_arg2) (ix4 0 x (kvh c j) y) :=
  congrArg (m ((c : Thread nD τ).loc main_arg2)) (kHs_emb c x j y)
theorem vHead_at (x : Fin 4096) (j : Fin 2) (y : Fin 128) : vB m c (ix3 x j y) = m ((c : Thread nD τ).loc main_arg3) (ix4 0 x (kvh c j) y) :=
  congrArg (m ((c : Thread nD τ).loc main_arg3)) (kHs_emb c x j y)

theorem rHead0_idx (x : Fin 4096) (y : Fin 128) : rHead0.toLoadRect.idx (ix3 x 0 y) = (ix3 x 0 y : S4096x2x128.Idx) := by
  funext a
  apply Fin.ext
  fin_cases a <;> simp [LoadRect.idx, Rect.unit]
theorem rHead1_idx (x : Fin 4096) (y : Fin 128) : rHead1.toLoadRect.idx (ix3 x 0 y) = (ix3 x 1 y : S4096x2x128.Idx) := by
  funext a
  apply Fin.ext
  fin_cases a <;> simp [LoadRect.idx, Rect.unit]

theorem k0_at (x : Fin 4096) (y : Fin 128) : kM.view.readAt (Elt F) rHead0.toLoadRect (kB m c) (ix3 x 0 y) = m ((c : Thread nD τ).loc main_arg2) (ix4 0 x (kvh c 0) y) :=
  (congrArg (kB m c) (rHead0_idx x y)).trans (kHead_at m c x 0 y)
theorem k1_at (x : Fin 4096) (y : Fin 128) : kM.view.readAt (Elt F) rHead1.toLoadRect (kB m c) (ix3 x 0 y) = m ((c : Thread nD τ).loc main_arg2) (ix4 0 x (kvh c 1) y) :=
  (congrArg (kB m c) (rHead1_idx x y)).trans (kHead_at m c x 1 y)
theorem v0_at (x : Fin 4096) (y : Fin 128) : vM.view.readAt (Elt F) rHead0.toLoadRect (vB m c) (ix3 x 0 y) = m ((c : Thread nD τ).loc main_arg3) (ix4 0 x (kvh c 0) y) :=
  (congrArg (vB m c) (rHead0_idx x y)).trans (vHead_at m c x 0 y)
theorem v1_at (x : Fin 4096) (y : Fin 128) : vM.view.readAt (Elt F) rHead1.toLoadRect (vB m c) (ix3 x 0 y) = m ((c : Thread nD τ).loc main_arg3) (ix4 0 x (kvh c 1) y) :=
  (congrArg (vB m c) (rHead1_idx x y)).trans (vHead_at m c x 1 y)

end Blocks

section Sum

variable (m : (ℓ : Loc nD τ sig) → Buf (Elt Ideal) ℓ) (c : Dev nD) (r : Fin 256) (e : Fin 1024)

/-- The key/value head, of device `c`'s two, that its head `h` uses. -/
def half (h : Fin 8) : Fin 2 := ⟨h.val / 4, by omega⟩

/-- The arguments on device `c`, as arrays. -/
abbrev aX : FVec Ideal S1x256x1024 .f32 := m ((c : Thread nD τ).loc main_arg0)
abbrev aQ : FVec Ideal S1024x1024 .f32 := m ((c : Thread nD τ).loc main_arg1)
abbrev aK : FVec Ideal S1x4096x64x128 .f32 := m ((c : Thread nD τ).loc main_arg2)
abbrev aV : FVec Ideal S1x4096x64x128 .f32 := m ((c : Thread nD τ).loc main_arg3)
abbrev aO : FVec Ideal S1024x1024 .f32 := m ((c : Thread nD τ).loc main_arg4)

/-- Device `c`'s head `h` at row `r`, column `d`. -/
def dhead (h : Fin 8) (d : Fin 128) : EReal :=
  soft (score (fun y => ∑ z, aX m c (ix3 0 r z) * aQ m c (ix2 z ⟨128 * h.val + y.val, at_lt h y⟩)) fun x y => aK m c (ix4 0 x (kvh c (half h)) y))
    fun x => aV m c (ix4 0 x (kvh c (half h)) d)

theorem partB_at : partB m c (ix3 0 r e) = ∑ h : Fin 8, ∑ d : Fin 128, dhead m c r h d * aO m c (ix2 ⟨128 * h.val + d.val, at_lt h d⟩ e) := by
  rw [partB, xB_eq, qB_eq, wB_eq]
  refine (partOf_at (aX m c) (aQ m c) r _ _ _ _ (aO m c) e).trans ?_
  refine Finset.sum_congr rfl fun h _ => Finset.sum_congr rfl fun d _ => ?_
  congr 1
  rw [head, dhead]
  by_cases hh : h.val < 4
  · have e0 : half h = 0 := Fin.ext (Nat.div_eq_of_lt hh)
    simp only [if_pos hh, e0, pay3_at]
    congr 1
    · congr 1
      funext x y
      exact k0_at m c x y
    · funext x
      exact v0_at m c x d
  · have e1 : half h = 1 := Fin.ext (by show h.val / 4 = 1; omega)
    simp only [if_neg hh, e1, pay3_at]
    congr 1
    · congr 1
      funext x y
      exact k1_at m c x y
    · funext x
      exact v1_at m c x d

/-- The kernel's result at row `r`, column `e`: over the devices, their heads and their columns. -/
theorem outB_at : outB m (ix3 0 r e) = ∑ c : Fin 32, ∑ h : Fin 8, ∑ d : Fin 128, dhead m c r h d * aO m c (ix2 ⟨128 * h.val + d.val, at_lt h d⟩ e) := by
  rw [outB, pay1_at, agIn, redB]
  show k0_pay25 (F := Ideal) _ (ix2 (mod8 r.val) e) = _
  rw [pay25_at]
  refine Finset.sum_congr rfl fun c _ => ?_
  rw [← partB_at]
  show stgB m (blkDev (8 * c.val + r.val % 8)) (ix2 (rowOf (blkDev r.val) (8 * c.val + r.val % 8)) e) = _
  have e1 : blkDev (8 * c.val + r.val % 8) = c := Fin.ext (by show (8 * c.val + r.val % 8) / 8 % 32 = c.val; omega)
  have e2 : rowOf (blkDev r.val) (8 * c.val + r.val % 8) = r := Fin.ext (by show 8 * (r.val / 8 % 32) + (8 * c.val + r.val % 8) % 8 = r.val; omega)
  rw [e1, e2, stgB, pay21_at]

end Sum

end Cert.Val
end
-- ==== Proof.Val.Online.lean ====
module

public import proofs.«01_k».proof.Proof.Val.Soft

@[expose] public section

noncomputable section

namespace Cert.Val

open Idealize.ShloMosaic

/-! # The running form of the weighted mean

Taking the scores chunk by chunk, with a running maximum, and rescaling what was summed so far when the maximum grows, gives the sums over
all scores at the greatest score. This holds on all extended reals: the factor by which a sum is rescaled is always a real number
between zero and one. -/

theorem low_eq : low = ⊥ := by
  simp [low, Ideal.ofBits, Ideal.ieee]

/-- The rescaling factor: a nonnegative real. -/
theorem exp_sub_nonneg (a b : EReal) : 0 ≤ Ideal.exp (a - b) := by
  induction a - b using EReal.rec with
  | bot => simp
  | top => simp
  | coe r => rw [Ideal.exp_coe]; exact_mod_cast (Real.exp_pos r).le

theorem exp_sub_ne_top {a b : EReal} (h : a ≤ b) : Ideal.exp (a - b) ≠ ⊤ := by
  induction a using EReal.rec with
  | bot => simp
  | top => obtain rfl : b = ⊤ := top_le_iff.mp h; simp
  | coe r =>
    induction b using EReal.rec with
    | bot => simp at h
    | top => simp
    | coe t => rw [← EReal.coe_sub, Ideal.exp_coe]; exact EReal.coe_ne_top _

/-- Weights compose. -/
theorem exp_sub_mul {s a b : EReal} (hs : s ≤ a) (h : a ≤ b) : Ideal.exp (s - a) * Ideal.exp (a - b) = Ideal.exp (s - b) := by
  induction a using EReal.rec with
  | bot => obtain rfl : s = ⊥ := le_bot_iff.mp hs; simp
  | top => obtain rfl : b = ⊤ := top_le_iff.mp h; simp
  | coe a =>
    induction s using EReal.rec with
    | bot => simp
    | top => simp at hs
    | coe s =>
      induction b using EReal.rec with
      | bot => simp at h
      | top => simp
      | coe b =>
        rw [← EReal.coe_sub, ← EReal.coe_sub, ← EReal.coe_sub, Ideal.exp_coe, Ideal.exp_coe, Ideal.exp_coe, ← EReal.coe_mul, ← Real.exp_add]
        congr 2; ring

/-- The factor distributes over a sum of two. -/
theorem add_mul_exp {a b : EReal} (h : a ≤ b) (x y : EReal) :
    (x + y) * Ideal.exp (a - b) = x * Ideal.exp (a - b) + y * Ideal.exp (a - b) :=
  EReal.right_distrib_of_nonneg_of_ne_top (exp_sub_nonneg a b) (exp_sub_ne_top h) x y

theorem sum_mul_exp {ι : Type*} [DecidableEq ι] (A : Finset ι) (f : ι → EReal) {a b : EReal} (h : a ≤ b) :
    (∑ i ∈ A, f i) * Ideal.exp (a - b) = ∑ i ∈ A, f i * Ideal.exp (a - b) := by
  induction A using Finset.induction_on with
  | empty => simp
  | insert i A hi ih => rw [Finset.sum_insert hi, Finset.sum_insert hi, add_mul_exp h, ih]

/-- A chunk's weighted sum, moved from one maximum to a greater one. -/
theorem num_mul {n : ℕ} (s v : Fin n → EReal) {a b : EReal} (hs : ∀ x, s x ≤ a) (h : a ≤ b) :
    num a s v * Ideal.exp (a - b) = num b s v := by
  unfold num
  rw [sum_mul_exp _ _ h]
  refine Finset.sum_congr rfl fun x _ => ?_
  rw [mul_right_comm, exp_sub_mul (hs x) h]

theorem den_eq_num {n : ℕ} (M : EReal) (s : Fin n → EReal) : den M s = num M s fun _ => 1 := by simp [den, num]

theorem le_top' {n : ℕ} (s : Fin n → EReal) (x : Fin n) : s x ≤ top s :=
  (Finset.le_fold_max (s x)).mpr (Or.inr ⟨x, Finset.mem_univ x, le_rfl⟩)

/-- The four chunks of the scores. -/
def chunk (s : Fin 4096 → EReal) (t : Fin 4) (x : Fin 1024) : EReal := s ⟨1024 * t.val + x.val, by omega⟩

theorem num_chunks (M : EReal) (s v : Fin 4096 → EReal) :
    num M s v = num M (chunk s 0) (chunk v 0) + num M (chunk s 1) (chunk v 1) + num M (chunk s 2) (chunk v 2) + num M (chunk s 3) (chunk v 3) := by
  unfold num
  rw [sum_blocks 4 1024 (by norm_num) _ (fun i j => by omega), Fin.sum_univ_four]
  rfl

/-- The running maximum after each chunk. -/
def mx1 (s : Fin 4096 → EReal) : EReal := max low (top (chunk s 0))
def mx2 (s : Fin 4096 → EReal) : EReal := max (mx1 s) (top (chunk s 1))
def mx3 (s : Fin 4096 → EReal) : EReal := max (mx2 s) (top (chunk s 2))
def mx4 (s : Fin 4096 → EReal) : EReal := max (mx3 s) (top (chunk s 3))

theorem mx_four (s : Fin 4096 → EReal) : mx4 s = top s := by
  have hc : ∀ t, top (chunk s t) ≤ top s := fun t =>
    (Finset.fold_max_le _).mpr ⟨(Finset.le_fold_max _).mpr (Or.inl le_rfl), fun x _ => le_top' s _⟩
  have hl : low ≤ top s := by rw [low_eq]; exact bot_le
  apply le_antisymm
  · simp only [mx4, mx3, mx2, mx1]
    exact max_le (max_le (max_le (max_le hl (hc 0)) (hc 1)) (hc 2)) (hc 3)
  · refine (Finset.fold_max_le _).mpr ⟨by rw [low_eq]; exact bot_le, fun x _ => ?_⟩
    have hx : s x = chunk s ⟨x.val / 1024, by omega⟩ ⟨x.val % 1024, by omega⟩ :=
      congrArg s (Fin.ext (by simp only []; omega))
    rw [hx]
    refine (le_top' _ _).trans ?_
    generalize (⟨x.val / 1024, by omega⟩ : Fin 4) = t
    simp only [mx4, mx3, mx2, mx1]
    fin_cases t <;> simp [le_max_iff]

/-- The running weighted sum after four chunks. -/
theorem running (s v : Fin 4096 → EReal) :
    ((((0 * Ideal.exp (low - mx1 s) + num (mx1 s) (chunk s 0) (chunk v 0)) * Ideal.exp (mx1 s - mx2 s)
        + num (mx2 s) (chunk s 1) (chunk v 1)) * Ideal.exp (mx2 s - mx3 s)
        + num (mx3 s) (chunk s 2) (chunk v 2)) * Ideal.exp (mx3 s - mx4 s)
        + num (mx4 s) (chunk s 3) (chunk v 3)) = num (top s) s v := by
  have h12 : mx1 s ≤ mx2 s := le_max_left _ _
  have h23 : mx2 s ≤ mx3 s := le_max_left _ _
  have h34 : mx3 s ≤ mx4 s := le_max_left _ _
  have c0 : ∀ x, chunk s 0 x ≤ mx1 s := fun x => (le_top' _ x).trans (le_max_right _ _)
  have c1 : ∀ x, chunk s 1 x ≤ mx2 s := fun x => (le_top' _ x).trans (le_max_right _ _)
  have c2 : ∀ x, chunk s 2 x ≤ mx3 s := fun x => (le_top' _ x).trans (le_max_right _ _)
  rw [zero_mul, zero_add, num_mul _ _ c0 h12, add_mul_exp h23, num_mul _ _ (fun x => (c0 x).trans h12) h23, num_mul _ _ c1 h23,
    add_mul_exp h34, add_mul_exp h34, num_mul _ _ (fun x => ((c0 x).trans h12).trans h23) h34, num_mul _ _ (fun x => (c1 x).trans h23) h34,
    num_mul _ _ c2 h34, mx_four, num_chunks (top s) s v]

/-- The weights' running sum after four chunks. -/
theorem running_den (s : Fin 4096 → EReal) :
    ((((0 * Ideal.exp (low - mx1 s) + den (mx1 s) (chunk s 0)) * Ideal.exp (mx1 s - mx2 s)
        + den (mx2 s) (chunk s 1)) * Ideal.exp (mx2 s - mx3 s)
        + den (mx3 s) (chunk s 2)) * Ideal.exp (mx3 s - mx4 s)
        + den (mx4 s) (chunk s 3)) = den (top s) s := by
  have h := running s fun _ => 1
  simp only [den_eq_num]
  exact h

end Cert.Val
end
-- ==== Proof.Val.Ref.lean ====
module

public import proofs.«01_k».proof.Proof.Val.Online
public import proofs.«01_k».proof.Proof.Gen.ReferenceIdeal.Run

@[expose] public section

noncomputable section

namespace Cert.Val.R

open Cert.ReferenceIdeal Cert.ReferenceIdeal.Gen Cert.ReferenceIdeal.Value Idealize.ShloMosaic Idealize.ShloMosaic.TcCoe

/-! # The reference's result, step by step -/

variable {F : FTy → Type} [FloatOps F]

/-- The projected queries, by heads. -/
def qs (x : FVec F S1x256x1024 .f32) (w : FVec F S1024x32768 .f32) : FVec F S1x256x256x128 .f32 :=
  shapeCast _ (Host.dotGeneral dot_S1x256x1024_S1024x32768_S1x256x32768_2_0_01_1_n_n none x w) shapeCasts_S1x256x32768_S1x256x256x128
/-- The keys (or the values), each head four times. -/
def rep (k : FVec F S1x4096x64x128 .f32) : FVec F S1x4096x256x128 .f32 :=
  shapeCast _ (broadcastInDim S1x4096x64x4x128 ![0, 1, 2, 4] bcast_S1x4096x64x128_S1x4096x64x4x128_0_1_2_4 k) shapeCasts_S1x4096x64x4x128_S1x4096x256x128
/-- The four chunks of them. -/
def cut0 (k : FVec F S1x4096x256x128 .f32) : FVec F S1x1024x256x128 .f32 := extractStridedSlice S1x1024x256x128 ![0, 0, 0, 0] k slices_S1x4096x256x128_S1x1024x256x128_0_0_0_0
def cut1 (k : FVec F S1x4096x256x128 .f32) : FVec F S1x1024x256x128 .f32 := extractStridedSlice S1x1024x256x128 ![0, 1024, 0, 0] k slices_S1x4096x256x128_S1x1024x256x128_0_1024_0_0
def cut2 (k : FVec F S1x4096x256x128 .f32) : FVec F S1x1024x256x128 .f32 := extractStridedSlice S1x1024x256x128 ![0, 2048, 0, 0] k slices_S1x4096x256x128_S1x1024x256x128_0_2048_0_0
def cut3 (k : FVec F S1x4096x256x128 .f32) : FVec F S1x1024x256x128 .f32 := extractStridedSlice S1x1024x256x128 ![0, 3072, 0, 0] k slices_S1x4096x256x128_S1x1024x256x128_0_3072_0_0
/-- A chunk's scaled scores, -/
def sc (q : FVec F S1x256x256x128 .f32) (k : FVec F S1x1024x256x128 .f32) : FVec F S1x256x256x1024 .f32 :=
  mulf (Host.dotGeneral dot_S1x256x256x128_S1x1024x256x128_S1x256x256x1024_3_3_1_1_02_02 none q k) (broadcastInDim S1x256x256x1024 ![] bcast_S_S1x256x256x1024 (constant S_ .f32 0x3DB504F3#32))
/-- the running maximum with it, -/
def mNew (m : FVec F S1x256x256x1 .f32) (s : FVec F S1x256x256x1024 .f32) : FVec F S1x256x256x1 .f32 :=
  maximumf m (broadcastInDim S1x256x256x1 ![0, 1, 2] bcast_S1x256x256_S1x256x256x1_0_1_2 (Host.reduce FloatOps.maximumf s (constant S_ .f32 0xFF800000#32) reducesTo_S1x256x256x1024_S1x256x256_d3 h_S_))
/-- the factor, -/
def al (m m' : FVec F S1x256x256x1 .f32) : FVec F S1x256x256x1 .f32 := Host.exp (subf m m')
/-- the weights, -/
def ps (s : FVec F S1x256x256x1024 .f32) (m' : FVec F S1x256x256x1 .f32) : FVec F S1x256x256x1024 .f32 :=
  Host.exp (subf s (broadcastInDim S1x256x256x1024 ![0, 1, 2, 3] bcast_S1x256x256x1_S1x256x256x1024_0_1_2_3 m'))
/-- their running sum, -/
def lNew (l a : FVec F S1x256x256x1 .f32) (p : FVec F S1x256x256x1024 .f32) : FVec F S1x256x256x1 .f32 :=
  addf (mulf l a) (broadcastInDim S1x256x256x1 ![0, 1, 2] bcast_S1x256x256_S1x256x256x1_0_1_2 (Host.reduceAdd p (constant S_ .f32 0x00000000#32) reducesTo_S1x256x256x1024_S1x256x256_d3 h_S_))
/-- and the values' running weighted sum. -/
def oNew (o : FVec F S1x256x256x128 .f32) (a : FVec F S1x256x256x1 .f32) (v : FVec F S1x1024x256x128 .f32) (p : FVec F S1x256x256x1024 .f32) : FVec F S1x256x256x128 .f32 :=
  addf (mulf o (broadcastInDim S1x256x256x128 ![0, 1, 2, 3] bcast_S1x256x256x1_S1x256x256x128_0_1_2_3 (transpose S1x256x256x1 [0, 2, 1, 3] a transposes_S1x256x256x1_S1x256x256x1_0_2_1_3)))
    (transpose S1x256x256x128 [0, 3, 1, 2] (Host.dotGeneral dot_S1x1024x256x128_S1x256x256x1024_S1x256x128x256_1_3_3_2_02_01 none v p) transposes_S1x256x128x256_S1x256x256x128_0_3_1_2)
/-- The weighted means through the output projection. -/
def fin (o : FVec F S1x256x256x128 .f32) (l : FVec F S1x256x256x1 .f32) (wo : FVec F S32768x1024 .f32) : FVec F S1x256x1024 .f32 :=
  Host.dotGeneral dot_S1x256x32768_S32768x1024_S1x256x1024_2_0_01_1_n_n none (shapeCast _ (Host.divf o
    (broadcastInDim S1x256x256x128 ![0, 1, 2, 3] bcast_S1x256x256x1_S1x256x256x128_0_1_2_3 (transpose S1x256x256x1 [0, 2, 1, 3] l transposes_S1x256x256x1_S1x256x256x1_0_2_1_3)))
    shapeCasts_S1x256x256x128_S1x256x32768) wo

def m0 : FVec F S1x256x256x1 .f32 := broadcastInDim S1x256x256x1 ![] bcast_S_S1x256x256x1 (constant S_ .f32 0xFF800000#32)
def l0 : FVec F S1x256x256x1 .f32 := broadcastInDim S1x256x256x1 ![] bcast_S_S1x256x256x1 (constant S_ .f32 0x00000000#32)
def o0 : FVec F S1x256x256x128 .f32 := broadcastInDim S1x256x256x128 ![] bcast_S_S1x256x256x128 (constant S_ .f32 0x00000000#32)

variable (q : FVec F S1x256x256x128 .f32) (k v : FVec F S1x4096x256x128 .f32)
def s1 := sc q (cut0 k)
def s2 := sc q (cut1 k)
def s3 := sc q (cut2 k)
def s4 := sc q (cut3 k)
def m1 := mNew m0 (s1 q k)
def m2 := mNew (m1 q k) (s2 q k)
def m3 := mNew (m2 q k) (s3 q k)
def m4 := mNew (m3 q k) (s4 q k)
def l1 := lNew l0 (al m0 (m1 q k)) (ps (s1 q k) (m1 q k))
def l2 := lNew (l1 q k) (al (m1 q k) (m2 q k)) (ps (s2 q k) (m2 q k))
def l3 := lNew (l2 q k) (al (m2 q k) (m3 q k)) (ps (s3 q k) (m3 q k))
def l4 := lNew (l3 q k) (al (m3 q k) (m4 q k)) (ps (s4 q k) (m4 q k))
def o1 := oNew o0 (al m0 (m1 q k)) (cut0 v) (ps (s1 q k) (m1 q k))
def o2 := oNew (o1 q k v) (al (m1 q k) (m2 q k)) (cut1 v) (ps (s2 q k) (m2 q k))
def o3 := oNew (o2 q k v) (al (m2 q k) (m3 q k)) (cut2 v) (ps (s3 q k) (m3 q k))
def o4 := oNew (o3 q k v) (al (m3 q k) (m4 q k)) (cut3 v) (ps (s4 q k) (m4 q k))

/-- The whole, from the five arguments. -/
def whole (x : FVec F S1x256x1024 .f32) (w : FVec F S1024x32768 .f32) (K V : FVec F S1x4096x64x128 .f32) (wo : FVec F S32768x1024 .f32) : FVec F S1x256x1024 .f32 :=
  fin (o4 (qs x w) (rep K) (rep V)) (l4 (qs x w) (rep K)) wo

set_option maxRecDepth 16384 in
theorem res_eq (m : (ℓ : Loc nD τ sig) → Buf (Elt F) ℓ) (c : Dev nD) :
    res_main_v105 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold res_main_v105
  rfl

/-! ## At an index -/

section AtIndex

variable (q : FVec Ideal S1x256x256x128 .f32) (k v : FVec Ideal S1x4096x256x128 .f32) (r g : Fin 256) (d : Fin 128) (x : Fin 1024)

/-- The scores of row `r` in head `g`, all chunks together, and column `d` of the values. -/
def sv : Fin 4096 → EReal := score (fun y => q (ix4 0 r g y)) fun x y => k (ix4 0 x g y)
def vv : Fin 4096 → EReal := fun x => v (ix4 0 x g d)

set_option maxRecDepth 16384

theorem s1_at : s1 q k (ix4 0 g r x) = chunk (sv q k r g) 0 x := by
  pointwise [s1, sc, cut0]; rw [chunk, sv, score]; simp
theorem s2_at : s2 q k (ix4 0 g r x) = chunk (sv q k r g) 1 x := by
  pointwise [s2, sc, cut1]; rw [chunk, sv, score]; simp
theorem s3_at : s3 q k (ix4 0 g r x) = chunk (sv q k r g) 2 x := by
  pointwise [s3, sc, cut2]; rw [chunk, sv, score]; simp
theorem s4_at : s4 q k (ix4 0 g r x) = chunk (sv q k r g) 3 x := by
  pointwise [s4, sc, cut3]; rw [chunk, sv, score]; simp

/-- The greatest entry along the last of four axes. -/
theorem max_at {n0 n1 n2 n3 : ℕ} {u : Shape} (X : FVec Ideal ⟨4, ![n0, n1, n2, n3]⟩ .f32) (i : FVec Ideal u .f32)
    (h : (⟨4, ![n0, n1, n2, n3]⟩ : Shape).ReducesTo [3] ⟨3, ![n0, n1, n2]⟩) (hu : 0 < u.numel) (a : Fin n0) (b : Fin n1) (c : Fin n2) :
    Host.reduce FloatOps.maximumf X i h hu (ix3 a b c) = Finset.univ.fold max (i (Shape.Idx.first hu)) fun k : Fin n3 => X (ix4 a b c k) := by
  rw [Host.reduce_eq_fold, Shape.ReducesTo.fold_fiber_r4_a3]
  rfl
theorem mNew_red (m : FVec Ideal S1x256x256x1 .f32) (y : FVec Ideal S1x256x256 .f32) :
    maximumf m (broadcastInDim S1x256x256x1 ![0, 1, 2] bcast_S1x256x256_S1x256x256x1_0_1_2 y) (ix4 0 g r 0) = max (m (ix4 0 g r 0)) (y (ix3 0 g r)) := by
  pointwise
theorem mNew_max (s : FVec Ideal S1x256x256x1024 .f32) :
    Host.reduce FloatOps.maximumf s (constant S_ .f32 0xFF800000#32) reducesTo_S1x256x256x1024_S1x256x256_d3 h_S_ (ix3 0 g r) = top fun x => s (ix4 0 g r x) :=
  max_at s (constant S_ .f32 0xFF800000#32) reducesTo_S1x256x256x1024_S1x256x256_d3 h_S_ 0 g r
theorem mNew_at (m : FVec Ideal S1x256x256x1 .f32) (s : FVec Ideal S1x256x256x1024 .f32) :
    mNew m s (ix4 0 g r 0) = max (m (ix4 0 g r 0)) (top fun x => s (ix4 0 g r x)) := by
  rw [mNew, mNew_red, mNew_max]
theorem al_at (m m' : FVec Ideal S1x256x256x1 .f32) : al m m' (ix4 0 g r 0) = Ideal.exp (m (ix4 0 g r 0) - m' (ix4 0 g r 0)) := by
  pointwise [al]
theorem ps_at (s : FVec Ideal S1x256x256x1024 .f32) (m' : FVec Ideal S1x256x256x1 .f32) :
    ps s m' (ix4 0 g r x) = Ideal.exp (s (ix4 0 g r x) - m' (ix4 0 g r 0)) := by
  pointwise [ps]
theorem lNew_at (l a : FVec Ideal S1x256x256x1 .f32) (p : FVec Ideal S1x256x256x1024 .f32) :
    lNew l a p (ix4 0 g r 0) = l (ix4 0 g r 0) * a (ix4 0 g r 0) + ∑ x, p (ix4 0 g r x) := by
  pointwise [lNew]
theorem oNew_at (o : FVec Ideal S1x256x256x128 .f32) (a : FVec Ideal S1x256x256x1 .f32) (v : FVec Ideal S1x1024x256x128 .f32) (p : FVec Ideal S1x256x256x1024 .f32) :
    oNew o a v p (ix4 0 r g d) = o (ix4 0 r g d) * a (ix4 0 g r 0) + ∑ x, p (ix4 0 g r x) * v (ix4 0 x g d) := by
  pointwise [oNew]
  simp only [mul_comm]
theorem m0_at : (m0 : FVec Ideal S1x256x256x1 .f32) (ix4 0 g r 0) = low := by pointwise [m0]
theorem l0_at : (l0 : FVec Ideal S1x256x256x1 .f32) (ix4 0 g r 0) = 0 := by pointwise [l0]
theorem o0_at : (o0 : FVec Ideal S1x256x256x128 .f32) (ix4 0 r g d) = 0 := by pointwise [o0]
theorem c0_at : cut0 v (ix4 0 x g d) = chunk (vv v g d) 0 x := by pointwise [cut0]; rw [chunk, vv]; simp
theorem c1_at : cut1 v (ix4 0 x g d) = chunk (vv v g d) 1 x := by pointwise [cut1]; rw [chunk, vv]; simp
theorem c2_at : cut2 v (ix4 0 x g d) = chunk (vv v g d) 2 x := by pointwise [cut2]; rw [chunk, vv]; simp
theorem c3_at : cut3 v (ix4 0 x g d) = chunk (vv v g d) 3 x := by pointwise [cut3]; rw [chunk, vv]; simp

theorem m1_at : m1 q k (ix4 0 g r 0) = mx1 (sv q k r g) := by simp only [m1, mNew_at, m0_at, s1_at]; rfl
theorem m2_at : m2 q k (ix4 0 g r 0) = mx2 (sv q k r g) := by simp only [m2, mNew_at, m1_at, s2_at]; rfl
theorem m3_at : m3 q k (ix4 0 g r 0) = mx3 (sv q k r g) := by simp only [m3, mNew_at, m2_at, s3_at]; rfl
theorem m4_at : m4 q k (ix4 0 g r 0) = mx4 (sv q k r g) := by simp only [m4, mNew_at, m3_at, s4_at]; rfl

theorem l4_at : l4 q k (ix4 0 g r 0) = den (top (sv q k r g)) (sv q k r g) := by
  rw [← running_den]
  simp only [l4, l3, l2, l1, lNew_at, al_at, ps_at, l0_at, m0_at, m1_at, m2_at, m3_at, m4_at, s1_at, s2_at, s3_at, s4_at, den]
theorem o4_at : o4 q k v (ix4 0 r g d) = num (top (sv q k r g)) (sv q k r g) (vv v g d) := by
  rw [← running]
  simp only [o4, o3, o2, o1, oNew_at, al_at, ps_at, o0_at, m0_at, m1_at, m2_at, m3_at, m4_at, s1_at, s2_at, s3_at, s4_at, c0_at, c1_at, c2_at, c3_at, num]

theorem gd_lt (g : Fin 256) (d : Fin 128) : 128 * g.val + d.val < 32768 := by omega
theorem g4_lt (g : Fin 256) : g.val / 4 < 64 := by omega

theorem fin_at (o : FVec Ideal S1x256x256x128 .f32) (l : FVec Ideal S1x256x256x1 .f32) (wo : FVec Ideal S32768x1024 .f32) (e : Fin 1024) :
    fin o l wo (ix3 0 r e) = ∑ g : Fin 256, ∑ d : Fin 128, Ideal.div (o (ix4 0 r g d)) (l (ix4 0 g r 0)) * wo (ix2 ⟨128 * g.val + d.val, gd_lt g d⟩ e) := by
  pointwise [fin]
  rw [sum_blocks 256 128 (by norm_num) _ gd_lt]
  refine Finset.sum_congr rfl fun g _ => Finset.sum_congr rfl fun d _ => ?_
  have h1 : (128 * g.val + d.val) / 128 = g.val := by omega
  have h2 : (128 * g.val + d.val) % 128 = d.val := by omega
  simp only [h1, h2, Fin.eta]

theorem qs_at (X : FVec Ideal S1x256x1024 .f32) (w : FVec Ideal S1024x32768 .f32) :
    qs X w (ix4 0 r g d) = ∑ z, X (ix3 0 r z) * w (ix2 z ⟨128 * g.val + d.val, gd_lt g d⟩) := by
  pointwise [qs]
  simp only [mul_comm]
theorem rep_at (K : FVec Ideal S1x4096x64x128 .f32) (x : Fin 4096) : rep K (ix4 0 x g d) = K (ix4 0 x ⟨g.val / 4, g4_lt g⟩ d) := by
  pointwise [rep]

/-- The reference's result at row `r`, column `e`: over the heads and their columns. -/
theorem whole_at (X : FVec Ideal S1x256x1024 .f32) (w : FVec Ideal S1024x32768 .f32) (K V : FVec Ideal S1x4096x64x128 .f32) (wo : FVec Ideal S32768x1024 .f32) (e : Fin 1024) :
    whole X w K V wo (ix3 0 r e) = ∑ g : Fin 256, ∑ d : Fin 128,
      soft (score (fun y => ∑ z, X (ix3 0 r z) * w (ix2 z ⟨128 * g.val + y.val, gd_lt g y⟩)) fun x y => K (ix4 0 x ⟨g.val / 4, g4_lt g⟩ y))
        (fun x => V (ix4 0 x ⟨g.val / 4, g4_lt g⟩ d)) * wo (ix2 ⟨128 * g.val + d.val, gd_lt g d⟩ e) := by
  rw [whole, fin_at]
  refine Finset.sum_congr rfl fun g _ => Finset.sum_congr rfl fun d _ => ?_
  rw [l4_at, o4_at, soft]
  have hv : vv (rep V) g d = fun x => V (ix4 0 x ⟨g.val / 4, g4_lt g⟩ d) := funext fun x => rep_at g d V x
  rw [hv]
  simp only [sv, qs_at, rep_at]

end AtIndex

end Cert.Val.R
end
-- ==== Proof.Val.Glue.lean ====
module

public import proofs.«01_k».proof.Proof.Val.Out
public import proofs.«01_k».proof.Proof.Val.Ref
public import Idealize.ShloMosaic.Lib.Layout

@[expose] public section

noncomputable section

namespace Cert.Val

open Cert.KernelIdeal Cert.KernelIdeal.Gen Cert.KernelIdeal.Pf Idealize.ShloMosaic Idealize.ShloMosaic.TcCoe

/-! # The kernel's result is the reference's

Device `c` holds columns `1024 c …` of the query projection and rows `1024 c …` of the output projection, and uses heads
`8 c … 8 c + 7`. -/

section

variable (m : (ℓ : Loc nD τ sig) → Buf (Elt Ideal) ℓ)
  (X : FVec Ideal S1x256x1024 .f32) (w : FVec Ideal ⟨2, ![1024, 32768]⟩ .f32) (K V : FVec Ideal S1x4096x64x128 .f32) (wo : FVec Ideal ⟨2, ![32768, 1024]⟩ .f32)

theorem col_lt (c : Fin 32) (x : Fin 1024) : 1024 * c.val + x.val < 32768 := by omega

theorem block_cols (c : Fin 32) (z x : Fin 1024) :
    Layout.block ⟨2, ![1024, 1024]⟩ ⟨2, ![1024, 32768]⟩ 1 32 c w (by decide) (ix2 z x) = w (ix2 z ⟨1024 * c.val + x.val, col_lt c x⟩) := by
  rw [Layout.block_apply]
  congr 1
  funext a
  apply Fin.ext
  fin_cases a
  · rfl
  · show c.val * 1024 + x.val = 1024 * c.val + x.val
    omega

theorem block_rows (c : Fin 32) (x e : Fin 1024) :
    Layout.block ⟨2, ![1024, 1024]⟩ ⟨2, ![32768, 1024]⟩ 0 32 c wo (by decide) (ix2 x e) = wo (ix2 ⟨1024 * c.val + x.val, col_lt c x⟩ e) := by
  rw [Layout.block_apply]
  congr 1
  funext a
  apply Fin.ext
  fin_cases a
  · show c.val * 1024 + x.val = 1024 * c.val + x.val
    omega
  · rfl

/-- Head `h` of device `c`, among all the heads. -/
theorem gh_lt (c : Fin 32) (h : Fin 8) : 8 * c.val + h.val < 256 := by omega

theorem out_eq
    (hX : ∀ c, aX m c = X)
    (hw : ∀ c : Dev nD, aQ m c = Layout.block ⟨2, ![1024, 1024]⟩ ⟨2, ![1024, 32768]⟩ 1 32 c w (by decide))
    (hK : ∀ c, aK m c = K) (hV : ∀ c, aV m c = V)
    (hwo : ∀ c : Dev nD, aO m c = Layout.block ⟨2, ![1024, 1024]⟩ ⟨2, ![32768, 1024]⟩ 0 32 c wo (by decide)) :
    outB m = R.whole X w K V wo := by
  funext i
  obtain ⟨i0, r, e, rfl⟩ : ∃ (i0 : Fin 1) (r : Fin 256) (e : Fin 1024), i = ix3 i0 r e := ⟨i 0, i 1, i 2, by funext a; fin_cases a <;> rfl⟩
  obtain rfl : i0 = 0 := Subsingleton.elim _ _
  refine (outB_at m r e).trans (Eq.trans (b := (_ : EReal)) ?_ (R.whole_at r X w K V wo e).symm)
  refine Eq.trans (α := EReal) ?_ (sum_blocks 32 8 (by norm_num) _ gh_lt).symm
  refine Finset.sum_congr (M := EReal) rfl fun c _ => Finset.sum_congr (M := EReal) rfl fun h _ => Finset.sum_congr (M := EReal) rfl fun d _ => ?_
  have hd : ∀ y : Fin 128, (⟨1024 * c.val + (⟨128 * h.val + y.val, at_lt h y⟩ : Fin 1024).val, col_lt c _⟩ : Fin 32768)
      = ⟨128 * (⟨8 * c.val + h.val, gh_lt c h⟩ : Fin 256).val + y.val, R.gd_lt _ y⟩ :=
    fun y => Fin.ext (by show 1024 * c.val + (128 * h.val + y.val) = 128 * (8 * c.val + h.val) + y.val; omega)
  have hg : kvh c (half h) = ⟨(⟨8 * c.val + h.val, gh_lt c h⟩ : Fin 256).val / 4, R.g4_lt _⟩ :=
    Fin.ext (by show 2 * c.val + h.val / 4 = (8 * c.val + h.val) / 4; omega)
  rw [dhead, hX, hw, hK, hV, hwo, block_rows]
  simp only [block_cols, hd, hg]

end

end Cert.Val
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ki.Launch
public import proofs.«01_k».proof.Proof.Kb.Launch
public import proofs.«01_k».proof.Proof.Val.Glue
public import Idealize.ShloMosaic.Adequacy
public import Idealize.ShloMosaic.Init

@[expose] public section

noncomputable section

namespace Cert.Proof

open Idealize.ShloMosaic Idealize.SL.Sem Cert.Kernel

/-- The kernel as it is: every run ends, its arguments as they were and every semaphore at zero. -/
theorem frame_p : Cert.quiescent_Kernel := fun m ρ _ => Cert.Kernel.Pf.frame_run m ρ

/-- The same of the kernel at the ideal numbers. -/
theorem frame_pi : Cert.quiescent_KernelIdeal := fun m ρ _ => Cert.KernelIdeal.Pf.frame_run m ρ

/-- The reference runs, its arguments unchanged; it has no semaphores. -/
theorem frame_ri : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- At the ideal numbers every device of the kernel ends with the reference's result. -/
theorem algebraic : Cert.algebraic_KernelIdeal_ReferenceIdeal := by
  intro m g m' g' _ h
  have e : Cert.KernelIdeal.Pf.outB m = Cert.ReferenceIdeal.Value.res_main_v105 m' 0 :=
    (Cert.Val.out_eq m _ _ _ _ _ (fun c => (h c).1) (fun c => (h c).2.1) (fun c => (h c).2.2.1) (fun c => (h c).2.2.2.1) (fun c => (h c).2.2.2.2)).trans
      (Cert.Val.R.res_eq m' 0).symm
  refine ⟨Cert.ReferenceIdeal.Value.res_main_v105 m' 0, ?_, ?_⟩
  · refine (θ_run Cert.KernelIdeal.defs _ _).mono (fun r k c => ⟨?_, ?_, ?_, (k.1 c).2.1, (k.1 c).2.2, ?_⟩) (Cert.KernelIdeal.Pf.run_main m g)
    · exact ((k.1 c).1 3).trans ((Cert.Val.finalA_out m g c).trans e)
    · exact ((k.1 c).1 0).trans (Cert.KernelIdeal.Pf.finalA_x m g c)
    · exact ((k.1 c).1 1).trans (Cert.KernelIdeal.Pf.finalA_q m g c)
    · exact ((k.1 c).1 2).trans (Cert.KernelIdeal.Pf.finalA_w m g c)
  · exact (θ_run Cert.ReferenceIdeal.defs _ _).mono (fun r k => k 0) (Cert.ReferenceIdeal.Value.run (F := Ideal) m' g')

theorem claim : Cert.Claim := ⟨Cert.Kernel.Gen.facts, Cert.KernelIdeal.Gen.facts, Cert.ReferenceIdeal.Gen.facts, frame_p, frame_pi, frame_ri, trivial, algebraic⟩

end Cert.Proof

end
